-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def preserves_Kernel_KernelIdeal : Prop :=
  IdealRules.named_const.Statement Cert.KernelIdeal.κ "dead" .f32 0x42D00000#32 ⊤

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v53_0)) (v1 : (c : Dev Cert.Kernel2Ideal.nD) → Buf (Elt Ideal) ((c.tc : Thread Cert.Kernel2Ideal.nD Cert.Kernel2Ideal.τ).loc Cert.Kernel2Ideal.main_v53_1)) (v2 : (c : Dev Cert.Kernel2Ideal.nD) → Buf (Elt Ideal) ((c.tc : Thread Cert.Kernel2Ideal.nD Cert.Kernel2Ideal.τ).loc Cert.Kernel2Ideal.main_v53_2)) (v3 : (c : Dev Cert.Kernel2Ideal.nD) → Buf (Elt Ideal) ((c.tc : Thread Cert.Kernel2Ideal.nD Cert.Kernel2Ideal.τ).loc Cert.Kernel2Ideal.main_v53_3)) (v4 : (c : Dev Cert.Kernel2Ideal.nD) → Buf (Elt Ideal) ((c.tc : Thread Cert.Kernel2Ideal.nD Cert.Kernel2Ideal.τ).loc Cert.Kernel2Ideal.main_v53_4)) (v5 : (c : Dev Cert.Kernel2Ideal.nD) → Buf (Elt Ideal) ((c.tc : Thread Cert.Kernel2Ideal.nD Cert.Kernel2Ideal.τ).loc Cert.Kernel2Ideal.main_v53_5)) (v6 : (c : Dev Cert.Kernel2Ideal.nD) → Buf (Elt Ideal) ((c.tc : Thread Cert.Kernel2Ideal.nD Cert.Kernel2Ideal.τ).loc Cert.Kernel2Ideal.main_v53_6)) (v7 : (c : Dev Cert.Kernel2Ideal.nD) → Buf (Elt Ideal) ((c.tc : Thread Cert.Kernel2Ideal.nD Cert.Kernel2Ideal.τ).loc Cert.Kernel2Ideal.main_v53_7)) (v8 : (c : Dev Cert.Kernel2Ideal.nD) → Buf (Elt Ideal) ((c.tc : Thread Cert.Kernel2Ideal.nD Cert.Kernel2Ideal.τ).loc Cert.Kernel2Ideal.main_v53_8)) (v9 : (c : Dev Cert.Kernel2Ideal.nD) → Buf (Elt Ideal) ((c.tc : Thread Cert.Kernel2Ideal.nD Cert.Kernel2Ideal.τ).loc Cert.Kernel2Ideal.main_v53_9)) (v10 : (c : Dev Cert.Kernel2Ideal.nD) → Buf (Elt Ideal) ((c.tc : Thread Cert.Kernel2Ideal.nD Cert.Kernel2Ideal.τ).loc Cert.Kernel2Ideal.main_v53_10)) (v11 : (c : Dev Cert.Kernel2Ideal.nD) → Buf (Elt Ideal) ((c.tc : Thread Cert.Kernel2Ideal.nD Cert.Kernel2Ideal.τ).loc Cert.Kernel2Ideal.main_v53_11)) (v12 : (c : Dev Cert.Kernel2Ideal.nD) → Buf (Elt Ideal) ((c.tc : Thread Cert.Kernel2Ideal.nD Cert.Kernel2Ideal.τ).loc Cert.Kernel2Ideal.main_v53_12)) (v13 : (c : Dev Cert.Kernel2Ideal.nD) → Buf (Elt Ideal) ((c.tc : Thread Cert.Kernel2Ideal.nD Cert.Kernel2Ideal.τ).loc Cert.Kernel2Ideal.main_v53_13)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v53_0) = v0 c
          ∧ r.2.mem ((c.tc : Thread Cert.Kernel2Ideal.nD Cert.Kernel2Ideal.τ).loc Cert.Kernel2Ideal.main_v53_1) = v1 c
          ∧ r.2.mem ((c.tc : Thread Cert.Kernel2Ideal.nD Cert.Kernel2Ideal.τ).loc Cert.Kernel2Ideal.main_v53_2) = v2 c
          ∧ r.2.mem ((c.tc : Thread Cert.Kernel2Ideal.nD Cert.Kernel2Ideal.τ).loc Cert.Kernel2Ideal.main_v53_3) = v3 c
          ∧ r.2.mem ((c.tc : Thread Cert.Kernel2Ideal.nD Cert.Kernel2Ideal.τ).loc Cert.Kernel2Ideal.main_v53_4) = v4 c
          ∧ r.2.mem ((c.tc : Thread Cert.Kernel2Ideal.nD Cert.Kernel2Ideal.τ).loc Cert.Kernel2Ideal.main_v53_5) = v5 c
          ∧ r.2.mem ((c.tc : Thread Cert.Kernel2Ideal.nD Cert.Kernel2Ideal.τ).loc Cert.Kernel2Ideal.main_v53_6) = v6 c
          ∧ r.2.mem ((c.tc : Thread Cert.Kernel2Ideal.nD Cert.Kernel2Ideal.τ).loc Cert.Kernel2Ideal.main_v53_7) = v7 c
          ∧ r.2.mem ((c.tc : Thread Cert.Kernel2Ideal.nD Cert.Kernel2Ideal.τ).loc Cert.Kernel2Ideal.main_v53_8) = v8 c
          ∧ r.2.mem ((c.tc : Thread Cert.Kernel2Ideal.nD Cert.Kernel2Ideal.τ).loc Cert.Kernel2Ideal.main_v53_9) = v9 c
          ∧ r.2.mem ((c.tc : Thread Cert.Kernel2Ideal.nD Cert.Kernel2Ideal.τ).loc Cert.Kernel2Ideal.main_v53_10) = v10 c
          ∧ r.2.mem ((c.tc : Thread Cert.Kernel2Ideal.nD Cert.Kernel2Ideal.τ).loc Cert.Kernel2Ideal.main_v53_11) = v11 c
          ∧ r.2.mem ((c.tc : Thread Cert.Kernel2Ideal.nD Cert.Kernel2Ideal.τ).loc Cert.Kernel2Ideal.main_v53_12) = v12 c
          ∧ r.2.mem ((c.tc : Thread Cert.Kernel2Ideal.nD Cert.Kernel2Ideal.τ).loc Cert.Kernel2Ideal.main_v53_13) = v13 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v123) = v0 c
          ∧ r.2.mem ((c.tc : Thread Cert.Reference2Ideal.nD Cert.Reference2Ideal.τ).loc Cert.Reference2Ideal.main_v126) = v1 c
          ∧ r.2.mem ((c.tc : Thread Cert.Reference2Ideal.nD Cert.Reference2Ideal.τ).loc Cert.Reference2Ideal.main_v128) = v2 c
          ∧ r.2.mem ((c.tc : Thread Cert.Reference2Ideal.nD Cert.Reference2Ideal.τ).loc Cert.Reference2Ideal.main_v132) = v3 c
          ∧ r.2.mem ((c.tc : Thread Cert.Reference2Ideal.nD Cert.Reference2Ideal.τ).loc Cert.Reference2Ideal.main_v135) = v4 c
          ∧ r.2.mem ((c.tc : Thread Cert.Reference2Ideal.nD Cert.Reference2Ideal.τ).loc Cert.Reference2Ideal.main_v137) = v5 c
          ∧ r.2.mem ((c.tc : Thread Cert.Reference2Ideal.nD Cert.Reference2Ideal.τ).loc Cert.Reference2Ideal.main_v141) = v6 c
          ∧ r.2.mem ((c.tc : Thread Cert.Reference2Ideal.nD Cert.Reference2Ideal.τ).loc Cert.Reference2Ideal.main_v144) = v7 c
          ∧ r.2.mem ((c.tc : Thread Cert.Reference2Ideal.nD Cert.Reference2Ideal.τ).loc Cert.Reference2Ideal.main_v147) = v8 c
          ∧ r.2.mem ((c.tc : Thread Cert.Reference2Ideal.nD Cert.Reference2Ideal.τ).loc Cert.Reference2Ideal.main_v150) = v9 c
          ∧ r.2.mem ((c.tc : Thread Cert.Reference2Ideal.nD Cert.Reference2Ideal.τ).loc Cert.Reference2Ideal.main_v153) = v10 c
          ∧ r.2.mem ((c.tc : Thread Cert.Reference2Ideal.nD Cert.Reference2Ideal.τ).loc Cert.Reference2Ideal.main_v156) = v11 c
          ∧ r.2.mem ((c.tc : Thread Cert.Reference2Ideal.nD Cert.Reference2Ideal.τ).loc Cert.Reference2Ideal.main_v167) = v12 c
          ∧ r.2.mem ((c.tc : Thread Cert.Reference2Ideal.nD Cert.Reference2Ideal.τ).loc Cert.Reference2Ideal.main_v168) = v13 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v14)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v14) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v14) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v53_0)) (v1 : (c : Dev Cert.Kernel4Ideal.nD) → Buf (Elt Ideal) ((c.tc : Thread Cert.Kernel4Ideal.nD Cert.Kernel4Ideal.τ).loc Cert.Kernel4Ideal.main_v53_1)) (v2 : (c : Dev Cert.Kernel4Ideal.nD) → Buf (Elt Ideal) ((c.tc : Thread Cert.Kernel4Ideal.nD Cert.Kernel4Ideal.τ).loc Cert.Kernel4Ideal.main_v53_2)) (v3 : (c : Dev Cert.Kernel4Ideal.nD) → Buf (Elt Ideal) ((c.tc : Thread Cert.Kernel4Ideal.nD Cert.Kernel4Ideal.τ).loc Cert.Kernel4Ideal.main_v53_3)) (v4 : (c : Dev Cert.Kernel4Ideal.nD) → Buf (Elt Ideal) ((c.tc : Thread Cert.Kernel4Ideal.nD Cert.Kernel4Ideal.τ).loc Cert.Kernel4Ideal.main_v53_4)) (v5 : (c : Dev Cert.Kernel4Ideal.nD) → Buf (Elt Ideal) ((c.tc : Thread Cert.Kernel4Ideal.nD Cert.Kernel4Ideal.τ).loc Cert.Kernel4Ideal.main_v53_5)) (v6 : (c : Dev Cert.Kernel4Ideal.nD) → Buf (Elt Ideal) ((c.tc : Thread Cert.Kernel4Ideal.nD Cert.Kernel4Ideal.τ).loc Cert.Kernel4Ideal.main_v53_6)) (v7 : (c : Dev Cert.Kernel4Ideal.nD) → Buf (Elt Ideal) ((c.tc : Thread Cert.Kernel4Ideal.nD Cert.Kernel4Ideal.τ).loc Cert.Kernel4Ideal.main_v53_7)) (v8 : (c : Dev Cert.Kernel4Ideal.nD) → Buf (Elt Ideal) ((c.tc : Thread Cert.Kernel4Ideal.nD Cert.Kernel4Ideal.τ).loc Cert.Kernel4Ideal.main_v53_8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v53_0) = v0 c
          ∧ r.2.mem ((c.tc : Thread Cert.Kernel4Ideal.nD Cert.Kernel4Ideal.τ).loc Cert.Kernel4Ideal.main_v53_1) = v1 c
          ∧ r.2.mem ((c.tc : Thread Cert.Kernel4Ideal.nD Cert.Kernel4Ideal.τ).loc Cert.Kernel4Ideal.main_v53_2) = v2 c
          ∧ r.2.mem ((c.tc : Thread Cert.Kernel4Ideal.nD Cert.Kernel4Ideal.τ).loc Cert.Kernel4Ideal.main_v53_3) = v3 c
          ∧ r.2.mem ((c.tc : Thread Cert.Kernel4Ideal.nD Cert.Kernel4Ideal.τ).loc Cert.Kernel4Ideal.main_v53_4) = v4 c
          ∧ r.2.mem ((c.tc : Thread Cert.Kernel4Ideal.nD Cert.Kernel4Ideal.τ).loc Cert.Kernel4Ideal.main_v53_5) = v5 c
          ∧ r.2.mem ((c.tc : Thread Cert.Kernel4Ideal.nD Cert.Kernel4Ideal.τ).loc Cert.Kernel4Ideal.main_v53_6) = v6 c
          ∧ r.2.mem ((c.tc : Thread Cert.Kernel4Ideal.nD Cert.Kernel4Ideal.τ).loc Cert.Kernel4Ideal.main_v53_7) = v7 c
          ∧ r.2.mem ((c.tc : Thread Cert.Kernel4Ideal.nD Cert.Kernel4Ideal.τ).loc Cert.Kernel4Ideal.main_v53_8) = v8 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v118) = v0 c
          ∧ r.2.mem ((c.tc : Thread Cert.Reference4Ideal.nD Cert.Reference4Ideal.τ).loc Cert.Reference4Ideal.main_v119) = v1 c
          ∧ r.2.mem ((c.tc : Thread Cert.Reference4Ideal.nD Cert.Reference4Ideal.τ).loc Cert.Reference4Ideal.main_v120) = v2 c
          ∧ r.2.mem ((c.tc : Thread Cert.Reference4Ideal.nD Cert.Reference4Ideal.τ).loc Cert.Reference4Ideal.main_v123) = v3 c
          ∧ r.2.mem ((c.tc : Thread Cert.Reference4Ideal.nD Cert.Reference4Ideal.τ).loc Cert.Reference4Ideal.main_v124) = v4 c
          ∧ r.2.mem ((c.tc : Thread Cert.Reference4Ideal.nD Cert.Reference4Ideal.τ).loc Cert.Reference4Ideal.main_v125) = v5 c
          ∧ r.2.mem ((c.tc : Thread Cert.Reference4Ideal.nD Cert.Reference4Ideal.τ).loc Cert.Reference4Ideal.main_v128) = v6 c
          ∧ r.2.mem ((c.tc : Thread Cert.Reference4Ideal.nD Cert.Reference4Ideal.τ).loc Cert.Reference4Ideal.main_v131) = v7 c
          ∧ r.2.mem ((c.tc : Thread Cert.Reference4Ideal.nD Cert.Reference4Ideal.τ).loc Cert.Reference4Ideal.main_v142) = v8 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v12)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v12) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v14) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite_scores.lean ====
abbrev S4x4096x8x64 : Shape := ⟨4, ![4, 4096, 8, 64]⟩
abbrev S_ : Shape := ⟨0, ![]⟩

class Facts : Prop where
  bcast_S_S4x4096x8x64 : S_.BroadcastsInDim S4x4096x8x64 (![] : Fin 0 → Fin S4x4096x8x64.rank)

variable [Facts]

def fn {F : FTy → Type} [FloatOps F] (main_arg0 : FVec F S4x4096x8x64 .f32) (main_arg1 : FVec F S4x4096x8x64 .f32) (main_arg2 : FVec F S4x4096x8x64 .f32) : IVec S4x4096x8x64 1 :=
  let main_v0 : FVec F S4x4096x8x64 .f32 := Host.absf main_arg0
  let main_cst : FVec F S_ .f32 := constant S_ .f32 0x7F800000#32
  let main_v1 : FVec F S4x4096x8x64 .f32 := broadcastInDim S4x4096x8x64 ![] bcast_S_S4x4096x8x64 main_cst
  let main_v2 : IVec S4x4096x8x64 1 := cmpf .olt main_v0 main_v1
  let main_v3 : FVec F S4x4096x8x64 .f32 := Host.absf main_arg1
  let main_cst_0 : FVec F S_ .f32 := constant S_ .f32 0x7F800000#32
  let main_v4 : FVec F S4x4096x8x64 .f32 := broadcastInDim S4x4096x8x64 ![] bcast_S_S4x4096x8x64 main_cst_0
  let main_v5 : IVec S4x4096x8x64 1 := cmpf .olt main_v3 main_v4
  let main_v6 : IVec S4x4096x8x64 1 := andi main_v2 main_v5
  main_v6
-- ==== Kernel.lean ====
abbrev S4x4096x8x64 : Shape := ⟨4, ![4, 4096, 8, 64]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S512x256 : Shape := ⟨2, ![512, 256]⟩
abbrev S4x4096x512 : Shape := ⟨3, ![4, 4096, 512]⟩
abbrev S4x16x256x512 : Shape := ⟨4, ![4, 16, 256, 512]⟩
abbrev S4x16x512x256 : Shape := ⟨4, ![4, 16, 512, 256]⟩
abbrev S1x256x256 : Shape := ⟨3, ![1, 256, 256]⟩
abbrev S1x16x256x256 : Shape := ⟨4, ![1, 16, 256, 256]⟩
abbrev S1x4096x256 : Shape := ⟨3, ![1, 4096, 256]⟩
abbrev S4x256x128 : Shape := ⟨3, ![4, 256, 128]⟩
abbrev S1x256x128 : Shape := ⟨3, ![1, 256, 128]⟩
abbrev S256x128 : Shape := ⟨2, ![256, 128]⟩
abbrev S1x128 : Shape := ⟨2, ![1, 128]⟩
abbrev S1x1x128x256 : Shape := ⟨4, ![1, 1, 128, 256]⟩
abbrev S128x256 : Shape := ⟨2, ![128, 256]⟩
abbrev S256x512 : Shape := ⟨2, ![256, 512]⟩
abbrev S1x512x128 : Shape := ⟨3, ![1, 512, 128]⟩
abbrev S512x128 : Shape := ⟨2, ![512, 128]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 27
  | .vmem => 10
  | .smem => 0
  | _ => 0

abbrev bufTy : (tb : Table) → Fin (tcTables nBuf tb) → BufTy
  | .hbm, ⟨0, _⟩ => ⟨S4x4096x8x64, .f32⟩
  | .hbm, ⟨1, _⟩ => ⟨S4x4096x8x64, .f32⟩
  | .hbm, ⟨2, _⟩ => ⟨S4x4096x8x64, .f32⟩
  | .hbm, ⟨3, _⟩ => ⟨S256, .i32⟩
  | .hbm, ⟨4, _⟩ => ⟨S256x1, .i32⟩
  | .hbm, ⟨5, _⟩ => ⟨S1x256, .i32⟩
  | .hbm, ⟨6, _⟩ => ⟨S256x256, .i32⟩
  | .hbm, ⟨7, _⟩ => ⟨S256x256, .i32⟩
  | .hbm, ⟨8, _⟩ => ⟨S256x256, .i1⟩
  | .hbm, ⟨9, _⟩ => ⟨S_, .f32⟩
  | .hbm, ⟨10, _⟩ => ⟨S256x256, .f32⟩
  | .hbm, ⟨11, _⟩ => ⟨S_, .f32⟩
  | .hbm, ⟨12, _⟩ => ⟨S256x256, .f32⟩
  | .hbm, ⟨13, _⟩ => ⟨S256x256, .f32⟩
  | .hbm, ⟨14, _⟩ => ⟨S256x256, .bf16⟩
  | .hbm, ⟨15, _⟩ => ⟨S512x256, .bf16⟩
  | .hbm, ⟨16, _⟩ => ⟨S_, .f32⟩
  | .hbm, ⟨17, _⟩ => ⟨S4x4096x8x64, .f32⟩
  | .hbm, ⟨18, _⟩ => ⟨S4x4096x8x64, .f32⟩
  | .hbm, ⟨19, _⟩ => ⟨S4x4096x8x64, .bf16⟩
  | .hbm, ⟨20, _⟩ => ⟨S4x4096x512, .bf16⟩
  | .hbm, ⟨21, _⟩ => ⟨S4x16x256x512, .f32⟩
  | .hbm, ⟨22, _⟩ => ⟨S4x16x512x256, .f32⟩
  | .hbm, ⟨23, _⟩ => ⟨S4x16x512x256, .bf16⟩
  | .hbm, ⟨24, _⟩ => ⟨S4x4096x512, .f32⟩
  | .hbm, ⟨25, _⟩ => ⟨S4x4096x512, .bf16⟩
  | .hbm, ⟨26, _⟩ => ⟨S4x4096x512, .bf16⟩
  | .local _ .vmem, ⟨0, _⟩ => ⟨S1x256x256, .bf16⟩
  | .local _ .vmem, ⟨1, _⟩ => ⟨S1x256x256, .bf16⟩
  | .local _ .vmem, ⟨2, _⟩ => ⟨S1x16x256x256, .bf16⟩
  | .local _ .vmem, ⟨3, _⟩ => ⟨S1x16x256x256, .bf16⟩
  | .local _ .vmem, ⟨4, _⟩ => ⟨S1x4096x256, .bf16⟩
  | .local _ .vmem, ⟨5, _⟩ => ⟨S1x4096x256, .bf16⟩
  | .local _ .vmem, ⟨6, _⟩ => ⟨S512x256, .bf16⟩
  | .local _ .vmem, ⟨7, _⟩ => ⟨S1x256x256, .bf16⟩
  | .local _ .vmem, ⟨8, _⟩ => ⟨S1x256x256, .bf16⟩
  | .local _ .vmem, ⟨9, _⟩ => ⟨S4x256x128, .f32⟩
  | _, _ => ⟨S4x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 2, 16], ![false, false, false]⟩

def k0_cond1 (i : grid0.Coords) : BitVec 1 :=
  let arg2 : BitVec 32 := BitVec.ofNat 32 (i 2).val
  let c1_i32_51 : BitVec 32 := 1#32
  let v152 : BitVec 1 := Scalar.cmpi .sge arg2 c1_i32_51
  let v153 : BitVec 32 := Scalar.extui v152
  let c0_i32_52 : BitVec 32 := 0#32
  let v154 : BitVec 1 := Scalar.cmpi .ne v153 c0_i32_52
  v154

def k0_mult1 (i : grid0.Coords) : BitVec 32 :=
  let arg2 : BitVec 32 := BitVec.ofNat 32 (i 2).val
  let c1_i32_70 : BitVec 32 := 1#32
  let v186 : BitVec 32 := Scalar.subi arg2 c1_i32_70
  let c256_i32 : BitVec 32 := 256#32
  let v187 : BitVec 32 := Scalar.muli v186 c256_i32
  v187
def k0_off1 (i : grid0.Coords) (c0_i32_71 : BitVec 32) : Fin 4 → Nat :=
  let c0_72 : Index := 0#32
  let arg2 : BitVec 32 := BitVec.ofNat 32 (i 2).val
  let c1_i32_70 : BitVec 32 := 1#32
  let v186 : BitVec 32 := Scalar.subi arg2 c1_i32_70
  let v189 : BitVec 32 := Scalar.addi v186 c0_i32_71
  let v190 : Index := Scalar.indexCast v189
  let c0_73 : Index := 0#32
  let c0_74 : Index := 0#32
  ![0, v190.toNat, 0, 0]
def k0_off2 (i : grid0.Coords) (c0_i32_91 : BitVec 32) : Fin 4 → Nat :=
  let c0_92 : Index := 0#32
  let arg2 : BitVec 32 := BitVec.ofNat 32 (i 2).val
  let c1_i32_70 : BitVec 32 := 1#32
  let v186 : BitVec 32 := Scalar.subi arg2 c1_i32_70
  let v209 : BitVec 32 := Scalar.addi v186 c0_i32_91
  let v210 : Index := Scalar.indexCast v209
  let c128_93 : Index := 128#32
  let c0_94 : Index := 0#32
  ![0, v210.toNat, 128, 0]
def k0_off3 (i : grid0.Coords) : Fin 3 → Nat :=
  let c0_130 : Index := 0#32
  let arg2 : BitVec 32 := BitVec.ofNat 32 (i 2).val
  let c1_i32_70 : BitVec 32 := 1#32
  let v186 : BitVec 32 := Scalar.subi arg2 c1_i32_70
  let c256_i32 : BitVec 32 := 256#32
  let v187 : BitVec 32 := Scalar.muli v186 c256_i32
  let v188 : BitVec 32 := v187
  let v290 : Index := Scalar.indexCast v188
  let c0_131 : Index := 0#32
  ![0, v290.toNat, 0]
def k0_off4 (i : grid0.Coords) : Fin 3 → Nat :=
  let c0_180 : Index := 0#32
  let arg2 : BitVec 32 := BitVec.ofNat 32 (i 2).val
  let c1_i32_70 : BitVec 32 := 1#32
  let v186 : BitVec 32 := Scalar.subi arg2 c1_i32_70
  let c256_i32 : BitVec 32 := 256#32
  let v187 : BitVec 32 := Scalar.muli v186 c256_i32
  let v188 : BitVec 32 := v187
  let v428 : Index := Scalar.indexCast v188
  let c128_181 : Index := 128#32
  ![0, v428.toNat, 128]
def k0_mult2 (i : grid0.Coords) : BitVec 32 :=
  let arg2 : BitVec 32 := BitVec.ofNat 32 (i 2).val
  let c256_i32 : BitVec 32 := 256#32
  let v186 : BitVec 32 := Scalar.muli arg2 c256_i32
  v186
def k0_off5 (i : grid0.Coords) : Fin 4 → Nat :=
  let c0_71 : Index := 0#32
  let arg2 : BitVec 32 := BitVec.ofNat 32 (i 2).val
  let c0_i32_70 : BitVec 32 := 0#32
  let v188 : BitVec 32 := Scalar.addi arg2 c0_i32_70
  let v189 : Index := Scalar.indexCast v188
  let c0_72 : Index := 0#32
  let c0_73 : Index := 0#32
  ![0, v189.toNat, 0, 0]
def k0_off6 (i : grid0.Coords) : Fin 4 → Nat :=
  let c0_81 : Index := 0#32
  let arg2 : BitVec 32 := BitVec.ofNat 32 (i 2).val
  let c0_i32_80 : BitVec 32 := 0#32
  let v198 : BitVec 32 := Scalar.addi arg2 c0_i32_80
  let v199 : Index := Scalar.indexCast v198
  let c128_82 : Index := 128#32
  let c0_83 : Index := 0#32
  ![0, v199.toNat, 128, 0]
def k0_off7 (i : grid0.Coords) : Fin 3 → Nat :=
  let c0_102 : Index := 0#32
  let arg2 : BitVec 32 := BitVec.ofNat 32 (i 2).val
  let c256_i32 : BitVec 32 := 256#32
  let v186 : BitVec 32 := Scalar.muli arg2 c256_i32
  let v187 : BitVec 32 := v186
  let v241 : Index := Scalar.indexCast v187
  let c0_103 : Index := 0#32
  ![0, v241.toNat, 0]
def k0_off8 (i : grid0.Coords) : Fin 3 → Nat :=
  let c0_138 : Index := 0#32
  let arg2 : BitVec 32 := BitVec.ofNat 32 (i 2).val
  let c256_i32 : BitVec 32 := 256#32
  let v186 : BitVec 32 := Scalar.muli arg2 c256_i32
  let v187 : BitVec 32 := v186
  let v323 : Index := Scalar.indexCast v187
  let c128_139 : Index := 128#32
  ![0, v323.toNat, 128]
def k0_mult3 (arg9 : BitVec 32) : BitVec 32 :=
  let c256_i32 : BitVec 32 := 256#32
  let v187 : BitVec 32 := Scalar.muli arg9 c256_i32
  v187

def k0_off9 (arg9 : BitVec 32) : Fin 4 → Nat :=
  let c0_72 : Index := 0#32
  let c0_i32_71 : BitVec 32 := 0#32
  let v189 : BitVec 32 := Scalar.addi arg9 c0_i32_71
  let v190 : Index := Scalar.indexCast v189
  let c0_73 : Index := 0#32
  let c0_74 : Index := 0#32
  ![0, v190.toNat, 0, 0]
def k0_off10 (arg9 : BitVec 32) : Fin 4 → Nat :=
  let c0_82 : Index := 0#32
  let c0_i32_81 : BitVec 32 := 0#32
  let v199 : BitVec 32 := Scalar.addi arg9 c0_i32_81
  let v200 : Index := Scalar.indexCast v199
  let c128_83 : Index := 128#32
  let c0_84 : Index := 0#32
  ![0, v200.toNat, 128, 0]
def k0_off11 (arg9 : BitVec 32) : Fin 3 → Nat :=
  let c0_101 : Index := 0#32
  let c256_i32 : BitVec 32 := 256#32
  let v187 : BitVec 32 := Scalar.muli arg9 c256_i32
  let v188 : BitVec 32 := v187
  let v238 : Index := Scalar.indexCast v188
  let c0_102 : Index := 0#32
  ![0, v238.toNat, 0]
def k0_off12 (arg9 : BitVec 32) : Fin 3 → Nat :=
  let c0_133 : Index := 0#32
  let c256_i32 : BitVec 32 := 256#32
  let v187 : BitVec 32 := Scalar.muli arg9 c256_i32
  let v188 : BitVec 32 := v187
  let v312 : Index := Scalar.indexCast v188
  let c128_134 : Index := 128#32
  ![0, v312.toNat, 128]

def k0_chk1 (arg9 : BitVec 32) : Prop :=
  (256 ∣ (k0_mult3 arg9).toNat) ∧
  (∀ a, (k0_off9 arg9) a + S1x1x128x256.size a ≤ S1x16x256x256.size a) ∧
  (∀ a, (k0_off10 arg9) a + S1x1x128x256.size a ≤ S1x16x256x256.size a) ∧
  (∀ a, (k0_off11 arg9) a + S1x256x128.size a ≤ S1x4096x256.size a) ∧
  (∀ a, (k0_off12 arg9) a + S1x256x128.size a ≤ S1x4096x256.size a)
theorem k0_mult3_dvd : ∀ (arg9 : BitVec 32) (k0_hw1 : k0_chk1 arg9), 256 ∣ (k0_mult3 arg9).toNat := fun arg9 k0_hw1 => k0_hw1.1
theorem k0_off9_inb : ∀ (arg9 : BitVec 32) (k0_hw1 : k0_chk1 arg9), ∀ a, (k0_off9 arg9) a + S1x1x128x256.size a ≤ S1x16x256x256.size a := fun arg9 k0_hw1 => k0_hw1.2.1
theorem k0_off10_inb : ∀ (arg9 : BitVec 32) (k0_hw1 : k0_chk1 arg9), ∀ a, (k0_off10 arg9) a + S1x1x128x256.size a ≤ S1x16x256x256.size a := fun arg9 k0_hw1 => k0_hw1.2.2.1
theorem k0_off11_inb : ∀ (arg9 : BitVec 32) (k0_hw1 : k0_chk1 arg9), ∀ a, (k0_off11 arg9) a + S1x256x128.size a ≤ S1x4096x256.size a := fun arg9 k0_hw1 => k0_hw1.2.2.2.1
theorem k0_off12_inb : ∀ (arg9 : BitVec 32) (k0_hw1 : k0_chk1 arg9), ∀ a, (k0_off12 arg9) a + S1x256x128.size a ≤ S1x4096x256.size a := fun arg9 k0_hw1 => k0_hw1.2.2.2.2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x16x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "dead" => some ⊤
  | _ => none
-- ==== ReferenceIdeal.lean ====
abbrev S4x4096x8x64 : Shape := ⟨4, ![4, 4096, 8, 64]⟩
abbrev S4x8x4096x64 : Shape := ⟨4, ![4, 8, 4096, 64]⟩
abbrev S4096 : Shape := ⟨1, ![4096]⟩
abbrev S4x8x4096x4096 : Shape := ⟨4, ![4, 8, 4096, 4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S4x4096x512 : Shape := ⟨3, ![4, 4096, 512]⟩

abbrev nBuf : Space → Nat
  | .hbm => 70
  | .vmem => 0
  | .smem => 0
  | _ => 0

abbrev bufTy : (tb : Table) → Fin (tcTables nBuf tb) → BufTy
  | .hbm, ⟨0, _⟩ => ⟨S4x4096x8x64, .f32⟩
  | .hbm, ⟨1, _⟩ => ⟨S4x4096x8x64, .f32⟩
  | .hbm, ⟨2, _⟩ => ⟨S4x4096x8x64, .f32⟩
  | .hbm, ⟨3, _⟩ => ⟨S4x8x4096x64, .f32⟩
  | .hbm, ⟨4, _⟩ => ⟨S4x8x4096x64, .f32⟩
  | .hbm, ⟨5, _⟩ => ⟨S4x8x4096x64, .f32⟩
  | .hbm, ⟨6, _⟩ => ⟨S4096, .i32⟩
  | .hbm, ⟨7, _⟩ => ⟨S4096, .i32⟩
  | .hbm, ⟨8, _⟩ => ⟨S4x8x4096x4096, .f32⟩
  | .hbm, ⟨9, _⟩ => ⟨S_, .f32⟩
  | .hbm, ⟨10, _⟩ => ⟨S4x8x4096x4096, .f32⟩
  | .hbm, ⟨11, _⟩ => ⟨S4x8x4096x4096, .f32⟩
  | .hbm, ⟨12, _⟩ => ⟨S1x4096, .i32⟩
  | .hbm, ⟨13, _⟩ => ⟨S4096x1, .i32⟩
  | .hbm, ⟨14, _⟩ => ⟨S4096x4096, .i32⟩
  | .hbm, ⟨15, _⟩ => ⟨S4096x4096, .i32⟩
  | .hbm, ⟨16, _⟩ => ⟨S4096x4096, .i1⟩
  | .hbm, ⟨17, _⟩ => ⟨S4x8x4096x4096, .f32⟩
  | .hbm, ⟨18, _⟩ => ⟨S4x8x4096x4096, .f32⟩
  | .hbm, ⟨19, _⟩ => ⟨S_, .f32⟩
  | .hbm, ⟨20, _⟩ => ⟨S4x8x4096x4096, .f32⟩
  | .hbm, ⟨21, _⟩ => ⟨S4x8x4096x4096, .f32⟩
  | .hbm, ⟨22, _⟩ => ⟨S4x8x4096x4096, .f32⟩
  | .hbm, ⟨23, _⟩ => ⟨S4x8x4096x4096, .f32⟩
  | .hbm, ⟨24, _⟩ => ⟨S4x8x4096x4096, .i1⟩
  | .hbm, ⟨25, _⟩ => ⟨S4x8x4096x4096, .f32⟩
  | .hbm, ⟨26, _⟩ => ⟨S4x8x4096x4096, .f32⟩
  | .hbm, ⟨27, _⟩ => ⟨S4x8x4096x4096, .f32⟩
  | .hbm, ⟨28, _⟩ => ⟨S4x8x4096x4096, .f32⟩
  | .hbm, ⟨29, _⟩ => ⟨S4x8x4096x4096, .f32⟩
  | .hbm, ⟨30, _⟩ => ⟨S4x8x4096x4096, .f32⟩
  | .hbm, ⟨31, _⟩ => ⟨S4x8x4096x4096, .f32⟩
  | .hbm, ⟨32, _⟩ => ⟨S4x8x4096x4096, .f32⟩
  | .hbm, ⟨33, _⟩ => ⟨S4x8x4096x4096, .f32⟩
  | .hbm, ⟨34, _⟩ => ⟨S_, .f32⟩
  | .hbm, ⟨35, _⟩ => ⟨S_, .f32⟩
  | .hbm, ⟨36, _⟩ => ⟨S4x8x4096x4096, .i1⟩
  | .hbm, ⟨37, _⟩ => ⟨S4x8x4096x4096, .f32⟩
  | .hbm, ⟨38, _⟩ => ⟨S4x8x4096x4096, .f32⟩
  | .hbm, ⟨39, _⟩ => ⟨S_, .f32⟩
  | .hbm, ⟨40, _⟩ => ⟨S_, .f32⟩
  | .hbm, ⟨41, _⟩ => ⟨S4x8x4096x4096, .f32⟩
  | .hbm, ⟨42, _⟩ => ⟨S4x8x4096x4096, .f32⟩
  | .hbm, ⟨43, _⟩ => ⟨S4x8x4096x4096, .f32⟩
  | .hbm, ⟨44, _⟩ => ⟨S_, .f32⟩
  | .hbm, ⟨45, _⟩ => ⟨S4x8x4096x4096, .f32⟩
  | .hbm, ⟨46, _⟩ => ⟨S4x8x4096x4096, .f32⟩
  | .hbm, ⟨47, _⟩ => ⟨S4x8x4096x4096, .f32⟩
  | .hbm, ⟨48, _⟩ => ⟨S4x8x4096x4096, .f32⟩
  | .hbm, ⟨49, _⟩ => ⟨S4x8x4096x4096, .i1⟩
  | .hbm, ⟨50, _⟩ => ⟨S4x8x4096x4096, .f32⟩
  | .hbm, ⟨51, _⟩ => ⟨S4x8x4096x4096, .f32⟩
  | .hbm, ⟨52, _⟩ => ⟨S4x8x4096x4096, .f32⟩
  | .hbm, ⟨53, _⟩ => ⟨S4x8x4096x4096, .f32⟩
  | .hbm, ⟨54, _⟩ => ⟨S4x8x4096x4096, .f32⟩
  | .hbm, ⟨55, _⟩ => ⟨S4x8x4096x4096, .f32⟩
  | .hbm, ⟨56, _⟩ => ⟨S4x8x4096x4096, .f32⟩
  | .hbm, ⟨57, _⟩ => ⟨S4x8x4096x4096, .f32⟩
  | .hbm, ⟨58, _⟩ => ⟨S4x8x4096x4096, .f32⟩
  | .hbm, ⟨59, _⟩ => ⟨S4x8x4096x4096, .f32⟩
  | .hbm, ⟨60, _⟩ => ⟨S4x8x4096x4096, .f32⟩
  | .hbm, ⟨61, _⟩ => ⟨S_, .f32⟩
  | .hbm, ⟨62, _⟩ => ⟨S_, .f32⟩
  | .hbm, ⟨63, _⟩ => ⟨S4x8x4096x4096, .i1⟩
  | .hbm, ⟨64, _⟩ => ⟨S4x8x4096x4096, .f32⟩
  | .hbm, ⟨65, _⟩ => ⟨S4x8x4096x4096, .f32⟩
  | .hbm, ⟨66, _⟩ => ⟨S4x8x4096x64, .f32⟩
  | .hbm, ⟨67, _⟩ => ⟨S4x4096x8x64, .f32⟩
  | .hbm, ⟨68, _⟩ => ⟨S4x4096x512, .f32⟩
  | .hbm, ⟨69, _⟩ => ⟨S4x4096x512, .bf16⟩
  | _, _ => ⟨S4x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1 : Ref sig .tc := ⟨.hbm, 32, rfl⟩
abbrev main_v14 : Ref sig .tc := ⟨.hbm, 33, rfl⟩
abbrev main_cst_0 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v15 : Ref sig .tc := ⟨.hbm, 38, rfl⟩
abbrev main_call2_cst : Ref sig .tc := ⟨.hbm, 39, rfl⟩
abbrev main_call2_v0 : Ref sig .tc := ⟨.hbm, 40, rfl⟩
abbrev main_v16 : Ref sig .tc := ⟨.hbm, 41, rfl⟩
abbrev main_v17 : Ref sig .tc := ⟨.hbm, 42, rfl⟩
abbrev main_call3_v0 : Ref sig .tc := ⟨.hbm, 43, rfl⟩
abbrev main_call3_call0_cst : Ref sig .tc := ⟨.hbm, 44, rfl⟩
abbrev main_call3_call0_v0 : Ref sig .tc := ⟨.hbm, 45, rfl⟩
abbrev main_call3_call0_v1 : Ref sig .tc := ⟨.hbm, 46, rfl⟩
abbrev main_call3_call0_v2 : Ref sig .tc := ⟨.hbm, 47, rfl⟩
abbrev main_call3_call0_v3 : Ref sig .tc := ⟨.hbm, 48, rfl⟩
abbrev main_call3_call0_v4 : Ref sig .tc := ⟨.hbm, 49, rfl⟩
abbrev main_call3_call0_v5 : Ref sig .tc := ⟨.hbm, 50, rfl⟩
abbrev main_call3_call0_v6 : Ref sig .tc := ⟨.hbm, 51, rfl⟩
abbrev main_call3_call0_v7 : Ref sig .tc := ⟨.hbm, 52, rfl⟩
abbrev main_call3_call0_v8 : Ref sig .tc := ⟨.hbm, 53, rfl⟩
abbrev main_call3_call0_v9 : Ref sig .tc := ⟨.hbm, 54, rfl⟩
abbrev main_call3_call0_v10 : Ref sig .tc := ⟨.hbm, 55, rfl⟩
abbrev main_call3_call0_v11 : Ref sig .tc := ⟨.hbm, 56, rfl⟩
abbrev main_call3_v1 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_cst_1 : Ref sig .tc := ⟨.hbm, 61, rfl⟩
abbrev main_call4_v0 : Ref sig .tc := ⟨.hbm, 62, rfl⟩
abbrev main_call4_v1 : Ref sig .tc := ⟨.hbm, 63, rfl⟩
abbrev main_call4_v2 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩

abbrev nD : Nat := 1
abbrev τ : Topo := Topo.v7x

variable {F : FTy → Type} [FloatOps F]
-- ==== Kernel2.lean ====
abbrev S4x4096x1024 : Shape := ⟨3, ![4, 4096, 1024]⟩
abbrev S1024 : Shape := ⟨1, ![1024]⟩
abbrev S1024x6144 : Shape := ⟨2, ![1024, 6144]⟩
abbrev S2048 : Shape := ⟨1, ![2048]⟩
abbrev S64 : Shape := ⟨1, ![64]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S4096 : Shape := ⟨1, ![4096]⟩
abbrev S8 : Shape := ⟨1, ![8]⟩
abbrev S4096x1 : Shape := ⟨2, ![4096, 1]⟩
abbrev S1x8 : Shape := ⟨2, ![1, 8]⟩
abbrev S4096x8 : Shape := ⟨2, ![4096, 8]⟩
abbrev S4096x48 : Shape := ⟨2, ![4096, 48]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S1x1024 : Shape := ⟨2, ![1, 1024]⟩
abbrev S1x2048 : Shape := ⟨2, ![1, 2048]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S16384x1024 : Shape := ⟨2, ![16384, 1024]⟩
abbrev S16384x512 : Shape := ⟨2, ![16384, 512]⟩
abbrev S64x512x256 : Shape := ⟨3, ![64, 512, 256]⟩
abbrev S2x4x512x4096 : Shape := ⟨4, ![2, 4, 512, 4096]⟩
abbrev S16384x2048 : Shape := ⟨2, ![16384, 2048]⟩
abbrev S64x1x512 : Shape := ⟨3, ![64, 1, 512]⟩
abbrev S256x1024 : Shape := ⟨2, ![256, 1024]⟩
abbrev S256x128 : Shape := ⟨2, ![256, 128]⟩
abbrev S256x512 : Shape := ⟨2, ![256, 512]⟩
abbrev S1x512x256 : Shape := ⟨3, ![1, 512, 256]⟩
abbrev S2x1x512x256 : Shape := ⟨4, ![2, 1, 512, 256]⟩
abbrev S256x2048 : Shape := ⟨2, ![256, 2048]⟩
abbrev S1x1x512 : Shape := ⟨3, ![1, 1, 512]⟩
abbrev S1024x512 : Shape := ⟨2, ![1024, 512]⟩
abbrev S1024x2048 : Shape := ⟨2, ![1024, 2048]⟩
abbrev S512x256 : Shape := ⟨2, ![512, 256]⟩
abbrev S1x1x512x256 : Shape := ⟨4, ![1, 1, 512, 256]⟩

abbrev nBuf : Space → Nat
  | .hbm => 96
  | .vmem => 42
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x6144, .f32⟩
  | .hbm, ⟨3, _⟩ => ⟨S2048, .f32⟩
  | .hbm, ⟨4, _⟩ => ⟨S64, .f32⟩
  | .hbm, ⟨5, _⟩ => ⟨S64, .f32⟩
  | .hbm, ⟨6, _⟩ => ⟨S256, .i32⟩
  | .hbm, ⟨7, _⟩ => ⟨S_, .i32⟩
  | .hbm, ⟨8, _⟩ => ⟨S_, .i32⟩
  | .hbm, ⟨9, _⟩ => ⟨S256, .i32⟩
  | .hbm, ⟨10, _⟩ => ⟨S256, .i32⟩
  | .hbm, ⟨11, _⟩ => ⟨S256, .i32⟩
  | .hbm, ⟨12, _⟩ => ⟨S_, .i32⟩
  | .hbm, ⟨13, _⟩ => ⟨S256, .i32⟩
  | .hbm, ⟨14, _⟩ => ⟨S256, .i1⟩
  | .hbm, ⟨15, _⟩ => ⟨S256, .i32⟩
  | .hbm, ⟨16, _⟩ => ⟨S256, .i32⟩
  | .hbm, ⟨17, _⟩ => ⟨S_, .i32⟩
  | .hbm, ⟨18, _⟩ => ⟨S256, .i32⟩
  | .hbm, ⟨19, _⟩ => ⟨S256, .i1⟩
  | .hbm, ⟨20, _⟩ => ⟨S256, .i1⟩
  | .hbm, ⟨21, _⟩ => ⟨S_, .i32⟩
  | .hbm, ⟨22, _⟩ => ⟨S256, .i32⟩
  | .hbm, ⟨23, _⟩ => ⟨S256, .i32⟩
  | .hbm, ⟨24, _⟩ => ⟨S256, .i32⟩
  | .hbm, ⟨25, _⟩ => ⟨S256x1, .i32⟩
  | .hbm, ⟨26, _⟩ => ⟨S1x256, .i32⟩
  | .hbm, ⟨27, _⟩ => ⟨S256x256, .i32⟩
  | .hbm, ⟨28, _⟩ => ⟨S256x256, .i32⟩
  | .hbm, ⟨29, _⟩ => ⟨S256x256, .i1⟩
  | .hbm, ⟨30, _⟩ => ⟨S256x256, .bf16⟩
  | .hbm, ⟨31, _⟩ => ⟨S4096, .f32⟩
  | .hbm, ⟨32, _⟩ => ⟨S8, .f32⟩
  | .hbm, ⟨33, _⟩ => ⟨S8, .f32⟩
  | .hbm, ⟨34, _⟩ => ⟨S_, .f32⟩
  | .hbm, ⟨35, _⟩ => ⟨S8, .f32⟩
  | .hbm, ⟨36, _⟩ => ⟨S8, .f32⟩
  | .hbm, ⟨37, _⟩ => ⟨S_, .f32⟩
  | .hbm, ⟨38, _⟩ => ⟨S8, .f32⟩
  | .hbm, ⟨39, _⟩ => ⟨S8, .f32⟩
  | .hbm, ⟨40, _⟩ => ⟨S_, .f32⟩
  | .hbm, ⟨41, _⟩ => ⟨S8, .f32⟩
  | .hbm, ⟨42, _⟩ => ⟨S8, .f32⟩
  | .hbm, ⟨43, _⟩ => ⟨S4096x1, .f32⟩
  | .hbm, ⟨44, _⟩ => ⟨S1x8, .f32⟩
  | .hbm, ⟨45, _⟩ => ⟨S4096x8, .f32⟩
  | .hbm, ⟨46, _⟩ => ⟨S4096x8, .f32⟩
  | .hbm, ⟨47, _⟩ => ⟨S4096x8, .f32⟩
  | .hbm, ⟨48, _⟩ => ⟨S4096x8, .f32⟩
  | .hbm, ⟨49, _⟩ => ⟨S4096x8, .f32⟩
  | .hbm, ⟨50, _⟩ => ⟨S_, .f32⟩
  | .hbm, ⟨51, _⟩ => ⟨S4096x48, .f32⟩
  | .hbm, ⟨52, _⟩ => ⟨S_, .f32⟩
  | .hbm, ⟨53, _⟩ => ⟨S4096x8, .f32⟩
  | .hbm, ⟨54, _⟩ => ⟨S_, .f32⟩
  | .hbm, ⟨55, _⟩ => ⟨S4096x48, .f32⟩
  | .hbm, ⟨56, _⟩ => ⟨S4096x48, .f32⟩
  | .hbm, ⟨57, _⟩ => ⟨S4096x64, .f32⟩
  | .hbm, ⟨58, _⟩ => ⟨S4096x8, .f32⟩
  | .hbm, ⟨59, _⟩ => ⟨S4096x64, .f32⟩
  | .hbm, ⟨60, _⟩ => ⟨S4096x64, .f32⟩
  | .hbm, ⟨61, _⟩ => ⟨S1x4096x1x64, .f32⟩
  | .hbm, ⟨62, _⟩ => ⟨S1x4096x2x64, .f32⟩
  | .hbm, ⟨63, _⟩ => ⟨S4096x128, .f32⟩
  | .hbm, ⟨64, _⟩ => ⟨S1x4096x1x64, .f32⟩
  | .hbm, ⟨65, _⟩ => ⟨S1x4096x2x64, .f32⟩
  | .hbm, ⟨66, _⟩ => ⟨S4096x128, .f32⟩
  | .hbm, ⟨67, _⟩ => ⟨S1x4096x1x64, .f32⟩
  | .hbm, ⟨68, _⟩ => ⟨S1x4096x2x64, .f32⟩
  | .hbm, ⟨69, _⟩ => ⟨S4096x128, .f32⟩
  | .hbm, ⟨70, _⟩ => ⟨S1x1024, .f32⟩
  | .hbm, ⟨71, _⟩ => ⟨S1024x6144, .bf16⟩
  | .hbm, ⟨72, _⟩ => ⟨S1x2048, .f32⟩
  | .hbm, ⟨73, _⟩ => ⟨S1x64, .f32⟩
  | .hbm, ⟨74, _⟩ => ⟨S8x64, .f32⟩
  | .hbm, ⟨75, _⟩ => ⟨S512, .f32⟩
  | .hbm, ⟨76, _⟩ => ⟨S1x512, .f32⟩
  | .hbm, ⟨77, _⟩ => ⟨S1x64, .f32⟩
  | .hbm, ⟨78, _⟩ => ⟨S8x64, .f32⟩
  | .hbm, ⟨79, _⟩ => ⟨S512, .f32⟩
  | .hbm, ⟨80, _⟩ => ⟨S1x512, .f32⟩
  | .hbm, ⟨81, _⟩ => ⟨S16384x1024, .f32⟩
  | .hbm, ⟨82, _⟩ => ⟨S16384x512, .bf16⟩
  | .hbm, ⟨83, _⟩ => ⟨S64x512x256, .bf16⟩
  | .hbm, ⟨84, _⟩ => ⟨S16384x512, .bf16⟩
  | .hbm, ⟨85, _⟩ => ⟨S16384x512, .bf16⟩
  | .hbm, ⟨86, _⟩ => ⟨S64x512x256, .bf16⟩
  | .hbm, ⟨87, _⟩ => ⟨S16384x512, .bf16⟩
  | .hbm, ⟨88, _⟩ => ⟨S2x4x512x4096, .f32⟩
  | .hbm, ⟨89, _⟩ => ⟨S2x4x512x4096, .f32⟩
  | .hbm, ⟨90, _⟩ => ⟨S2x4x512x4096, .f32⟩
  | .hbm, ⟨91, _⟩ => ⟨S2x4x512x4096, .f32⟩
  | .hbm, ⟨92, _⟩ => ⟨S16384x512, .bf16⟩
  | .hbm, ⟨93, _⟩ => ⟨S16384x512, .bf16⟩
  | .hbm, ⟨94, _⟩ => ⟨S16384x2048, .bf16⟩
  | .hbm, ⟨95, _⟩ => ⟨S64x1x512, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x6144, .bf16⟩
  | .local _ .vmem, ⟨4, _⟩ => ⟨S1x2048, .f32⟩
  | .local _ .vmem, ⟨5, _⟩ => ⟨S1x512, .f32⟩
  | .local _ .vmem, ⟨6, _⟩ => ⟨S1x512, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x256, .bf16⟩
  | .local _ .vmem, ⟨14, _⟩ => ⟨S256x512, .bf16⟩
  | .local _ .vmem, ⟨15, _⟩ => ⟨S256x512, .bf16⟩
  | .local _ .vmem, ⟨16, _⟩ => ⟨S1x512x256, .bf16⟩
  | .local _ .vmem, ⟨17, _⟩ => ⟨S1x512x256, .bf16⟩
  | .local _ .vmem, ⟨18, _⟩ => ⟨S256x512, .bf16⟩
  | .local _ .vmem, ⟨19, _⟩ => ⟨S256x512, .bf16⟩
  | .local _ .vmem, ⟨20, _⟩ => ⟨S256x512, .bf16⟩
  | .local _ .vmem, ⟨21, _⟩ => ⟨S256x512, .bf16⟩
  | .local _ .vmem, ⟨22, _⟩ => ⟨S1x512x256, .bf16⟩
  | .local _ .vmem, ⟨23, _⟩ => ⟨S1x512x256, .bf16⟩
  | .local _ .vmem, ⟨24, _⟩ => ⟨S256x512, .bf16⟩
  | .local _ .vmem, ⟨25, _⟩ => ⟨S256x512, .bf16⟩
  | .local _ .vmem, ⟨26, _⟩ => ⟨S2x1x512x256, .f32⟩
  | .local _ .vmem, ⟨27, _⟩ => ⟨S2x1x512x256, .f32⟩
  | .local _ .vmem, ⟨28, _⟩ => ⟨S2x1x512x256, .f32⟩
  | .local _ .vmem, ⟨29, _⟩ => ⟨S2x1x512x256, .f32⟩
  | .local _ .vmem, ⟨30, _⟩ => ⟨S2x1x512x256, .f32⟩
  | .local _ .vmem, ⟨31, _⟩ => ⟨S2x1x512x256, .f32⟩
  | .local _ .vmem, ⟨32, _⟩ => ⟨S2x1x512x256, .f32⟩
  | .local _ .vmem, ⟨33, _⟩ => ⟨S2x1x512x256, .f32⟩
  | .local _ .vmem, ⟨34, _⟩ => ⟨S256x512, .bf16⟩
  | .local _ .vmem, ⟨35, _⟩ => ⟨S256x512, .bf16⟩
  | .local _ .vmem, ⟨36, _⟩ => ⟨S256x512, .bf16⟩
  | .local _ .vmem, ⟨37, _⟩ => ⟨S256x512, .bf16⟩
  | .local _ .vmem, ⟨38, _⟩ => ⟨S256x2048, .bf16⟩
  | .local _ .vmem, ⟨39, _⟩ => ⟨S256x2048, .bf16⟩
  | .local _ .vmem, ⟨40, _⟩ => ⟨S1x1x512, .f32⟩
  | .local _ .vmem, ⟨41, _⟩ => ⟨S1x1x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst : Ref sig .tc := ⟨.hbm, 34, rfl⟩
abbrev main_v11 : Ref sig .tc := ⟨.hbm, 35, rfl⟩
abbrev main_v12 : Ref sig .tc := ⟨.hbm, 36, rfl⟩
abbrev main_cst_0 : Ref sig .tc := ⟨.hbm, 37, rfl⟩
abbrev main_v13 : Ref sig .tc := ⟨.hbm, 38, rfl⟩
abbrev main_v14 : Ref sig .tc := ⟨.hbm, 39, rfl⟩
abbrev main_cst_1 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_cst_2 : Ref sig .tc := ⟨.hbm, 50, rfl⟩
abbrev main_v24 : Ref sig .tc := ⟨.hbm, 51, rfl⟩
abbrev main_cst_3 : Ref sig .tc := ⟨.hbm, 52, rfl⟩
abbrev main_v25 : Ref sig .tc := ⟨.hbm, 53, rfl⟩
abbrev main_cst_4 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53_0 : Ref sig .tc := ⟨.hbm, 82, rfl⟩
abbrev main_v53_1 : Ref sig .tc := ⟨.hbm, 83, rfl⟩
abbrev main_v53_2 : Ref sig .tc := ⟨.hbm, 84, rfl⟩
abbrev main_v53_3 : Ref sig .tc := ⟨.hbm, 85, rfl⟩
abbrev main_v53_4 : Ref sig .tc := ⟨.hbm, 86, rfl⟩
abbrev main_v53_5 : Ref sig .tc := ⟨.hbm, 87, rfl⟩
abbrev main_v53_6 : Ref sig .tc := ⟨.hbm, 88, rfl⟩
abbrev main_v53_7 : Ref sig .tc := ⟨.hbm, 89, rfl⟩
abbrev main_v53_8 : Ref sig .tc := ⟨.hbm, 90, rfl⟩
abbrev main_v53_9 : Ref sig .tc := ⟨.hbm, 91, rfl⟩
abbrev main_v53_10 : Ref sig .tc := ⟨.hbm, 92, rfl⟩
abbrev main_v53_11 : Ref sig .tc := ⟨.hbm, 93, rfl⟩
abbrev main_v53_12 : Ref sig .tc := ⟨.hbm, 94, rfl⟩
abbrev main_v53_13 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_stg21_0 : Ref sig .tc := ⟨.vmem, 36, rfl⟩
abbrev cc0_stg21_1 : Ref sig .tc := ⟨.vmem, 37, rfl⟩
abbrev cc0_stg22_0 : Ref sig .tc := ⟨.vmem, 38, rfl⟩
abbrev cc0_stg22_1 : Ref sig .tc := ⟨.vmem, 39, rfl⟩
abbrev cc0_stg23_0 : Ref sig .tc := ⟨.vmem, 40, rfl⟩
abbrev cc0_stg23_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem20_1 : DmaSem sig := 35
abbrev cc0_sem21_0 : DmaSem sig := 36
abbrev cc0_sem21_1 : DmaSem sig := 37
abbrev cc0_sem22_0 : DmaSem sig := 38
abbrev cc0_sem22_1 : DmaSem sig := 39
abbrev cc0_sem23_0 : DmaSem sig := 40
abbrev cc0_sem23_1 : DmaSem sig := 41

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

def cc0_transform_17 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

def cc0_transform_18 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

def cc0_transform_19 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2x1x512x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S2x1x512x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S2x1x512x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S2x1x512x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x2048 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1x1x512 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== Reference2Ideal.lean ====
abbrev S4x4096x1024 : Shape := ⟨3, ![4, 4096, 1024]⟩
abbrev S1024 : Shape := ⟨1, ![1024]⟩
abbrev S1024x6144 : Shape := ⟨2, ![1024, 6144]⟩
abbrev S2048 : Shape := ⟨1, ![2048]⟩
abbrev S64 : Shape := ⟨1, ![64]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x6144 : Shape := ⟨3, ![4, 4096, 6144]⟩
abbrev S4x4096x512 : Shape := ⟨3, ![4, 4096, 512]⟩
abbrev S4x4096x2048 : Shape := ⟨3, ![4, 4096, 2048]⟩
abbrev S4096 : Shape := ⟨1, ![4096]⟩
abbrev S4x4096x8x64 : Shape := ⟨4, ![4, 4096, 8, 64]⟩
abbrev S4x4096x8 : Shape := ⟨3, ![4, 4096, 8]⟩
abbrev S4x4096x8x1 : Shape := ⟨4, ![4, 4096, 8, 1]⟩
abbrev S1x1x1x64 : Shape := ⟨4, ![1, 1, 1, 64]⟩
abbrev S8 : Shape := ⟨1, ![8]⟩
abbrev S4096x1 : Shape := ⟨2, ![4096, 1]⟩
abbrev S1x8 : Shape := ⟨2, ![1, 8]⟩
abbrev S4096x8 : Shape := ⟨2, ![4096, 8]⟩
abbrev S1x4096x1x8 : Shape := ⟨4, ![1, 4096, 1, 8]⟩
abbrev S4x4096x8x8 : Shape := ⟨4, ![4, 4096, 8, 8]⟩
abbrev S4x4096x8x16 : Shape := ⟨4, ![4, 4096, 8, 16]⟩
abbrev S4x4096x8x48 : Shape := ⟨4, ![4, 4096, 8, 48]⟩
abbrev S4x16x256x8x64 : Shape := ⟨5, ![4, 16, 256, 8, 64]⟩
abbrev S4x16x8x64 : Shape := ⟨4, ![4, 16, 8, 64]⟩
abbrev S16384x512 : Shape := ⟨2, ![16384, 512]⟩
abbrev S64x256x512 : Shape := ⟨3, ![64, 256, 512]⟩
abbrev S64x512x256 : Shape := ⟨3, ![64, 512, 256]⟩
abbrev S4x512x4096 : Shape := ⟨3, ![4, 512, 4096]⟩
abbrev S1x4x512x4096 : Shape := ⟨4, ![1, 4, 512, 4096]⟩
abbrev S2x4x512x4096 : Shape := ⟨4, ![2, 4, 512, 4096]⟩
abbrev S1x1x2048 : Shape := ⟨3, ![1, 1, 2048]⟩
abbrev S16384x2048 : Shape := ⟨2, ![16384, 2048]⟩
abbrev S64x1x512 : Shape := ⟨3, ![64, 1, 512]⟩

abbrev nBuf : Space → Nat
  | .hbm => 212
  | .vmem => 0
  | .smem => 0
  | _ => 0

abbrev hbmTy0_0 (i : Nat) : BufTy := match i % 128 with
  | 0 => ⟨S4x4096x1024, .f32⟩
  | 1 => ⟨S1024, .f32⟩
  | 2 => ⟨S1024x6144, .f32⟩
  | 3 => ⟨S2048, .f32⟩
  | 4 => ⟨S64, .f32⟩
  | 5 => ⟨S64, .f32⟩
  | 6 => ⟨S4x4096x1024, .f32⟩
  | 7 => ⟨S_, .f32⟩
  | 8 => ⟨S4x4096, .f32⟩
  | 9 => ⟨S4x4096x1, .f32⟩
  | 10 => ⟨S_, .f32⟩
  | 11 => ⟨S4x4096x1, .f32⟩
  | 12 => ⟨S4x4096x1, .f32⟩
  | 13 => ⟨S_, .f32⟩
  | 14 => ⟨S4x4096x1, .f32⟩
  | 15 => ⟨S4x4096x1, .f32⟩
  | 16 => ⟨S4x4096x1, .f32⟩
  | 17 => ⟨S4x4096x1024, .f32⟩
  | 18 => ⟨S4x4096x1024, .f32⟩
  | 19 => ⟨S1x1x1024, .f32⟩
  | 20 => ⟨S4x4096x1024, .f32⟩
  | 21 => ⟨S4x4096x1024, .f32⟩
  | 22 => ⟨S4x4096x6144, .f32⟩
  | 23 => ⟨S4x4096x512, .f32⟩
  | 24 => ⟨S4x4096x512, .f32⟩
  | 25 => ⟨S4x4096x512, .f32⟩
  | 26 => ⟨S4x4096x512, .f32⟩
  | 27 => ⟨S4x4096x512, .f32⟩
  | 28 => ⟨S4x4096x512, .f32⟩
  | 29 => ⟨S4x4096x512, .f32⟩
  | 30 => ⟨S4x4096x512, .f32⟩
  | 31 => ⟨S4x4096x2048, .f32⟩
  | 32 => ⟨S4096, .f32⟩
  | 33 => ⟨S4x4096x8x64, .f32⟩
  | 34 => ⟨S4x4096x8x64, .f32⟩
  | 35 => ⟨S_, .f32⟩
  | 36 => ⟨S4x4096x8, .f32⟩
  | 37 => ⟨S4x4096x8x1, .f32⟩
  | 38 => ⟨S_, .f32⟩
  | 39 => ⟨S4x4096x8x1, .f32⟩
  | 40 => ⟨S4x4096x8x1, .f32⟩
  | 41 => ⟨S_, .f32⟩
  | 42 => ⟨S4x4096x8x1, .f32⟩
  | 43 => ⟨S4x4096x8x1, .f32⟩
  | 44 => ⟨S4x4096x8x1, .f32⟩
  | 45 => ⟨S4x4096x8x64, .f32⟩
  | 46 => ⟨S4x4096x8x64, .f32⟩
  | 47 => ⟨S1x1x1x64, .f32⟩
  | 48 => ⟨S4x4096x8x64, .f32⟩
  | 49 => ⟨S4x4096x8x64, .f32⟩
  | 50 => ⟨S8, .f32⟩
  | 51 => ⟨S8, .f32⟩
  | 52 => ⟨S_, .f32⟩
  | 53 => ⟨S8, .f32⟩
  | 54 => ⟨S8, .f32⟩
  | 55 => ⟨S_, .f32⟩
  | 56 => ⟨S8, .f32⟩
  | 57 => ⟨S8, .f32⟩
  | 58 => ⟨S_, .f32⟩
  | 59 => ⟨S8, .f32⟩
  | 60 => ⟨S8, .f32⟩
  | 61 => ⟨S4096x1, .f32⟩
  | 62 => ⟨S1x8, .f32⟩
  | 63 => ⟨S4096x8, .f32⟩
  | 64 => ⟨S4096x8, .f32⟩
  | 65 => ⟨S4096x8, .f32⟩
  | 66 => ⟨S4096x8, .f32⟩
  | 67 => ⟨S1x4096x1x8, .f32⟩
  | 68 => ⟨S4096x8, .f32⟩
  | 69 => ⟨S1x4096x1x8, .f32⟩
  | 70 => ⟨S4x4096x8x8, .f32⟩
  | 71 => ⟨S4x4096x8x8, .f32⟩
  | 72 => ⟨S4x4096x8x8, .f32⟩
  | 73 => ⟨S4x4096x8x8, .f32⟩
  | 74 => ⟨S4x4096x8x8, .f32⟩
  | 75 => ⟨S4x4096x8x8, .f32⟩
  | 76 => ⟨S4x4096x8x8, .f32⟩
  | 77 => ⟨S4x4096x8x8, .f32⟩
  | 78 => ⟨S4x4096x8x8, .f32⟩
  | 79 => ⟨S4x4096x8x8, .f32⟩
  | 80 => ⟨S4x4096x8x8, .f32⟩
  | 81 => ⟨S4x4096x8x8, .f32⟩
  | 82 => ⟨S4x4096x8x16, .f32⟩
  | 83 => ⟨S4x4096x8x48, .f32⟩
  | 84 => ⟨S4x4096x8x64, .f32⟩
  | 85 => ⟨S4x4096x8x64, .f32⟩
  | 86 => ⟨S4x4096x8x64, .f32⟩
  | 87 => ⟨S_, .f32⟩
  | 88 => ⟨S4x4096x8, .f32⟩
  | 89 => ⟨S4x4096x8x1, .f32⟩
  | 90 => ⟨S_, .f32⟩
  | 91 => ⟨S4x4096x8x1, .f32⟩
  | 92 => ⟨S4x4096x8x1, .f32⟩
  | 93 => ⟨S_, .f32⟩
  | 94 => ⟨S4x4096x8x1, .f32⟩
  | 95 => ⟨S4x4096x8x1, .f32⟩
  | 96 => ⟨S4x4096x8x1, .f32⟩
  | 97 => ⟨S4x4096x8x64, .f32⟩
  | 98 => ⟨S4x4096x8x64, .f32⟩
  | 99 => ⟨S1x1x1x64, .f32⟩
  | 100 => ⟨S4x4096x8x64, .f32⟩
  | 101 => ⟨S4x4096x8x64, .f32⟩
  | 102 => ⟨S8, .f32⟩
  | 103 => ⟨S8, .f32⟩
  | 104 => ⟨S_, .f32⟩
  | 105 => ⟨S8, .f32⟩
  | 106 => ⟨S8, .f32⟩
  | 107 => ⟨S_, .f32⟩
  | 108 => ⟨S8, .f32⟩
  | 109 => ⟨S8, .f32⟩
  | 110 => ⟨S_, .f32⟩
  | 111 => ⟨S8, .f32⟩
  | 112 => ⟨S8, .f32⟩
  | 113 => ⟨S4096x1, .f32⟩
  | 114 => ⟨S1x8, .f32⟩
  | 115 => ⟨S4096x8, .f32⟩
  | 116 => ⟨S4096x8, .f32⟩
  | 117 => ⟨S4096x8, .f32⟩
  | 118 => ⟨S4096x8, .f32⟩
  | 119 => ⟨S1x4096x1x8, .f32⟩
  | 120 => ⟨S4096x8, .f32⟩
  | 121 => ⟨S1x4096x1x8, .f32⟩
  | 122 => ⟨S4x4096x8x8, .f32⟩
  | 123 => ⟨S4x4096x8x8, .f32⟩
  | 124 => ⟨S4x4096x8x8, .f32⟩
  | 125 => ⟨S4x4096x8x8, .f32⟩
  | 126 => ⟨S4x4096x8x8, .f32⟩
  | 127 => ⟨S4x4096x8x8, .f32⟩
  | _ => ⟨S4x4096x1024, .f32⟩

abbrev hbmTy0_1 (i : Nat) : BufTy := match i % 128 with
  | 0 => ⟨S4x4096x8x8, .f32⟩
  | 1 => ⟨S4x4096x8x8, .f32⟩
  | 2 => ⟨S4x4096x8x8, .f32⟩
  | 3 => ⟨S4x4096x8x8, .f32⟩
  | 4 => ⟨S4x4096x8x8, .f32⟩
  | 5 => ⟨S4x4096x8x8, .f32⟩
  | 6 => ⟨S4x4096x8x16, .f32⟩
  | 7 => ⟨S4x4096x8x48, .f32⟩
  | 8 => ⟨S4x4096x8x64, .f32⟩
  | 9 => ⟨S4x16x256x8x64, .f32⟩
  | 10 => ⟨S_, .f32⟩
  | 11 => ⟨S4x16x8x64, .f32⟩
  | 12 => ⟨S_, .f32⟩
  | 13 => ⟨S4x16x8x64, .f32⟩
  | 14 => ⟨S4x16x8x64, .f32⟩
  | 15 => ⟨S_, .f32⟩
  | 16 => ⟨S4x4096x8x64, .f32⟩
  | 17 => ⟨S4x4096x8x64, .f32⟩
  | 18 => ⟨S16384x512, .f32⟩
  | 19 => ⟨S16384x512, .bf16⟩
  | 20 => ⟨S64x256x512, .f32⟩
  | 21 => ⟨S64x512x256, .f32⟩
  | 22 => ⟨S64x512x256, .bf16⟩
  | 23 => ⟨S16384x512, .f32⟩
  | 24 => ⟨S16384x512, .bf16⟩
  | 25 => ⟨S_, .f32⟩
  | 26 => ⟨S4x4096x512, .f32⟩
  | 27 => ⟨S4x4096x512, .f32⟩
  | 28 => ⟨S16384x512, .f32⟩
  | 29 => ⟨S16384x512, .bf16⟩
  | 30 => ⟨S64x256x512, .f32⟩
  | 31 => ⟨S64x512x256, .f32⟩
  | 32 => ⟨S64x512x256, .bf16⟩
  | 33 => ⟨S16384x512, .f32⟩
  | 34 => ⟨S16384x512, .bf16⟩
  | 35 => ⟨S4x4096x512, .f32⟩
  | 36 => ⟨S4x512x4096, .f32⟩
  | 37 => ⟨S1x4x512x4096, .f32⟩
  | 38 => ⟨S2x4x512x4096, .f32⟩
  | 39 => ⟨S4x512x4096, .f32⟩
  | 40 => ⟨S1x4x512x4096, .f32⟩
  | 41 => ⟨S2x4x512x4096, .f32⟩
  | 42 => ⟨S4x512x4096, .f32⟩
  | 43 => ⟨S1x4x512x4096, .f32⟩
  | 44 => ⟨S2x4x512x4096, .f32⟩
  | 45 => ⟨S4x512x4096, .f32⟩
  | 46 => ⟨S1x4x512x4096, .f32⟩
  | 47 => ⟨S2x4x512x4096, .f32⟩
  | 48 => ⟨S4x4096x512, .f32⟩
  | 49 => ⟨S4x4096x512, .f32⟩
  | 50 => ⟨S_, .f32⟩
  | 51 => ⟨S4x4096x512, .f32⟩
  | 52 => ⟨S4x4096x512, .f32⟩
  | 53 => ⟨S_, .f32⟩
  | 54 => ⟨S4x4096x512, .f32⟩
  | 55 => ⟨S4x4096x512, .f32⟩
  | 56 => ⟨S4x4096x512, .f32⟩
  | 57 => ⟨S16384x512, .f32⟩
  | 58 => ⟨S16384x512, .bf16⟩
  | 59 => ⟨S4x4096x512, .f32⟩
  | 60 => ⟨S4x4096x512, .f32⟩
  | 61 => ⟨S_, .f32⟩
  | 62 => ⟨S4x4096x512, .f32⟩
  | 63 => ⟨S4x4096x512, .f32⟩
  | 64 => ⟨S_, .f32⟩
  | 65 => ⟨S4x4096x512, .f32⟩
  | 66 => ⟨S4x4096x512, .f32⟩
  | 67 => ⟨S4x4096x512, .f32⟩
  | 68 => ⟨S16384x512, .f32⟩
  | 69 => ⟨S16384x512, .bf16⟩
  | 70 => ⟨S1x1x2048, .f32⟩
  | 71 => ⟨S4x4096x2048, .f32⟩
  | 72 => ⟨S4x4096x2048, .f32⟩
  | 73 => ⟨S4x4096x2048, .f32⟩
  | 74 => ⟨S4x4096x2048, .f32⟩
  | 75 => ⟨S_, .f32⟩
  | 76 => ⟨S4x4096x2048, .f32⟩
  | 77 => ⟨S4x4096x2048, .f32⟩
  | 78 => ⟨S_, .f32⟩
  | 79 => ⟨S4x4096x2048, .f32⟩
  | 80 => ⟨S4x4096x2048, .f32⟩
  | 81 => ⟨S16384x2048, .f32⟩
  | 82 => ⟨S16384x2048, .bf16⟩
  | 83 => ⟨S64x1x512, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_5 : Ref sig .tc := ⟨.hbm, 52, rfl⟩
abbrev main_v40 : Ref sig .tc := ⟨.hbm, 53, rfl⟩
abbrev main_v41 : Ref sig .tc := ⟨.hbm, 54, rfl⟩
abbrev main_cst_6 : Ref sig .tc := ⟨.hbm, 55, rfl⟩
abbrev main_v42 : Ref sig .tc := ⟨.hbm, 56, rfl⟩
abbrev main_v43 : Ref sig .tc := ⟨.hbm, 57, rfl⟩
abbrev main_cst_7 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_cst_8 : Ref sig .tc := ⟨.hbm, 87, rfl⟩
abbrev main_v72 : Ref sig .tc := ⟨.hbm, 88, rfl⟩
abbrev main_v73 : Ref sig .tc := ⟨.hbm, 89, rfl⟩
abbrev main_cst_9 : Ref sig .tc := ⟨.hbm, 90, rfl⟩
abbrev main_v74 : Ref sig .tc := ⟨.hbm, 91, rfl⟩
abbrev main_v75 : Ref sig .tc := ⟨.hbm, 92, rfl⟩
abbrev main_cst_10 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_cst_11 : Ref sig .tc := ⟨.hbm, 104, rfl⟩
abbrev main_v86 : Ref sig .tc := ⟨.hbm, 105, rfl⟩
abbrev main_v87 : Ref sig .tc := ⟨.hbm, 106, rfl⟩
abbrev main_cst_12 : Ref sig .tc := ⟨.hbm, 107, rfl⟩
abbrev main_v88 : Ref sig .tc := ⟨.hbm, 108, rfl⟩
abbrev main_v89 : Ref sig .tc := ⟨.hbm, 109, rfl⟩
abbrev main_cst_13 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_cst_14 : Ref sig .tc := ⟨.hbm, 138, rfl⟩
abbrev main_v117 : Ref sig .tc := ⟨.hbm, 139, rfl⟩
abbrev main_cst_15 : Ref sig .tc := ⟨.hbm, 140, rfl⟩
abbrev main_v118 : Ref sig .tc := ⟨.hbm, 141, rfl⟩
abbrev main_v119 : Ref sig .tc := ⟨.hbm, 142, rfl⟩
abbrev main_cst_16 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_cst_17 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_v150 : Ref sig .tc := ⟨.hbm, 175, rfl⟩
abbrev main_call0_v0 : Ref sig .tc := ⟨.hbm, 176, rfl⟩
abbrev main_call0_v1 : Ref sig .tc := ⟨.hbm, 177, rfl⟩
abbrev main_call0_cst : Ref sig .tc := ⟨.hbm, 178, rfl⟩
abbrev main_call0_v2 : Ref sig .tc := ⟨.hbm, 179, rfl⟩
abbrev main_call0_v3 : Ref sig .tc := ⟨.hbm, 180, rfl⟩
abbrev main_call0_cst_0 : Ref sig .tc := ⟨.hbm, 181, rfl⟩
abbrev main_call0_v4 : Ref sig .tc := ⟨.hbm, 182, rfl⟩
abbrev main_call0_v5 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_call1_v0 : Ref sig .tc := ⟨.hbm, 187, rfl⟩
abbrev main_call1_v1 : Ref sig .tc := ⟨.hbm, 188, rfl⟩
abbrev main_call1_cst : Ref sig .tc := ⟨.hbm, 189, rfl⟩
abbrev main_call1_v2 : Ref sig .tc := ⟨.hbm, 190, rfl⟩
abbrev main_call1_v3 : Ref sig .tc := ⟨.hbm, 191, rfl⟩
abbrev main_call1_cst_0 : Ref sig .tc := ⟨.hbm, 192, rfl⟩
abbrev main_call1_v4 : Ref sig .tc := ⟨.hbm, 193, rfl⟩
abbrev main_call1_v5 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_cst_18 : Ref sig .tc := ⟨.hbm, 203, rfl⟩
abbrev main_v162 : Ref sig .tc := ⟨.hbm, 204, rfl⟩
abbrev main_v163 : Ref sig .tc := ⟨.hbm, 205, rfl⟩
abbrev main_cst_19 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩

abbrev nD : Nat := 1
abbrev τ : Topo := Topo.v7x

variable {F : FTy → Type} [FloatOps F]
-- ==== Kernel3.lean ====
abbrev S4x4096x1024 : Shape := ⟨3, ![4, 4096, 1024]⟩
abbrev S4x4096x512 : Shape := ⟨3, ![4, 4096, 512]⟩
abbrev S4x4096x2048 : Shape := ⟨3, ![4, 4096, 2048]⟩
abbrev S512x1024 : Shape := ⟨2, ![512, 1024]⟩
abbrev S1024x1024 : Shape := ⟨2, ![1024, 1024]⟩
abbrev S16384x1024 : Shape := ⟨2, ![16384, 1024]⟩
abbrev S16384x512 : Shape := ⟨2, ![16384, 512]⟩
abbrev S16384x2048 : Shape := ⟨2, ![16384, 2048]⟩
abbrev S512x512 : Shape := ⟨2, ![512, 512]⟩
abbrev S512x2048 : Shape := ⟨2, ![512, 2048]⟩

abbrev nBuf : Space → Nat
  | .hbm => 24
  | .vmem => 17
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .f32⟩
  | .hbm, ⟨2, _⟩ => ⟨S4x4096x512, .f32⟩
  | .hbm, ⟨3, _⟩ => ⟨S4x4096x512, .f32⟩
  | .hbm, ⟨4, _⟩ => ⟨S4x4096x512, .f32⟩
  | .hbm, ⟨5, _⟩ => ⟨S4x4096x2048, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S512x1024, .bf16⟩
  | .hbm, ⟨10, _⟩ => ⟨S512x1024, .bf16⟩
  | .hbm, ⟨11, _⟩ => ⟨S1024x1024, .bf16⟩
  | .hbm, ⟨12, _⟩ => ⟨S16384x1024, .f32⟩
  | .hbm, ⟨13, _⟩ => ⟨S16384x512, .f32⟩
  | .hbm, ⟨14, _⟩ => ⟨S16384x512, .bf16⟩
  | .hbm, ⟨15, _⟩ => ⟨S16384x512, .f32⟩
  | .hbm, ⟨16, _⟩ => ⟨S16384x512, .bf16⟩
  | .hbm, ⟨17, _⟩ => ⟨S16384x512, .f32⟩
  | .hbm, ⟨18, _⟩ => ⟨S16384x512, .bf16⟩
  | .hbm, ⟨19, _⟩ => ⟨S16384x512, .f32⟩
  | .hbm, ⟨20, _⟩ => ⟨S16384x512, .bf16⟩
  | .hbm, ⟨21, _⟩ => ⟨S16384x2048, .f32⟩
  | .hbm, ⟨22, _⟩ => ⟨S16384x2048, .bf16⟩
  | .hbm, ⟨23, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x2048, .bf16⟩
  | .local _ .vmem, ⟨11, _⟩ => ⟨S512x2048, .bf16⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S512x1024, .f32⟩
  | .local _ .vmem, ⟨16, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S4x4096x1024 : Shape := ⟨3, ![4, 4096, 1024]⟩
abbrev S4x4096x512 : Shape := ⟨3, ![4, 4096, 512]⟩
abbrev S4x4096x2048 : Shape := ⟨3, ![4, 4096, 2048]⟩
abbrev S512x1024 : Shape := ⟨2, ![512, 1024]⟩
abbrev S1024x1024 : Shape := ⟨2, ![1024, 1024]⟩
abbrev S4x4096x2x1024 : Shape := ⟨4, ![4, 4096, 2, 1024]⟩
abbrev S4x4096x1x1024 : Shape := ⟨4, ![4, 4096, 1, 1024]⟩
abbrev S16384x1024 : Shape := ⟨2, ![16384, 1024]⟩

abbrev nBuf : Space → Nat
  | .hbm => 24
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .f32⟩
  | .hbm, ⟨2, _⟩ => ⟨S4x4096x512, .f32⟩
  | .hbm, ⟨3, _⟩ => ⟨S4x4096x512, .f32⟩
  | .hbm, ⟨4, _⟩ => ⟨S4x4096x512, .f32⟩
  | .hbm, ⟨5, _⟩ => ⟨S4x4096x2048, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S4x4096x512, .f32⟩
  | .hbm, ⟨10, _⟩ => ⟨S4x4096x512, .f32⟩
  | .hbm, ⟨11, _⟩ => ⟨S4x4096x2x1024, .f32⟩
  | .hbm, ⟨12, _⟩ => ⟨S4x4096x1x1024, .f32⟩
  | .hbm, ⟨13, _⟩ => ⟨S4x4096x1024, .f32⟩
  | .hbm, ⟨14, _⟩ => ⟨S4x4096x1024, .f32⟩
  | .hbm, ⟨15, _⟩ => ⟨S4x4096x1024, .f32⟩
  | .hbm, ⟨16, _⟩ => ⟨S4x4096x1x1024, .f32⟩
  | .hbm, ⟨17, _⟩ => ⟨S4x4096x1024, .f32⟩
  | .hbm, ⟨18, _⟩ => ⟨S4x4096x1024, .f32⟩
  | .hbm, ⟨19, _⟩ => ⟨S4x4096x1024, .f32⟩
  | .hbm, ⟨20, _⟩ => ⟨S4x4096x1024, .f32⟩
  | .hbm, ⟨21, _⟩ => ⟨S4x4096x1024, .f32⟩
  | .hbm, ⟨22, _⟩ => ⟨S4x4096x1024, .f32⟩
  | .hbm, ⟨23, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Kernel4.lean ====
abbrev S32x1x1024 : Shape := ⟨3, ![32, 1, 1024]⟩
abbrev S1024 : Shape := ⟨1, ![1024]⟩
abbrev S1024x6144 : Shape := ⟨2, ![1024, 6144]⟩
abbrev S2048 : Shape := ⟨1, ![2048]⟩
abbrev S64 : Shape := ⟨1, ![64]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S32 : Shape := ⟨1, ![32]⟩
abbrev S8 : Shape := ⟨1, ![8]⟩
abbrev S32x1 : Shape := ⟨2, ![32, 1]⟩
abbrev S1x8 : Shape := ⟨2, ![1, 8]⟩
abbrev S32x8 : Shape := ⟨2, ![32, 8]⟩
abbrev S32x48 : Shape := ⟨2, ![32, 48]⟩
abbrev S32x64 : Shape := ⟨2, ![32, 64]⟩
abbrev S1x32x1x64 : Shape := ⟨4, ![1, 32, 1, 64]⟩
abbrev S1x32x2x64 : Shape := ⟨4, ![1, 32, 2, 64]⟩
abbrev S32x128 : Shape := ⟨2, ![32, 128]⟩
abbrev S1x1024 : Shape := ⟨2, ![1, 1024]⟩
abbrev S1x2048 : Shape := ⟨2, ![1, 2048]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S32x1024 : Shape := ⟨2, ![32, 1024]⟩
abbrev S32x512 : Shape := ⟨2, ![32, 512]⟩
abbrev S32x2048 : Shape := ⟨2, ![32, 2048]⟩
abbrev S1024x512 : Shape := ⟨2, ![1024, 512]⟩
abbrev S32x256 : Shape := ⟨2, ![32, 256]⟩
abbrev S1024x2048 : Shape := ⟨2, ![1024, 2048]⟩

abbrev nBuf : Space → Nat
  | .hbm => 92
  | .vmem => 19
  | .smem => 0
  | _ => 0

abbrev bufTy : (tb : Table) → Fin (tcTables nBuf tb) → BufTy
  | .hbm, ⟨0, _⟩ => ⟨S32x1x1024, .f32⟩
  | .hbm, ⟨1, _⟩ => ⟨S1024, .f32⟩
  | .hbm, ⟨2, _⟩ => ⟨S1024x6144, .f32⟩
  | .hbm, ⟨3, _⟩ => ⟨S2048, .f32⟩
  | .hbm, ⟨4, _⟩ => ⟨S64, .f32⟩
  | .hbm, ⟨5, _⟩ => ⟨S64, .f32⟩
  | .hbm, ⟨6, _⟩ => ⟨S256, .i32⟩
  | .hbm, ⟨7, _⟩ => ⟨S_, .i32⟩
  | .hbm, ⟨8, _⟩ => ⟨S_, .i32⟩
  | .hbm, ⟨9, _⟩ => ⟨S256, .i32⟩
  | .hbm, ⟨10, _⟩ => ⟨S256, .i32⟩
  | .hbm, ⟨11, _⟩ => ⟨S256, .i32⟩
  | .hbm, ⟨12, _⟩ => ⟨S_, .i32⟩
  | .hbm, ⟨13, _⟩ => ⟨S256, .i32⟩
  | .hbm, ⟨14, _⟩ => ⟨S256, .i1⟩
  | .hbm, ⟨15, _⟩ => ⟨S256, .i32⟩
  | .hbm, ⟨16, _⟩ => ⟨S256, .i32⟩
  | .hbm, ⟨17, _⟩ => ⟨S_, .i32⟩
  | .hbm, ⟨18, _⟩ => ⟨S256, .i32⟩
  | .hbm, ⟨19, _⟩ => ⟨S256, .i1⟩
  | .hbm, ⟨20, _⟩ => ⟨S256, .i1⟩
  | .hbm, ⟨21, _⟩ => ⟨S_, .i32⟩
  | .hbm, ⟨22, _⟩ => ⟨S256, .i32⟩
  | .hbm, ⟨23, _⟩ => ⟨S256, .i32⟩
  | .hbm, ⟨24, _⟩ => ⟨S256, .i32⟩
  | .hbm, ⟨25, _⟩ => ⟨S256x1, .i32⟩
  | .hbm, ⟨26, _⟩ => ⟨S1x256, .i32⟩
  | .hbm, ⟨27, _⟩ => ⟨S256x256, .i32⟩
  | .hbm, ⟨28, _⟩ => ⟨S256x256, .i32⟩
  | .hbm, ⟨29, _⟩ => ⟨S256x256, .i1⟩
  | .hbm, ⟨30, _⟩ => ⟨S256x256, .bf16⟩
  | .hbm, ⟨31, _⟩ => ⟨S_, .f32⟩
  | .hbm, ⟨32, _⟩ => ⟨S32, .f32⟩
  | .hbm, ⟨33, _⟩ => ⟨S8, .f32⟩
  | .hbm, ⟨34, _⟩ => ⟨S8, .f32⟩
  | .hbm, ⟨35, _⟩ => ⟨S_, .f32⟩
  | .hbm, ⟨36, _⟩ => ⟨S8, .f32⟩
  | .hbm, ⟨37, _⟩ => ⟨S8, .f32⟩
  | .hbm, ⟨38, _⟩ => ⟨S_, .f32⟩
  | .hbm, ⟨39, _⟩ => ⟨S8, .f32⟩
  | .hbm, ⟨40, _⟩ => ⟨S8, .f32⟩
  | .hbm, ⟨41, _⟩ => ⟨S_, .f32⟩
  | .hbm, ⟨42, _⟩ => ⟨S8, .f32⟩
  | .hbm, ⟨43, _⟩ => ⟨S8, .f32⟩
  | .hbm, ⟨44, _⟩ => ⟨S32x1, .f32⟩
  | .hbm, ⟨45, _⟩ => ⟨S1x8, .f32⟩
  | .hbm, ⟨46, _⟩ => ⟨S32x8, .f32⟩
  | .hbm, ⟨47, _⟩ => ⟨S32x8, .f32⟩
  | .hbm, ⟨48, _⟩ => ⟨S32x8, .f32⟩
  | .hbm, ⟨49, _⟩ => ⟨S32x8, .f32⟩
  | .hbm, ⟨50, _⟩ => ⟨S32x8, .f32⟩
  | .hbm, ⟨51, _⟩ => ⟨S_, .f32⟩
  | .hbm, ⟨52, _⟩ => ⟨S32x48, .f32⟩
  | .hbm, ⟨53, _⟩ => ⟨S_, .f32⟩
  | .hbm, ⟨54, _⟩ => ⟨S32x8, .f32⟩
  | .hbm, ⟨55, _⟩ => ⟨S_, .f32⟩
  | .hbm, ⟨56, _⟩ => ⟨S32x48, .f32⟩
  | .hbm, ⟨57, _⟩ => ⟨S32x48, .f32⟩
  | .hbm, ⟨58, _⟩ => ⟨S32x64, .f32⟩
  | .hbm, ⟨59, _⟩ => ⟨S32x8, .f32⟩
  | .hbm, ⟨60, _⟩ => ⟨S32x64, .f32⟩
  | .hbm, ⟨61, _⟩ => ⟨S32x64, .f32⟩
  | .hbm, ⟨62, _⟩ => ⟨S1x32x1x64, .f32⟩
  | .hbm, ⟨63, _⟩ => ⟨S1x32x2x64, .f32⟩
  | .hbm, ⟨64, _⟩ => ⟨S32x128, .f32⟩
  | .hbm, ⟨65, _⟩ => ⟨S1x32x1x64, .f32⟩
  | .hbm, ⟨66, _⟩ => ⟨S1x32x2x64, .f32⟩
  | .hbm, ⟨67, _⟩ => ⟨S32x128, .f32⟩
  | .hbm, ⟨68, _⟩ => ⟨S1x32x1x64, .f32⟩
  | .hbm, ⟨69, _⟩ => ⟨S1x32x2x64, .f32⟩
  | .hbm, ⟨70, _⟩ => ⟨S32x128, .f32⟩
  | .hbm, ⟨71, _⟩ => ⟨S1x1024, .f32⟩
  | .hbm, ⟨72, _⟩ => ⟨S1024x6144, .bf16⟩
  | .hbm, ⟨73, _⟩ => ⟨S1x2048, .f32⟩
  | .hbm, ⟨74, _⟩ => ⟨S1x64, .f32⟩
  | .hbm, ⟨75, _⟩ => ⟨S8x64, .f32⟩
  | .hbm, ⟨76, _⟩ => ⟨S512, .f32⟩
  | .hbm, ⟨77, _⟩ => ⟨S1x512, .f32⟩
  | .hbm, ⟨78, _⟩ => ⟨S1x64, .f32⟩
  | .hbm, ⟨79, _⟩ => ⟨S8x64, .f32⟩
  | .hbm, ⟨80, _⟩ => ⟨S512, .f32⟩
  | .hbm, ⟨81, _⟩ => ⟨S1x512, .f32⟩
  | .hbm, ⟨82, _⟩ => ⟨S32x1024, .f32⟩
  | .hbm, ⟨83, _⟩ => ⟨S32x512, .f32⟩
  | .hbm, ⟨84, _⟩ => ⟨S32x512, .f32⟩
  | .hbm, ⟨85, _⟩ => ⟨S32x512, .f32⟩
  | .hbm, ⟨86, _⟩ => ⟨S32x512, .f32⟩
  | .hbm, ⟨87, _⟩ => ⟨S32x512, .f32⟩
  | .hbm, ⟨88, _⟩ => ⟨S32x512, .f32⟩
  | .hbm, ⟨89, _⟩ => ⟨S32x512, .bf16⟩
  | .hbm, ⟨90, _⟩ => ⟨S32x512, .bf16⟩
  | .hbm, ⟨91, _⟩ => ⟨S32x2048, .bf16⟩
  | .local _ .vmem, ⟨0, _⟩ => ⟨S32x1024, .f32⟩
  | .local _ .vmem, ⟨1, _⟩ => ⟨S1x1024, .f32⟩
  | .local _ .vmem, ⟨2, _⟩ => ⟨S1024x6144, .bf16⟩
  | .local _ .vmem, ⟨3, _⟩ => ⟨S1x2048, .f32⟩
  | .local _ .vmem, ⟨4, _⟩ => ⟨S1x512, .f32⟩
  | .local _ .vmem, ⟨5, _⟩ => ⟨S1x512, .f32⟩
  | .local _ .vmem, ⟨6, _⟩ => ⟨S32x128, .f32⟩
  | .local _ .vmem, ⟨7, _⟩ => ⟨S32x128, .f32⟩
  | .local _ .vmem, ⟨8, _⟩ => ⟨S32x128, .f32⟩
  | .local _ .vmem, ⟨9, _⟩ => ⟨S256x256, .bf16⟩
  | .local _ .vmem, ⟨10, _⟩ => ⟨S32x512, .f32⟩
  | .local _ .vmem, ⟨11, _⟩ => ⟨S32x512, .f32⟩
  | .local _ .vmem, ⟨12, _⟩ => ⟨S32x512, .f32⟩
  | .local _ .vmem, ⟨13, _⟩ => ⟨S32x512, .f32⟩
  | .local _ .vmem, ⟨14, _⟩ => ⟨S32x512, .f32⟩
  | .local _ .vmem, ⟨15, _⟩ => ⟨S32x512, .f32⟩
  | .local _ .vmem, ⟨16, _⟩ => ⟨S32x512, .bf16⟩
  | .local _ .vmem, ⟨17, _⟩ => ⟨S32x512, .bf16⟩
  | .local _ .vmem, ⟨18, _⟩ => ⟨S32x2048, .bf16⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_cst : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst_0 : Ref sig .tc := ⟨.hbm, 35, rfl⟩
abbrev main_v11 : Ref sig .tc := ⟨.hbm, 36, rfl⟩
abbrev main_v12 : Ref sig .tc := ⟨.hbm, 37, rfl⟩
abbrev main_cst_1 : Ref sig .tc := ⟨.hbm, 38, rfl⟩
abbrev main_v13 : Ref sig .tc := ⟨.hbm, 39, rfl⟩
abbrev main_v14 : Ref sig .tc := ⟨.hbm, 40, rfl⟩
abbrev main_cst_2 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_cst_3 : Ref sig .tc := ⟨.hbm, 51, rfl⟩
abbrev main_v24 : Ref sig .tc := ⟨.hbm, 52, rfl⟩
abbrev main_cst_4 : Ref sig .tc := ⟨.hbm, 53, rfl⟩
abbrev main_v25 : Ref sig .tc := ⟨.hbm, 54, rfl⟩
abbrev main_cst_5 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53_0 : Ref sig .tc := ⟨.hbm, 83, rfl⟩
abbrev main_v53_1 : Ref sig .tc := ⟨.hbm, 84, rfl⟩
abbrev main_v53_2 : Ref sig .tc := ⟨.hbm, 85, rfl⟩
abbrev main_v53_3 : Ref sig .tc := ⟨.hbm, 86, rfl⟩
abbrev main_v53_4 : Ref sig .tc := ⟨.hbm, 87, rfl⟩
abbrev main_v53_5 : Ref sig .tc := ⟨.hbm, 88, rfl⟩
abbrev main_v53_6 : Ref sig .tc := ⟨.hbm, 89, rfl⟩
abbrev main_v53_7 : Ref sig .tc := ⟨.hbm, 90, rfl⟩
abbrev main_v53_8 : Ref sig .tc := ⟨.hbm, 91, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S32x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S32x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S32x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S32x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S32x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S32x512 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S32x512 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]

abbrev stage0_18 : Fin 1 → Memref sig .tc .vmem S32x2048 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true]
-- ==== Reference4Ideal.lean ====
abbrev S32x1x1024 : Shape := ⟨3, ![32, 1, 1024]⟩
abbrev S1024 : Shape := ⟨1, ![1024]⟩
abbrev S1024x6144 : Shape := ⟨2, ![1024, 6144]⟩
abbrev S2048 : Shape := ⟨1, ![2048]⟩
abbrev S64 : Shape := ⟨1, ![64]⟩
abbrev S_ : Shape := ⟨0, ![]⟩
abbrev S32x1 : Shape := ⟨2, ![32, 1]⟩
abbrev S32x1x1 : Shape := ⟨3, ![32, 1, 1]⟩
abbrev S1x1x1024 : Shape := ⟨3, ![1, 1, 1024]⟩
abbrev S32x1x6144 : Shape := ⟨3, ![32, 1, 6144]⟩
abbrev S32x1x512 : Shape := ⟨3, ![32, 1, 512]⟩
abbrev S32x1x2048 : Shape := ⟨3, ![32, 1, 2048]⟩
abbrev S1 : Shape := ⟨1, ![1]⟩
abbrev S32x1x8x64 : Shape := ⟨4, ![32, 1, 8, 64]⟩
abbrev S32x1x8 : Shape := ⟨3, ![32, 1, 8]⟩
abbrev S32x1x8x1 : Shape := ⟨4, ![32, 1, 8, 1]⟩
abbrev S1x1x1x64 : Shape := ⟨4, ![1, 1, 1, 64]⟩
abbrev S8 : Shape := ⟨1, ![8]⟩
abbrev S1x1 : Shape := ⟨2, ![1, 1]⟩
abbrev S1x8 : Shape := ⟨2, ![1, 8]⟩
abbrev S1x1x1x8 : Shape := ⟨4, ![1, 1, 1, 8]⟩
abbrev S32x1x8x8 : Shape := ⟨4, ![32, 1, 8, 8]⟩
abbrev S32x1x8x16 : Shape := ⟨4, ![32, 1, 8, 16]⟩
abbrev S32x1x8x48 : Shape := ⟨4, ![32, 1, 8, 48]⟩
abbrev S32x512 : Shape := ⟨2, ![32, 512]⟩
abbrev S1x1x2048 : Shape := ⟨3, ![1, 1, 2048]⟩
abbrev S32x2048 : Shape := ⟨2, ![32, 2048]⟩

abbrev nBuf : Space → Nat
  | .hbm => 185
  | .vmem => 0
  | .smem => 0
  | _ => 0

abbrev hbmTy0_0 (i : Nat) : BufTy := match i % 128 with
  | 0 => ⟨S32x1x1024, .f32⟩
  | 1 => ⟨S1024, .f32⟩
  | 2 => ⟨S1024x6144, .f32⟩
  | 3 => ⟨S2048, .f32⟩
  | 4 => ⟨S64, .f32⟩
  | 5 => ⟨S64, .f32⟩
  | 6 => ⟨S32x1x1024, .f32⟩
  | 7 => ⟨S_, .f32⟩
  | 8 => ⟨S32x1, .f32⟩
  | 9 => ⟨S32x1x1, .f32⟩
  | 10 => ⟨S_, .f32⟩
  | 11 => ⟨S32x1x1, .f32⟩
  | 12 => ⟨S32x1x1, .f32⟩
  | 13 => ⟨S_, .f32⟩
  | 14 => ⟨S32x1x1, .f32⟩
  | 15 => ⟨S32x1x1, .f32⟩
  | 16 => ⟨S32x1x1, .f32⟩
  | 17 => ⟨S32x1x1024, .f32⟩
  | 18 => ⟨S32x1x1024, .f32⟩
  | 19 => ⟨S1x1x1024, .f32⟩
  | 20 => ⟨S32x1x1024, .f32⟩
  | 21 => ⟨S32x1x1024, .f32⟩
  | 22 => ⟨S32x1x6144, .f32⟩
  | 23 => ⟨S32x1x512, .f32⟩
  | 24 => ⟨S32x1x512, .f32⟩
  | 25 => ⟨S32x1x512, .f32⟩
  | 26 => ⟨S32x1x512, .f32⟩
  | 27 => ⟨S32x1x512, .f32⟩
  | 28 => ⟨S32x1x512, .f32⟩
  | 29 => ⟨S32x1x512, .f32⟩
  | 30 => ⟨S32x1x512, .f32⟩
  | 31 => ⟨S32x1x2048, .f32⟩
  | 32 => ⟨S1, .f32⟩
  | 33 => ⟨S_, .f32⟩
  | 34 => ⟨S1, .f32⟩
  | 35 => ⟨S1, .f32⟩
  | 36 => ⟨S32x1x8x64, .f32⟩
  | 37 => ⟨S32x1x8x64, .f32⟩
  | 38 => ⟨S_, .f32⟩
  | 39 => ⟨S32x1x8, .f32⟩
  | 40 => ⟨S32x1x8x1, .f32⟩
  | 41 => ⟨S_, .f32⟩
  | 42 => ⟨S32x1x8x1, .f32⟩
  | 43 => ⟨S32x1x8x1, .f32⟩
  | 44 => ⟨S_, .f32⟩
  | 45 => ⟨S32x1x8x1, .f32⟩
  | 46 => ⟨S32x1x8x1, .f32⟩
  | 47 => ⟨S32x1x8x1, .f32⟩
  | 48 => ⟨S32x1x8x64, .f32⟩
  | 49 => ⟨S32x1x8x64, .f32⟩
  | 50 => ⟨S1x1x1x64, .f32⟩
  | 51 => ⟨S32x1x8x64, .f32⟩
  | 52 => ⟨S32x1x8x64, .f32⟩
  | 53 => ⟨S8, .f32⟩
  | 54 => ⟨S8, .f32⟩
  | 55 => ⟨S_, .f32⟩
  | 56 => ⟨S8, .f32⟩
  | 57 => ⟨S8, .f32⟩
  | 58 => ⟨S_, .f32⟩
  | 59 => ⟨S8, .f32⟩
  | 60 => ⟨S8, .f32⟩
  | 61 => ⟨S_, .f32⟩
  | 62 => ⟨S8, .f32⟩
  | 63 => ⟨S8, .f32⟩
  | 64 => ⟨S1x1, .f32⟩
  | 65 => ⟨S1x8, .f32⟩
  | 66 => ⟨S1x8, .f32⟩
  | 67 => ⟨S1x8, .f32⟩
  | 68 => ⟨S1x8, .f32⟩
  | 69 => ⟨S1x1x1x8, .f32⟩
  | 70 => ⟨S1x8, .f32⟩
  | 71 => ⟨S1x1x1x8, .f32⟩
  | 72 => ⟨S32x1x8x8, .f32⟩
  | 73 => ⟨S32x1x8x8, .f32⟩
  | 74 => ⟨S32x1x8x8, .f32⟩
  | 75 => ⟨S32x1x8x8, .f32⟩
  | 76 => ⟨S32x1x8x8, .f32⟩
  | 77 => ⟨S32x1x8x8, .f32⟩
  | 78 => ⟨S32x1x8x8, .f32⟩
  | 79 => ⟨S32x1x8x8, .f32⟩
  | 80 => ⟨S32x1x8x8, .f32⟩
  | 81 => ⟨S32x1x8x8, .f32⟩
  | 82 => ⟨S32x1x8x8, .f32⟩
  | 83 => ⟨S32x1x8x8, .f32⟩
  | 84 => ⟨S32x1x8x16, .f32⟩
  | 85 => ⟨S32x1x8x48, .f32⟩
  | 86 => ⟨S32x1x8x64, .f32⟩
  | 87 => ⟨S32x1x8x64, .f32⟩
  | 88 => ⟨S32x1x8x64, .f32⟩
  | 89 => ⟨S_, .f32⟩
  | 90 => ⟨S32x1x8, .f32⟩
  | 91 => ⟨S32x1x8x1, .f32⟩
  | 92 => ⟨S_, .f32⟩
  | 93 => ⟨S32x1x8x1, .f32⟩
  | 94 => ⟨S32x1x8x1, .f32⟩
  | 95 => ⟨S_, .f32⟩
  | 96 => ⟨S32x1x8x1, .f32⟩
  | 97 => ⟨S32x1x8x1, .f32⟩
  | 98 => ⟨S32x1x8x1, .f32⟩
  | 99 => ⟨S32x1x8x64, .f32⟩
  | 100 => ⟨S32x1x8x64, .f32⟩
  | 101 => ⟨S1x1x1x64, .f32⟩
  | 102 => ⟨S32x1x8x64, .f32⟩
  | 103 => ⟨S32x1x8x64, .f32⟩
  | 104 => ⟨S8, .f32⟩
  | 105 => ⟨S8, .f32⟩
  | 106 => ⟨S_, .f32⟩
  | 107 => ⟨S8, .f32⟩
  | 108 => ⟨S8, .f32⟩
  | 109 => ⟨S_, .f32⟩
  | 110 => ⟨S8, .f32⟩
  | 111 => ⟨S8, .f32⟩
  | 112 => ⟨S_, .f32⟩
  | 113 => ⟨S8, .f32⟩
  | 114 => ⟨S8, .f32⟩
  | 115 => ⟨S1x1, .f32⟩
  | 116 => ⟨S1x8, .f32⟩
  | 117 => ⟨S1x8, .f32⟩
  | 118 => ⟨S1x8, .f32⟩
  | 119 => ⟨S1x8, .f32⟩
  | 120 => ⟨S1x1x1x8, .f32⟩
  | 121 => ⟨S1x8, .f32⟩
  | 122 => ⟨S1x1x1x8, .f32⟩
  | 123 => ⟨S32x1x8x8, .f32⟩
  | 124 => ⟨S32x1x8x8, .f32⟩
  | 125 => ⟨S32x1x8x8, .f32⟩
  | 126 => ⟨S32x1x8x8, .f32⟩
  | 127 => ⟨S32x1x8x8, .f32⟩
  | _ => ⟨S32x1x1024, .f32⟩

abbrev hbmTy0_1 (i : Nat) : BufTy := match i % 128 with
  | 0 => ⟨S32x1x8x8, .f32⟩
  | 1 => ⟨S32x1x8x8, .f32⟩
  | 2 => ⟨S32x1x8x8, .f32⟩
  | 3 => ⟨S32x1x8x8, .f32⟩
  | 4 => ⟨S32x1x8x8, .f32⟩
  | 5 => ⟨S32x1x8x8, .f32⟩
  | 6 => ⟨S32x1x8x8, .f32⟩
  | 7 => ⟨S32x1x8x16, .f32⟩
  | 8 => ⟨S32x1x8x48, .f32⟩
  | 9 => ⟨S32x1x8x64, .f32⟩
  | 10 => ⟨S_, .f32⟩
  | 11 => ⟨S32x1x8x64, .f32⟩
  | 12 => ⟨S32x1x8x64, .f32⟩
  | 13 => ⟨S32x512, .f32⟩
  | 14 => ⟨S32x512, .f32⟩
  | 15 => ⟨S32x512, .f32⟩
  | 16 => ⟨S_, .f32⟩
  | 17 => ⟨S32x1x512, .f32⟩
  | 18 => ⟨S32x1x512, .f32⟩
  | 19 => ⟨S32x512, .f32⟩
  | 20 => ⟨S32x512, .f32⟩
  | 21 => ⟨S32x512, .f32⟩
  | 22 => ⟨S32x1x512, .f32⟩
  | 23 => ⟨S32x1x512, .f32⟩
  | 24 => ⟨S_, .f32⟩
  | 25 => ⟨S32x1x512, .f32⟩
  | 26 => ⟨S32x1x512, .f32⟩
  | 27 => ⟨S_, .f32⟩
  | 28 => ⟨S32x1x512, .f32⟩
  | 29 => ⟨S32x1x512, .f32⟩
  | 30 => ⟨S32x1x512, .f32⟩
  | 31 => ⟨S32x512, .f32⟩
  | 32 => ⟨S32x512, .bf16⟩
  | 33 => ⟨S32x1x512, .f32⟩
  | 34 => ⟨S32x1x512, .f32⟩
  | 35 => ⟨S_, .f32⟩
  | 36 => ⟨S32x1x512, .f32⟩
  | 37 => ⟨S32x1x512, .f32⟩
  | 38 => ⟨S_, .f32⟩
  | 39 => ⟨S32x1x512, .f32⟩
  | 40 => ⟨S32x1x512, .f32⟩
  | 41 => ⟨S32x1x512, .f32⟩
  | 42 => ⟨S32x512, .f32⟩
  | 43 => ⟨S32x512, .bf16⟩
  | 44 => ⟨S1x1x2048, .f32⟩
  | 45 => ⟨S32x1x2048, .f32⟩
  | 46 => ⟨S32x1x2048, .f32⟩
  | 47 => ⟨S32x1x2048, .f32⟩
  | 48 => ⟨S32x1x2048, .f32⟩
  | 49 => ⟨S_, .f32⟩
  | 50 => ⟨S32x1x2048, .f32⟩
  | 51 => ⟨S32x1x2048, .f32⟩
  | 52 => ⟨S_, .f32⟩
  | 53 => ⟨S32x1x2048, .f32⟩
  | 54 => ⟨S32x1x2048, .f32⟩
  | 55 => ⟨S32x2048, .f32⟩
  | 56 => ⟨S32x2048, .bf16⟩
  | _ => ⟨S32x1x1024, .f32⟩

abbrev hbmTy (i : Nat) : BufTy := match i / 128 with
  | 0 => hbmTy0_0 i
  | 1 => hbmTy0_1 i
  | _ => ⟨S32x1x1024, .f32⟩

abbrev bufTy : (tb : Table) → Fin (tcTables nBuf tb) → BufTy
  | .hbm, ⟨i, _⟩ => hbmTy i
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_6 : Ref sig .tc := ⟨.hbm, 55, rfl⟩
abbrev main_v42 : Ref sig .tc := ⟨.hbm, 56, rfl⟩
abbrev main_v43 : Ref sig .tc := ⟨.hbm, 57, rfl⟩
abbrev main_cst_7 : Ref sig .tc := ⟨.hbm, 58, rfl⟩
abbrev main_v44 : Ref sig .tc := ⟨.hbm, 59, rfl⟩
abbrev main_v45 : Ref sig .tc := ⟨.hbm, 60, rfl⟩
abbrev main_cst_8 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_cst_9 : Ref sig .tc := ⟨.hbm, 89, rfl⟩
abbrev main_v73 : Ref sig .tc := ⟨.hbm, 90, rfl⟩
abbrev main_v74 : Ref sig .tc := ⟨.hbm, 91, rfl⟩
abbrev main_cst_10 : Ref sig .tc := ⟨.hbm, 92, rfl⟩
abbrev main_v75 : Ref sig .tc := ⟨.hbm, 93, rfl⟩
abbrev main_v76 : Ref sig .tc := ⟨.hbm, 94, rfl⟩
abbrev main_cst_11 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_cst_12 : Ref sig .tc := ⟨.hbm, 106, rfl⟩
abbrev main_v87 : Ref sig .tc := ⟨.hbm, 107, rfl⟩
abbrev main_v88 : Ref sig .tc := ⟨.hbm, 108, rfl⟩
abbrev main_cst_13 : Ref sig .tc := ⟨.hbm, 109, rfl⟩
abbrev main_v89 : Ref sig .tc := ⟨.hbm, 110, rfl⟩
abbrev main_v90 : Ref sig .tc := ⟨.hbm, 111, rfl⟩
abbrev main_cst_14 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_cst_15 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_cst_16 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_call0_v0 : Ref sig .tc := ⟨.hbm, 150, rfl⟩
abbrev main_call0_v1 : Ref sig .tc := ⟨.hbm, 151, rfl⟩
abbrev main_call0_cst : Ref sig .tc := ⟨.hbm, 152, rfl⟩
abbrev main_call0_v2 : Ref sig .tc := ⟨.hbm, 153, rfl⟩
abbrev main_call0_v3 : Ref sig .tc := ⟨.hbm, 154, rfl⟩
abbrev main_call0_cst_0 : Ref sig .tc := ⟨.hbm, 155, rfl⟩
abbrev main_call0_v4 : Ref sig .tc := ⟨.hbm, 156, rfl⟩
abbrev main_call0_v5 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_call1_v0 : Ref sig .tc := ⟨.hbm, 161, rfl⟩
abbrev main_call1_v1 : Ref sig .tc := ⟨.hbm, 162, rfl⟩
abbrev main_call1_cst : Ref sig .tc := ⟨.hbm, 163, rfl⟩
abbrev main_call1_v2 : Ref sig .tc := ⟨.hbm, 164, rfl⟩
abbrev main_call1_v3 : Ref sig .tc := ⟨.hbm, 165, rfl⟩
abbrev main_call1_cst_0 : Ref sig .tc := ⟨.hbm, 166, rfl⟩
abbrev main_call1_v4 : Ref sig .tc := ⟨.hbm, 167, rfl⟩
abbrev main_call1_v5 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_cst_17 : Ref sig .tc := ⟨.hbm, 177, rfl⟩
abbrev main_v137 : Ref sig .tc := ⟨.hbm, 178, rfl⟩
abbrev main_v138 : Ref sig .tc := ⟨.hbm, 179, rfl⟩
abbrev main_cst_18 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩

abbrev nD : Nat := 1
abbrev τ : Topo := Topo.v7x

variable {F : FTy → Type} [FloatOps F]
-- ==== Kernel5.lean ====
abbrev S32x1x1024 : Shape := ⟨3, ![32, 1, 1024]⟩
abbrev S32x1x512 : Shape := ⟨3, ![32, 1, 512]⟩
abbrev S32x1x2048 : Shape := ⟨3, ![32, 1, 2048]⟩
abbrev S512x1024 : Shape := ⟨2, ![512, 1024]⟩
abbrev S1024x1024 : Shape := ⟨2, ![1024, 1024]⟩
abbrev S32x1024 : Shape := ⟨2, ![32, 1024]⟩
abbrev S32x512 : Shape := ⟨2, ![32, 512]⟩
abbrev S32x2048 : Shape := ⟨2, ![32, 2048]⟩

abbrev nBuf : Space → Nat
  | .hbm => 22
  | .vmem => 10
  | .smem => 0
  | _ => 0

abbrev bufTy : (tb : Table) → Fin (tcTables nBuf tb) → BufTy
  | .hbm, ⟨0, _⟩ => ⟨S32x1x1024, .f32⟩
  | .hbm, ⟨1, _⟩ => ⟨S32x1x512, .f32⟩
  | .hbm, ⟨2, _⟩ => ⟨S32x1x512, .f32⟩
  | .hbm, ⟨3, _⟩ => ⟨S32x1x512, .f32⟩
  | .hbm, ⟨4, _⟩ => ⟨S32x1x512, .f32⟩
  | .hbm, ⟨5, _⟩ => ⟨S32x1x2048, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S512x1024, .bf16⟩
  | .hbm, ⟨10, _⟩ => ⟨S512x1024, .bf16⟩
  | .hbm, ⟨11, _⟩ => ⟨S1024x1024, .bf16⟩
  | .hbm, ⟨12, _⟩ => ⟨S32x1024, .f32⟩
  | .hbm, ⟨13, _⟩ => ⟨S32x512, .f32⟩
  | .hbm, ⟨14, _⟩ => ⟨S32x512, .f32⟩
  | .hbm, ⟨15, _⟩ => ⟨S32x512, .f32⟩
  | .hbm, ⟨16, _⟩ => ⟨S32x512, .bf16⟩
  | .hbm, ⟨17, _⟩ => ⟨S32x512, .f32⟩
  | .hbm, ⟨18, _⟩ => ⟨S32x512, .bf16⟩
  | .hbm, ⟨19, _⟩ => ⟨S32x2048, .f32⟩
  | .hbm, ⟨20, _⟩ => ⟨S32x2048, .bf16⟩
  | .hbm, ⟨21, _⟩ => ⟨S32x1024, .f32⟩
  | .local _ .vmem, ⟨0, _⟩ => ⟨S32x1024, .f32⟩
  | .local _ .vmem, ⟨1, _⟩ => ⟨S32x512, .f32⟩
  | .local _ .vmem, ⟨2, _⟩ => ⟨S32x512, .f32⟩
  | .local _ .vmem, ⟨3, _⟩ => ⟨S32x512, .bf16⟩
  | .local _ .vmem, ⟨4, _⟩ => ⟨S32x512, .bf16⟩
  | .local _ .vmem, ⟨5, _⟩ => ⟨S32x2048, .bf16⟩
  | .local _ .vmem, ⟨6, _⟩ => ⟨S512x1024, .bf16⟩
  | .local _ .vmem, ⟨7, _⟩ => ⟨S512x1024, .bf16⟩
  | .local _ .vmem, ⟨8, _⟩ => ⟨S1024x1024, .bf16⟩
  | .local _ .vmem, ⟨9, _⟩ => ⟨S32x1024, .f32⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== Reference5Ideal.lean ====
abbrev S32x1x1024 : Shape := ⟨3, ![32, 1, 1024]⟩
abbrev S32x1x512 : Shape := ⟨3, ![32, 1, 512]⟩
abbrev S32x1x2048 : Shape := ⟨3, ![32, 1, 2048]⟩
abbrev S512x1024 : Shape := ⟨2, ![512, 1024]⟩
abbrev S1024x1024 : Shape := ⟨2, ![1024, 1024]⟩
abbrev S32x1x2x1024 : Shape := ⟨4, ![32, 1, 2, 1024]⟩
abbrev S32x1x1x1024 : Shape := ⟨4, ![32, 1, 1, 1024]⟩
abbrev S32x1024 : Shape := ⟨2, ![32, 1024]⟩

abbrev nBuf : Space → Nat
  | .hbm => 24
  | .vmem => 0
  | .smem => 0
  | _ => 0

abbrev bufTy : (tb : Table) → Fin (tcTables nBuf tb) → BufTy
  | .hbm, ⟨0, _⟩ => ⟨S32x1x1024, .f32⟩
  | .hbm, ⟨1, _⟩ => ⟨S32x1x512, .f32⟩
  | .hbm, ⟨2, _⟩ => ⟨S32x1x512, .f32⟩
  | .hbm, ⟨3, _⟩ => ⟨S32x1x512, .f32⟩
  | .hbm, ⟨4, _⟩ => ⟨S32x1x512, .f32⟩
  | .hbm, ⟨5, _⟩ => ⟨S32x1x2048, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S32x1x512, .f32⟩
  | .hbm, ⟨10, _⟩ => ⟨S32x1x512, .f32⟩
  | .hbm, ⟨11, _⟩ => ⟨S32x1x2x1024, .f32⟩
  | .hbm, ⟨12, _⟩ => ⟨S32x1x1x1024, .f32⟩
  | .hbm, ⟨13, _⟩ => ⟨S32x1x1024, .f32⟩
  | .hbm, ⟨14, _⟩ => ⟨S32x1x1024, .f32⟩
  | .hbm, ⟨15, _⟩ => ⟨S32x1x1024, .f32⟩
  | .hbm, ⟨16, _⟩ => ⟨S32x1x1x1024, .f32⟩
  | .hbm, ⟨17, _⟩ => ⟨S32x1x1024, .f32⟩
  | .hbm, ⟨18, _⟩ => ⟨S32x1x1024, .f32⟩
  | .hbm, ⟨19, _⟩ => ⟨S32x1x1024, .f32⟩
  | .hbm, ⟨20, _⟩ => ⟨S32x1x1024, .f32⟩
  | .hbm, ⟨21, _⟩ => ⟨S32x1x1024, .f32⟩
  | .hbm, ⟨22, _⟩ => ⟨S32x1x1024, .f32⟩
  | .hbm, ⟨23, _⟩ => ⟨S32x1024, .f32⟩
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Proof.Common.lean ====
/-
  What the run of the stick-breaking attention call is stated over: the buffers at the region's entry, the windows'
  blocks, the rectangles the body reads and writes, and the two tests of its loop (more blocks to go; some row of some
  head still below the dead mark).
-/
module

public import proofs.«01_k».proof.KernelIdeal
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Frame
public import Idealize.ShloMosaic.Lib.Pipeline.FrameBody
public import Idealize.ShloMosaic.Lib.Tactic
public import Idealize.ShloMosaic.Lib.Claim

@[expose] public section

noncomputable section

namespace Cert.Proof.SB

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Calls are bounded by the trips they have left. -/
abbrev 𝒱₀ : Variants := Variants.nat

/-! ## The buffers when the region is entered -/

/-- Core `c`'s buffers after the host operations that prepare the call's operands. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ :=
  StableHlo.forall_fresh_of_map rfl

theorem V_arg0 (c : Dev nD) : V m c main_arg0 = m ((c : Thread nD τ).loc main_arg0) :=
  StableHlo.after_of_forall_not_mem (b := main_arg0) hostOps0 (fun b => m (c, b)) (List.forall_iff_forall_mem.mp
    (by simp only [hostOps0, List.Forall, StableHlo.nullary_writes, StableHlo.unary_writes, StableHlo.binary_writes, StableHlo.ternary_writes, StableHlo.reshape_writes]; decide))
theorem V_arg1 (c : Dev nD) : V m c main_arg1 = m ((c : Thread nD τ).loc main_arg1) :=
  StableHlo.after_of_forall_not_mem (b := main_arg1) hostOps0 (fun b => m (c, b)) (List.forall_iff_forall_mem.mp
    (by simp only [hostOps0, List.Forall, StableHlo.nullary_writes, StableHlo.unary_writes, StableHlo.binary_writes, StableHlo.ternary_writes, StableHlo.reshape_writes]; decide))
theorem V_arg2 (c : Dev nD) : V m c main_arg2 = m ((c : Thread nD τ).loc main_arg2) :=
  StableHlo.after_of_forall_not_mem (b := main_arg2) hostOps0 (fun b => m (c, b)) (List.forall_iff_forall_mem.mp
    (by simp only [hostOps0, List.Forall, StableHlo.nullary_writes, StableHlo.unary_writes, StableHlo.binary_writes, StableHlo.ternary_writes, StableHlo.reshape_writes]; decide))

set_option maxHeartbeats 4000000 in
theorem hmain : Pipeline.HMain (Ix := Unit) (Name := ℕ) (U := UR sig nD τ) (Lvl := ℕ) (cfgs (F := F)) 0 defs₀ 𝒱₀ m main (V m) :=
  Pipeline.hmain_prefix cfgs 0 defs₀ 𝒱₀ m main hostOps0 hostOps0_sub hostOps0_fresh main_chain

/-- Window `w`'s block at point `t`, read off its array. -/
def iblk (c : Dev nD) (w : Fin (cfg0 (F := F)).W) (t : Fin (cfg0 (F := F)).N) :
    (((cfg0 (F := F)).win w).xblock ((cfg0 (F := F)).grid.coords t)).Idx → Elt F ((cfg0 (F := F)).win w).elt :=
  (((cfg0 (F := F)).win w).blk t).view.read (Elt F) (V m c (Pipeline.arrRef spec0 w))

theorem before_0_of {c : Dev nD} (dat : Dat τ (Elt F) Unit ℕ (UR sig nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ (cfg0 (F := F)) c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ (cfg0 (F := F)) c) (hA : dat.A 2 = V m c (Pipeline.arrRef spec0 2))
    (hafter : ∀ t, dat.after 2 t = iblk m c 2 t) (t : Fin (cfg0 (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ (cfg0 (F := F)) c) (hA : dat.A 3 = V m c (Pipeline.arrRef spec0 3))
    (hafter : ∀ t, dat.after 3 t = iblk m c 3 t) (t : Fin (cfg0 (F := F)).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The loop's tests -/

/-- Some row of some head has not yet gone past the dead mark: the loop's test on the four tails. -/
def live (t0 t1 t2 t3 : FVec F S256x1 .f32) : Prop :=
  Scalar.cmpf .olt (k0_pay3 t0 t1 t2 t3) (Named.named κ "dead" 0x42D00000#32 : F .f32) = 1#1

instance (t0 t1 t2 t3 : FVec F S256x1 .f32) : Decidable (live t0 t1 t2 t3) := by unfold live; infer_instance

theorem chk_of_lt : ∀ k : Fin 16, k0_chk1 (BitVec.ofNat 32 k.val) := by decide +kernel

/-! ## One block of keys for one head -/

/-- The tail after a block: what was seen, with the block's own sum. -/
def stepT (q : FVec F S256x128 .bf16) (kt : Vec F S1x1x128x256 .bf16) (t : FVec F S256x1 .f32) : FVec F S256x1 .f32 :=
  k0_pay88 t (k0_pay86 q kt)

/-- The head's running output after a block. -/
def stepA (q : FVec F S256x128 .bf16) (kt : Vec F S1x1x128x256 .bf16) (u2 : Vec F S512x256 .bf16) (v : Vec F S1x256x128 .bf16)
    (t : FVec F S256x1 .f32) (a : Vec F S1x256x128 .f32) : Vec F S1x256x128 .f32 :=
  k0_pay89 t (k0_pay82 q kt) (k0_pay86 q kt) (k0_pay87 q kt) u2 a v

/-- Block `k` of the transposed keys, the lanes of head pair `p`. -/
def ktAt (x4 : Vec F S1x16x256x256 .bf16) (k : Fin 16) (p : Fin 2) : Vec F S1x1x128x256 .bf16 :=
  match p with
  | 0 => View.ld x4 (Rect.unit (k0_off9 (BitVec.ofNat 32 k.val)) S1x1x128x256.size (k0_off9_inb _ (chk_of_lt k)))
  | 1 => View.ld x4 (Rect.unit (k0_off10 (BitVec.ofNat 32 k.val)) S1x1x128x256.size (k0_off10_inb _ (chk_of_lt k)))

/-- Block `k` of the values, the lanes of head pair `p`. -/
def vAt (x5 : Vec F S1x4096x256 .bf16) (k : Fin 16) (p : Fin 2) : Vec F S1x256x128 .bf16 :=
  match p with
  | 0 => View.ld x5 (Rect.unit (k0_off11 (BitVec.ofNat 32 k.val)) S1x256x128.size (k0_off11_inb _ (chk_of_lt k)))
  | 1 => View.ld x5 (Rect.unit (k0_off12 (BitVec.ofNat 32 k.val)) S1x256x128.size (k0_off12_inb _ (chk_of_lt k)))

/-- The two stacked masks, as loaded. -/
def u2Of (x6 : Vec F S512x256 .bf16) : Vec F S512x256 .bf16 :=
  View.ld x6 (Rect.unit (s := S512x256) ![0, 0] S512x256.size inb_S512x256_S512x256_0_0)

/-- The pair of heads a head belongs to. -/
def pairOf (n : Fin 4) : Fin 2 := match n with | 0 => 0 | 1 => 0 | 2 => 1 | 3 => 1

/-- The loop's state: per head, the tail and the running output. -/
abbrev St (F : FTy → Type) : Type := (Fin 4 → FVec F S256x1 .f32) × (Fin 4 → Vec F S1x256x128 .f32)

/-- One trip. -/
def step (q : Fin 4 → FVec F S256x128 .bf16) (x4 : Vec F S1x16x256x256 .bf16) (x5 : Vec F S1x4096x256 .bf16) (u2 : Vec F S512x256 .bf16)
    (k : Fin 16) (s : St F) : St F :=
  (fun n => stepT (q n) (ktAt x4 k (pairOf n)) (s.1 n),
   fun n => stepA (q n) (ktAt x4 k (pairOf n)) u2 (vAt x5 k (pairOf n)) (s.1 n) (s.2 n))

/-- The loop's test on a state. -/
def Live (s : St F) : Prop := live (s.1 0) (s.1 1) (s.1 2) (s.1 3)

instance (s : St F) : Decidable (Live s) := by unfold Live; infer_instance

/-- The loop from `n` blocks still to the left. -/
def loopSt (q : Fin 4 → FVec F S256x128 .bf16) (x4 : Vec F S1x16x256x256 .bf16) (x5 : Vec F S1x4096x256 .bf16) (u2 : Vec F S512x256 .bf16) :
    (n : ℕ) → n ≤ 16 → St F → St F
  | 0, _, s => s
  | n + 1, h, s => if Live s then loopSt q x4 x5 u2 n (by omega) (step q x4 x5 u2 ⟨n, by omega⟩ s) else s

/-! ## The blocks before the loop -/

/-- The queries of head `n`: its pair's lanes, the other head's at zero. -/
def qH (x3 : Vec F S1x256x256 .bf16) (n : Fin 4) : FVec F S256x128 .bf16 := match n with
  | 0 => k0_pay62 (View.ld x3 (Rect.unit ![0, 0, 0] S1x256x128.size inb_S1x256x256_S1x256x128_0_0_0))
  | 1 => k0_pay64 (k0_pay63 (View.ld x3 (Rect.unit ![0, 0, 0] S1x256x128.size inb_S1x256x256_S1x256x128_0_0_0)))
  | 2 => k0_pay62 (View.ld x3 (Rect.unit ![0, 0, 128] S1x256x128.size inb_S1x256x256_S1x256x128_0_0_128))
  | 3 => k0_pay64 (k0_pay63 (View.ld x3 (Rect.unit ![0, 0, 128] S1x256x128.size inb_S1x256x256_S1x256x128_0_0_128)))

/-- A slab of the zeroed scratch. -/
def zeroSlab : Vec F S1x256x128 .f32 := broadcast S1x256x128 (Scalar.ofBits .f32 0x00000000#32)

/-- Keys of the block left of the diagonal's (`d = 0`) or the diagonal's (`d = 1`), where the grid is past its first block. -/
def ktPos (i : grid0.Coords) (hC : k0_cond1 i = 1#1) (x4 : Vec F S1x16x256x256 .bf16) (d p : Fin 2) : Vec F S1x1x128x256 .bf16 :=
  match p, d with
  | 0, 0 => View.ld x4 (Rect.unit (k0_off1 i 0#32) S1x1x128x256.size (k0_off1_inb i hC 0))
  | 0, 1 => View.ld x4 (Rect.unit (k0_off1 i 1#32) S1x1x128x256.size (k0_off1_inb i hC 1))
  | 1, 0 => View.ld x4 (Rect.unit (k0_off2 i 0#32) S1x1x128x256.size (k0_off2_inb i hC 0))
  | 1, 1 => View.ld x4 (Rect.unit (k0_off2 i 1#32) S1x1x128x256.size (k0_off2_inb i hC 1))

/-- The values of both blocks. -/
def vPos (i : grid0.Coords) (hC : k0_cond1 i = 1#1) (x5 : Vec F S1x4096x256 .bf16) (p : Fin 2) : Vec F S1x512x128 .bf16 :=
  match p with
  | 0 => View.ld x5 (Rect.unit (k0_off3 i) S1x512x128.size (k0_off3_inb i hC))
  | 1 => View.ld x5 (Rect.unit (k0_off4 i) S1x512x128.size (k0_off4_inb i hC))

/-- Tail and output of a head after the diagonal's block and the one left of it. -/
def posT (q : FVec F S256x128 .bf16) (k0 k1 : Vec F S1x1x128x256 .bf16) : FVec F S256x1 .f32 :=
  k0_pay18 k0_pay75 (k0_pay6 q k0) (k0_pay14 k0_pay61 (k0_pay7 q k1))

def posA (q : FVec F S256x128 .bf16) (k0 k1 : Vec F S1x1x128x256 .bf16) (u2 : Vec F S512x256 .bf16) (v : Vec F S1x512x128 .bf16)
    (a : Vec F S1x256x128 .f32) : Vec F S1x256x128 .f32 :=
  k0_pay19 k0_pay75 (k0_pay6 q k0) (k0_pay14 k0_pay61 (k0_pay7 q k1)) (k0_pay15 k0_pay61 k0_pay75 (k0_pay7 q k1) u2) u2 a v

/-- Keys and values of the grid's first block. -/
def ktNeg (i : grid0.Coords) (hC : ¬ k0_cond1 i = 1#1) (x4 : Vec F S1x16x256x256 .bf16) (p : Fin 2) : Vec F S1x1x128x256 .bf16 :=
  match p with
  | 0 => View.ld x4 (Rect.unit (k0_off5 i) S1x1x128x256.size (k0_off5_inb i hC))
  | 1 => View.ld x4 (Rect.unit (k0_off6 i) S1x1x128x256.size (k0_off6_inb i hC))

def vNeg (i : grid0.Coords) (hC : ¬ k0_cond1 i = 1#1) (x5 : Vec F S1x4096x256 .bf16) (p : Fin 2) : Vec F S1x256x128 .bf16 :=
  match p with
  | 0 => View.ld x5 (Rect.unit (k0_off7 i) S1x256x128.size (k0_off7_inb i hC))
  | 1 => View.ld x5 (Rect.unit (k0_off8 i) S1x256x128.size (k0_off8_inb i hC))

/-- Tail and output of a head after the grid's first block. -/
def negT (q : FVec F S256x128 .bf16) (k : Vec F S1x1x128x256 .bf16) : FVec F S256x1 .f32 := k0_pay49 k0_pay75 (k0_pay47 k0_pay61 q k)

def negA (q : FVec F S256x128 .bf16) (k : Vec F S1x1x128x256 .bf16) (u2 : Vec F S512x256 .bf16) (v : Vec F S1x256x128 .bf16)
    (a : Vec F S1x256x128 .f32) : Vec F S1x256x128 .f32 :=
  k0_pay50 k0_pay61 k0_pay75 (k0_pay43 q k) (k0_pay47 k0_pay61 q k) (k0_pay48 k0_pay61 q k) u2 a v

/-- The state before the loop. -/
def start (i : grid0.Coords) (x3 : Vec F S1x256x256 .bf16) (x4 : Vec F S1x16x256x256 .bf16) (x5 : Vec F S1x4096x256 .bf16) (x6 : Vec F S512x256 .bf16) : St F :=
  if hC : k0_cond1 i = 1#1 then
    (fun n => posT (qH x3 n) (ktPos i hC x4 0 (pairOf n)) (ktPos i hC x4 1 (pairOf n)),
     fun n => posA (qH x3 n) (ktPos i hC x4 0 (pairOf n)) (ktPos i hC x4 1 (pairOf n)) (u2Of x6) (vPos i hC x5 (pairOf n)) zeroSlab)
  else
    (fun n => negT (qH x3 n) (ktNeg i hC x4 (pairOf n)),
     fun n => negA (qH x3 n) (ktNeg i hC x4 (pairOf n)) (u2Of x6) (vNeg i hC x5 (pairOf n)) zeroSlab)

/-- The state the body leaves at a point of the grid. -/
def final (i : grid0.Coords) (x3 : Vec F S1x256x256 .bf16) (x4 : Vec F S1x16x256x256 .bf16) (x5 : Vec F S1x4096x256 .bf16) (x6 : Vec F S512x256 .bf16) : St F :=
  loopSt (qH x3) x4 x5 (u2Of x6) ((i 2).val - 1) (by have := (i 2).isLt; change (i 2).val < 16 at this; omega) (start i x3 x4 x5 x6)

/-- The pieces of the result's block. -/
def outPieces (a : Fin 4 → Vec F S1x256x128 .f32) : List (View.Piece (Elt F) S1x256x256 .bf16) :=
  [⟨Rect.unit ![0, 0, 128] S1x256x128.size inb_S1x256x256_S1x256x128_0_0_128, k0_pay2 (a 2) (a 3)⟩,
   ⟨Rect.unit ![0, 0, 0] S1x256x128.size inb_S1x256x256_S1x256x128_0_0_0, k0_pay1 (k0_pay81 (a 0) (a 1))⟩]

/-- The result's block at a point of the grid, from the blocks of queries, keys, values and the mask. -/
def outV (i : grid0.Coords) (x3 : Vec F S1x256x256 .bf16) (x4 : Vec F S1x16x256x256 .bf16) (x5 : Vec F S1x4096x256 .bf16) (x6 : Vec F S512x256 .bf16) :
    Vec F S1x256x256 .bf16 :=
  View.canon (outPieces (final i x3 x4 x5 x6).2)

/-- The scratch's four slabs as four pieces over older ones. -/
def slabs (a : Fin 4 → Vec F S1x256x128 .f32) (L : List (View.Piece (Elt F) S4x256x128 .f32)) : List (View.Piece (Elt F) S4x256x128 .f32) :=
  ⟨Rect.unit ![3, 0, 0] S1x256x128.size inb_S4x256x128_S1x256x128_3_0_0, a 3⟩
  :: ⟨Rect.unit ![2, 0, 0] S1x256x128.size inb_S4x256x128_S1x256x128_2_0_0, a 2⟩
  :: ⟨Rect.unit ![1, 0, 0] S1x256x128.size inb_S4x256x128_S1x256x128_1_0_0, a 1⟩
  :: ⟨Rect.unit ![0, 0, 0] S1x256x128.size inb_S4x256x128_S1x256x128_0_0_0, a 0⟩ :: L

end Cert.Proof.SB

end
-- ==== Proof.Loop.lean ====
module

public import proofs.«01_k».proof.Proof.Common
public import Idealize.ShloMosaic.Lib.Pipeline.ReadBack

@[expose] public section

noncomputable section

namespace Cert.Proof.SB

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The slabs of the scratch hold a state's outputs. -/
structure Slabs (arg8 : Memref sig .tc .vmem S4x256x128 .f32) (s8 : arg8.view.ty.Contents (Elt F)) (a : Fin 4 → Vec F S1x256x128 .f32) : Prop where
  h0 : View.readAt (Elt F) arg8.view (Rect.unit (s := S4x256x128) ![0, 0, 0] S1x256x128.size inb_S4x256x128_S1x256x128_0_0_0).toLoadRect s8 = a 0
  h1 : View.readAt (Elt F) arg8.view (Rect.unit (s := S4x256x128) ![1, 0, 0] S1x256x128.size inb_S4x256x128_S1x256x128_1_0_0).toLoadRect s8 = a 1
  h2 : View.readAt (Elt F) arg8.view (Rect.unit (s := S4x256x128) ![2, 0, 0] S1x256x128.size inb_S4x256x128_S1x256x128_2_0_0).toLoadRect s8 = a 2
  h3 : View.readAt (Elt F) arg8.view (Rect.unit (s := S4x256x128) ![3, 0, 0] S1x256x128.size inb_S4x256x128_S1x256x128_3_0_0).toLoadRect s8 = a 3

/-- Writing the four slabs leaves them there, whatever was written before. -/
theorem slabs_written (arg8 : Memref sig .tc .vmem S4x256x128 .f32) (a : Fin 4 → Vec F S1x256x128 .f32) (L : List (View.Piece (Elt F) S4x256x128 .f32)) :
    Slabs arg8 (arg8.view.writes (Elt F) arg8.view.junk (slabs a L)) a where
  h0 := (View.readCov_skip _ _ _ _ _ rfl).trans ((View.readCov_skip _ _ _ _ _ rfl).trans ((View.readCov_skip _ _ _ _ _ rfl).trans (View.readCov_cons_toLoadRect _ _ _ _)))
  h1 := (View.readCov_skip _ _ _ _ _ rfl).trans ((View.readCov_skip _ _ _ _ _ rfl).trans (View.readCov_cons_toLoadRect _ _ _ _))
  h2 := (View.readCov_skip _ _ _ _ _ rfl).trans (View.readCov_cons_toLoadRect _ _ _ _)
  h3 := View.readCov_cons_toLoadRect _ _ _ _

section Label

variable (c : Dev nD) (i : grid0.Coords) (arg4 : Memref sig .tc .vmem S1x16x256x256 .bf16) (harg4 : arg4.IsWhole)
    (arg5 : Memref sig .tc .vmem S1x4096x256 .bf16) (harg5 : arg5.IsWhole) (arg6 : Memref sig .tc .vmem S512x256 .bf16) (harg6 : arg6.IsWhole)
    (arg8 : Memref sig .tc .vmem S4x256x128 .f32) (harg8 : arg8.IsWhole) (q : Fin 4 → FVec F S256x128 .bf16)
    (f4 : Buf (Elt F) (arg4.view.loc (c : Thread nD τ))) (f5 : Buf (Elt F) (arg5.view.loc (c : Thread nD τ)))
    (f6 : Buf (Elt F) (arg6.view.loc (c : Thread nD τ)))

/-- The four buffers the loop reads and writes: keys, values and mask as they are, the scratch's slabs at the state's outputs. -/
def held (a : Fin 4 → Vec F S1x256x128 .f32) : sProp 𝕄 :=
  iprop((arg4.view.loc (c : Thread nD τ) ↦{fullShare} f4) ∗ (arg5.view.loc (c : Thread nD τ) ↦{fullShare} f5)
    ∗ (arg6.view.loc (c : Thread nD τ) ↦{fullShare} f6)
    ∗ (∃ s8, ⌜Slabs arg8 s8 a⌝ ∗ (arg8.view.loc (c : Thread nD τ) ↦{fullShare} s8)))

/-- One trip of the loop on a state, up to its own call. -/
abbrev next (k : Fin 16) (s : St F) : St F :=
  step q (arg4.view.read (Elt F) f4) (arg5.view.read (Elt F) f5) (u2Of (arg6.view.read (Elt F) f6)) k s

/-- The loop run from `n` blocks. -/
abbrev runs (n : ℕ) (h : n ≤ 16) (s : St F) : St F :=
  loopSt q (arg4.view.read (Elt F) f4) (arg5.view.read (Elt F) f5) (u2Of (arg6.view.read (Elt F) f6)) n h s

/-- The result type of the loop's label. -/
abbrev Res (F : FTy → Type) [FloatOps F] : Type :=
  BitVec 32 × FVec F S256x1 .f32 × FVec F S256x1 .f32 × FVec F S256x1 .f32 × FVec F S256x1 .f32

/-- The label's specification from a state with `n` blocks to the left: it returns some counter and tails, and the buffers
    with the slabs at the loop's outputs. -/
def spec (n : ℕ) (h : n ≤ 16) (s : St F) : sWPT 𝕄 (Res F) := do
  sWPT.consume (held c arg4 arg5 arg6 arg8 f4 f5 f6 s.2)
  let r ← sWPT.arbitrary
  sWPT.produce (held c arg4 arg5 arg6 arg8 f4 f5 f6 (runs c arg4 arg5 arg6 q f4 f5 f6 n h s).2)
  pure r

theorem spec_apply (n : ℕ) (h : n ≤ 16) (s : St F) (K : Res F → sProp 𝕄) :
    spec c arg4 arg5 arg6 arg8 q f4 f5 f6 n h s K
      = iprop(held c arg4 arg5 arg6 arg8 f4 f5 f6 s.2
          ∗ ∀ r : Res F, held c arg4 arg5 arg6 arg8 f4 f5 f6 (runs c arg4 arg5 arg6 q f4 f5 f6 n h s).2 -∗ K r) := rfl

/-- The label's body at a counter and a state. -/
abbrev lab (j : BitVec 32) (t : Fin 4 → FVec F S256x1 .f32) :=
  cc0_while1 i arg4 harg4 (q 0) (q 1) (q 2) (q 3) arg6 harg6 arg8 harg8 arg5 harg5 j (t 0) (t 1) (t 2) (t 3)

theorem not_and : ∀ {a b : BitVec 1}, (a ≠ 1#1 ∨ ¬ b = 1#1) → ¬ Scalar.andi a b = 1#1 := by decide

theorem and_of_lt : ∀ k : Fin 16, Scalar.andi (Scalar.cmpi .sge (BitVec.ofNat 32 k.val) 0#32) 1#1 = 1#1 := by decide +kernel

theorem pred_of_lt : ∀ k : Fin 16, Scalar.subi (BitVec.ofNat 32 (k.val + 1)) 1#32 = BitVec.ofNat 32 k.val := by decide +kernel

/-- The loop's test refused: it returns what it was given. -/
theorem stop (bd : Option 𝒱₀.V) (j : BitVec 32) (s : St F) (hj : Scalar.cmpi .sge j 0#32 ≠ 1#1 ∨ ¬ Live s) (K : Res F → sProp 𝕄) (P : sProp 𝕄) :
    iprop(P ∗ ∀ r : Res F, P -∗ K r)
      ⊢ wp frame (wpE (defs₀ (F := F)) 𝒱₀ (c : Thread nD τ) bd) Set.univ (lab i arg4 harg4 arg5 harg5 arg6 harg6 arg8 harg8 q j s.1) K := by
  unfold lab
  simp only [cc0_while1_eq_skeleton]; unfold cc0_while1_skel
  have hc : ¬ Scalar.andi (Scalar.cmpi .sge j 0#32) (Scalar.cmpf .olt (k0_pay3 (s.1 0) (s.1 1) (s.1 2) (s.1 3)) (Named.named κ "dead" 0x42D00000#32 : F .f32)) = 1#1 := by
    exact not_and (hj.imp id fun h => h)
  simp only [hc, ↓reduceIte, Prog.pure_eq_ret]
  iintro ⟨H, Hk⟩
  rw [wp_ret]; imodintro
  iapply Hk; iexact H

set_option maxHeartbeats 4000000 in
/-- One trip, up to the label's call: the tails and the slabs of the next state. -/
theorem trip (bd : Option 𝒱₀.V) (k : Fin 16) (s : St F) (hl : Live s)
    (K : Res F → sProp 𝕄) (P : sProp 𝕄)
    (hcall : iprop(held c arg4 arg5 arg6 arg8 f4 f5 f6 (next c arg4 arg5 arg6 q f4 f5 f6 k s).2 ∗ P)
      ⊢ wp frame (wpE (defs₀ (F := F)) 𝒱₀ (c : Thread nD τ) bd) Set.univ
          (Prog.op (TpuEff.call (1 : (Λ₀ F).Label) ⟨i, arg4, harg4, q 0, q 1, q 2, q 3, arg6, harg6, arg8, harg8, arg5, harg5,
            Scalar.subi (BitVec.ofNat 32 k.val) 1#32, (next c arg4 arg5 arg6 q f4 f5 f6 k s).1 0, (next c arg4 arg5 arg6 q f4 f5 f6 k s).1 1,
            (next c arg4 arg5 arg6 q f4 f5 f6 k s).1 2, (next c arg4 arg5 arg6 q f4 f5 f6 k s).1 3⟩) Prog.ret) K) :
    iprop(held c arg4 arg5 arg6 arg8 f4 f5 f6 s.2 ∗ P)
      ⊢ wp frame (wpE (defs₀ (F := F)) 𝒱₀ (c : Thread nD τ) bd) Set.univ (lab i arg4 harg4 arg5 harg5 arg6 harg6 arg8 harg8 q (BitVec.ofNat 32 k.val) s.1) K := by
  have hchk := chk_of_lt k
  unfold lab
  simp only [cc0_while1_eq_skeleton]; unfold cc0_while1_skel
  have hc : Scalar.andi (Scalar.cmpi .sge (BitVec.ofNat 32 k.val) 0#32) (Scalar.cmpf .olt (k0_pay3 (s.1 0) (s.1 1) (s.1 2) (s.1 3)) (Named.named κ "dead" 0x42D00000#32 : F .f32)) = 1#1 := by
    unfold Live live at hl; rw [hl]; exact and_of_lt k
  unfold held
  iintro ⟨⟨H4, H5, H6, ⟨%s8, %hs8, H8⟩⟩, HP⟩
  obtain ⟨h0, h1, h2, h3⟩ := hs8
  sl_exec_parts!
  have e0 : trip.sl.v235 c arg4 q f4 k s hchk = (next c arg4 arg5 arg6 q f4 f5 f6 k s).1 0 := rfl
  have e1 : trip.sl.v272 c arg4 q f4 k s hchk = (next c arg4 arg5 arg6 q f4 f5 f6 k s).1 1 := rfl
  have e2 : trip.sl.v309 c arg4 q f4 k s hchk = (next c arg4 arg5 arg6 q f4 f5 f6 k s).1 2 := rfl
  have e3 : k0_pay4 (s.1 3) (trip.sl.v344 c arg4 q f4 k hchk) = (next c arg4 arg5 arg6 q f4 f5 f6 k s).1 3 := rfl
  rw [e0, e1, e2, e3]
  have e8 : trip.sl.H8_4 c arg4 arg5 arg6 q f4 f5 f6 k s hchk = slabs (next c arg4 arg5 arg6 q f4 f5 f6 k s).2 [] := by
    unfold trip.sl.H8_4 trip.sl.H8_2 trip.sl.H8_1 slabs
    have a0 : trip.sl.v245 c arg4 arg5 arg6 q f4 f5 f6 k s hchk = (next c arg4 arg5 arg6 q f4 f5 f6 k s).2 0 := rfl
    have a1 : trip.sl.v282 c arg4 arg5 arg6 q f4 f5 f6 k s hchk = (next c arg4 arg5 arg6 q f4 f5 f6 k s).2 1 := rfl
    have a2 : trip.sl.v319 c arg4 arg5 arg6 q f4 f5 f6 k s hchk = (next c arg4 arg5 arg6 q f4 f5 f6 k s).2 2 := rfl
    rw [a0, a1, a2]
    rfl
  rw [e8]
  iapply hcall
  isplitr [HP]; swap; · iexact HP
  unfold held
  isplitl [H4]; · iexact H4
  isplitl [H5]; · iexact H5
  isplitl [H6]; · iexact H6
  iexists _; isplitr
  swap; · iexact H8
  ipureintro; exact slabs_written _ _ _

/-- The label's body meets its specification, by induction on the blocks to the left. -/
theorem spec_le : ∀ (n : ℕ) (h : n ≤ 16) (j : BitVec 32), (n = 0 → Scalar.cmpi .sge j 0#32 ≠ 1#1) → (∀ k, n = k + 1 → j = BitVec.ofNat 32 k) →
    ∀ (s : St F) (K : Res F → sProp 𝕄), spec c arg4 arg5 arg6 arg8 q f4 f5 f6 n h s K
      ⊢ wp frame (wpE (defs₀ (F := F)) 𝒱₀ (c : Thread nD τ) (some n)) Set.univ
          (defs₀ (F := F) .tc 1 ⟨i, arg4, harg4, q 0, q 1, q 2, q 3, arg6, harg6, arg8, harg8, arg5, harg5, j, s.1 0, s.1 1, s.1 2, s.1 3⟩) K := by
  intro n
  induction n with
  | zero =>
    intro h j h0 _ s K
    exact stop c i arg4 harg4 arg5 harg5 arg6 harg6 arg8 harg8 q (some 0) j s (.inl (h0 rfl)) K _
  | succ n ih =>
    intro h j _ hj s K
    have hj := hj n rfl
    subst hj
    rw [spec_apply]
    show _ ⊢ wp frame (wpE (defs₀ (F := F)) 𝒱₀ (c : Thread nD τ) (some (n + 1))) Set.univ (lab i arg4 harg4 arg5 harg5 arg6 harg6 arg8 harg8 q (BitVec.ofNat 32 n) s.1) K
    by_cases hl : Live s
    · have hr : runs c arg4 arg5 arg6 q f4 f5 f6 (n + 1) h s = runs c arg4 arg5 arg6 q f4 f5 f6 n (by omega) (next c arg4 arg5 arg6 q f4 f5 f6 ⟨n, by omega⟩ s) := by
        unfold runs; rw [loopSt, if_pos hl]
      rw [hr]
      refine trip c i arg4 harg4 arg5 harg5 arg6 harg6 arg8 harg8 q f4 f5 f6 (some (n + 1)) ⟨n, by omega⟩ s hl K _ ?_
      iintro ⟨H, Hk⟩
      iapply (wp_call_spec 𝒱₀ (c : Thread nD τ) (some (n + 1)) Set.univ (spec c arg4 arg5 arg6 arg8 q f4 f5 f6 n (by omega) (next c arg4 arg5 arg6 q f4 f5 f6 ⟨n, by omega⟩ s)) n
        (fun u hu => by cases hu; exact Nat.lt_succ_self n)
        (ih (by omega) (Scalar.subi (BitVec.ofNat 32 n) 1#32) (fun hn => by subst hn; decide) (fun k hk => by subst hk; exact pred_of_lt ⟨k, by omega⟩) _))
      rw [spec_apply]
      isplitl [H]; · iexact H
      iintro %r H
      rw [wp_ret]; imodintro
      iapply Hk; iexact H
    · have hr : runs c arg4 arg5 arg6 q f4 f5 f6 (n + 1) h s = s := by
        unfold runs; rw [loopSt, if_neg hl]
      rw [hr]
      exact stop c i arg4 harg4 arg5 harg5 arg6 harg6 arg8 harg8 q (some (n + 1)) _ s (.inr hl) K _

end Label

end Cert.Proof.SB

end
-- ==== Proof.Body.lean ====
module

public import proofs.«01_k».proof.Proof.Loop
public import Idealize.ShloMosaic.Lib.Pipeline.ReadBack

@[expose] public section

noncomputable section

namespace Cert.Proof.SB

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

theorem left_le (i : grid0.Coords) : (i 2).val - 1 ≤ 16 := by have := (i 2).isLt; change (i 2).val < 16 at this; omega

/-- The loop's first counter, at grid step `b`. -/
abbrev ctr (b : Fin 16) : BitVec 32 := Scalar.subi (BitVec.ofNat 32 b.val) 2#32

theorem first_stop : ∀ b : Fin 16, b.val - 1 = 0 → Scalar.cmpi .sge (ctr b) 0#32 ≠ 1#1 := by decide +kernel

theorem first_pred (b : Fin 16) (k : ℕ) (h : b.val - 1 = k + 1) : ctr b = BitVec.ofNat 32 k := by
  have : ∀ b : Fin 16, b.val - 1 ≠ 0 → ctr b = BitVec.ofNat 32 (b.val - 2) := by decide +kernel
  rw [this b (by omega)]; congr 1; omega

theorem cover_out (a : Fin 4 → Vec F S1x256x128 .f32) (y : S1x256x256.Idx) : ∃ pc ∈ outPieces a, y ∈ pc.1.set :=
  View.cover_of_tiled (outPieces a) S1x256x128.size (by rfl) y

section Body

variable (c : Dev nD) (i : grid0.Coords) (arg3 : Memref sig .tc .vmem S1x256x256 .bf16) (harg3 : arg3.IsWhole)
    (arg4 : Memref sig .tc .vmem S1x16x256x256 .bf16) (harg4 : arg4.IsWhole)
    (arg5 : Memref sig .tc .vmem S1x4096x256 .bf16) (harg5 : arg5.IsWhole) (arg6 : Memref sig .tc .vmem S512x256 .bf16) (harg6 : arg6.IsWhole)
    (arg7 : Memref sig .tc .vmem S1x256x256 .bf16) (harg7 : arg7.IsWhole)
    (arg8 : Memref sig .tc .vmem S4x256x128 .f32) (harg8 : arg8.IsWhole)
    (f3 : Buf (Elt F) (arg3.view.loc (c : Thread nD τ)))
    (f4 : Buf (Elt F) (arg4.view.loc (c : Thread nD τ))) (f5 : Buf (Elt F) (arg5.view.loc (c : Thread nD τ)))
    (f6 : Buf (Elt F) (arg6.view.loc (c : Thread nD τ))) (f7 : Buf (Elt F) (arg7.view.loc (c : Thread nD τ)))
    (f8 : Buf (Elt F) (arg8.view.loc (c : Thread nD τ)))

/-- What the body leaves: queries, keys, values and mask as they were, the result's block written, the scratch at anything. -/
def after : sProp 𝕄 :=
  iprop((arg3.view.loc (c : Thread nD τ) ↦{fullShare} f3) ∗ (arg4.view.loc (c : Thread nD τ) ↦{fullShare} f4) ∗ (arg5.view.loc (c : Thread nD τ) ↦{fullShare} f5)
    ∗ (arg6.view.loc (c : Thread nD τ) ↦{fullShare} f6)
    ∗ (∃ g, ⌜arg7.view.read (Elt F) g = outV i (arg3.view.read (Elt F) f3) (arg4.view.read (Elt F) f4) (arg5.view.read (Elt F) f5) (arg6.view.read (Elt F) f6)⌝
        ∗ (arg7.view.loc (c : Thread nD τ) ↦{fullShare} g))
    ∗ (∃ g, arg8.view.loc (c : Thread nD τ) ↦{fullShare} g))

abbrev init : St F := start i (arg3.view.read (Elt F) f3) (arg4.view.read (Elt F) f4) (arg5.view.read (Elt F) f5) (arg6.view.read (Elt F) f6)

set_option maxHeartbeats 4000000 in
/-- The body past the first block of queries: its result's block at `outPieces` of the state the loop leaves. -/
theorem body_pos (hC : k0_cond1 i = 1#1) (K : PUnit → sProp 𝕄) :
    (iprop(((arg3.view.loc (c : Thread nD τ) ↦{fullShare} f3) ∗ (arg4.view.loc (c : Thread nD τ) ↦{fullShare} f4) ∗ (arg5.view.loc (c : Thread nD τ) ↦{fullShare} f5)
    ∗ (arg6.view.loc (c : Thread nD τ) ↦{fullShare} f6) ∗ (arg7.view.loc (c : Thread nD τ) ↦{fullShare} f7) ∗ (arg8.view.loc (c : Thread nD τ) ↦{fullShare} f8))
    ∗ (after c i arg3 arg4 arg5 arg6 arg7 arg8 f3 f4 f5 f6 -∗ K ⟨⟩)) : sProp 𝕄)
      ⊢ wp frame (wpE (defs₀ (F := F)) 𝒱₀ (c : Thread nD τ) none) Set.univ
        (cc0_sb_prompt i arg3 harg3 arg4 harg4 arg5 harg5 arg6 harg6 arg7 harg7 arg8 harg8) K := by
  simp only [cc0_sb_prompt_eq_skeleton]; unfold cc0_sb_prompt_skel
  iintro ⟨⟨H3, H4, H5, H6, H7, H8⟩, Hk⟩
  sl_exec_parts!
  have hs : init c i arg3 arg4 arg5 arg6 f3 f4 f5 f6 = _ := dif_pos hC
  have q0 : body_pos.sl.v38 c arg3 f3 = qH (arg3.view.read (Elt F) f3) 0 := rfl
  have q1 : body_pos.sl.v74 c arg3 f3 = qH (arg3.view.read (Elt F) f3) 1 := rfl
  have q2 : body_pos.sl.v110 c arg3 f3 = qH (arg3.view.read (Elt F) f3) 2 := rfl
  have q3 : body_pos.sl.v146 c arg3 f3 = qH (arg3.view.read (Elt F) f3) 3 := rfl
  have z0 : body_pos.sl.v288 (F := F) arg8 = zeroSlab := View.readCov_fill arg8.view _ _ [] _ (by decide)
  have z1 : body_pos.sl.v357 c i arg3 arg4 arg5 arg6 arg8 f3 f4 f5 f6 hC = zeroSlab := (View.readCov_skip _ _ _ _ _ rfl).trans (View.readCov_fill arg8.view _ _ [] _ (by decide))
  have z2 : body_pos.sl.v426 c i arg3 arg4 arg5 arg6 arg8 f3 f4 f5 f6 hC = zeroSlab :=
    (View.readCov_skip _ _ _ _ _ rfl).trans ((View.readCov_skip _ _ _ _ _ rfl).trans (View.readCov_fill arg8.view _ _ [] _ (by decide)))
  have z3 : body_pos.sl.v495 c i arg3 arg4 arg5 arg6 arg8 f3 f4 f5 f6 hC = zeroSlab :=
    (View.readCov_skip _ _ _ _ _ rfl).trans ((View.readCov_skip _ _ _ _ _ rfl).trans ((View.readCov_skip _ _ _ _ _ rfl).trans (View.readCov_fill arg8.view _ _ [] _ (by decide))))
  have a0 : body_pos.sl.v297 c i arg3 arg4 arg5 arg6 arg8 f3 f4 f5 f6 hC = (init c i arg3 arg4 arg5 arg6 f3 f4 f5 f6).2 0 := by
    rw [hs]; refine .trans (b := posA _ _ _ _ _ (body_pos.sl.v288 arg8)) rfl ?_; rw [z0]; rfl
  have a1 : body_pos.sl.v366 c i arg3 arg4 arg5 arg6 arg8 f3 f4 f5 f6 hC = (init c i arg3 arg4 arg5 arg6 f3 f4 f5 f6).2 1 := by
    rw [hs]; refine .trans (b := posA _ _ _ _ _ (body_pos.sl.v357 c i arg3 arg4 arg5 arg6 arg8 f3 f4 f5 f6 hC)) rfl ?_; rw [z1]; rfl
  have a2 : body_pos.sl.v435 c i arg3 arg4 arg5 arg6 arg8 f3 f4 f5 f6 hC = (init c i arg3 arg4 arg5 arg6 f3 f4 f5 f6).2 2 := by
    rw [hs]; refine .trans (b := posA _ _ _ _ _ (body_pos.sl.v426 c i arg3 arg4 arg5 arg6 arg8 f3 f4 f5 f6 hC)) rfl ?_; rw [z2]; rfl
  have a3 : body_pos.sl.v504 c i arg3 arg4 arg5 arg6 arg8 f3 f4 f5 f6 hC = (init c i arg3 arg4 arg5 arg6 f3 f4 f5 f6).2 3 := by
    rw [hs]; refine .trans (b := posA _ _ _ _ _ (body_pos.sl.v495 c i arg3 arg4 arg5 arg6 arg8 f3 f4 f5 f6 hC)) rfl ?_; rw [z3]; rfl
  have e0 : body_pos.sl.v286 c i arg3 arg4 f3 f4 hC = (init c i arg3 arg4 arg5 arg6 f3 f4 f5 f6).1 0 := by rw [hs]; rfl
  have e1 : body_pos.sl.v355 c i arg3 arg4 f3 f4 hC = (init c i arg3 arg4 arg5 arg6 f3 f4 f5 f6).1 1 := by rw [hs]; rfl
  have e2 : body_pos.sl.v424 c i arg3 arg4 f3 f4 hC = (init c i arg3 arg4 arg5 arg6 f3 f4 f5 f6).1 2 := by rw [hs]; rfl
  have e3 : body_pos.sl.v493 c i arg3 arg4 f3 f4 hC = (init c i arg3 arg4 arg5 arg6 f3 f4 f5 f6).1 3 := by rw [hs]; rfl
  have e8 : body_pos.sl.H8_5 c i arg3 arg4 arg5 arg6 arg8 f3 f4 f5 f6 hC = slabs (init c i arg3 arg4 arg5 arg6 f3 f4 f5 f6).2 body_pos.sl.H8_1 := by
    unfold body_pos.sl.H8_5 body_pos.sl.H8_4 body_pos.sl.H8_3 body_pos.sl.H8_2 slabs
    rw [a0, a1, a2, a3]
  rw [q0, q1, q2, q3, e0, e1, e2, e3, e8]
  iapply (wp_call_spec 𝒱₀ (c : Thread nD τ) none Set.univ
    (spec c arg4 arg5 arg6 arg8 (qH (arg3.view.read (Elt F) f3)) f4 f5 f6 ((i 2).val - 1) (left_le i) (init c i arg3 arg4 arg5 arg6 f3 f4 f5 f6)) ((i 2).val - 1)
    (fun u hu => nomatch hu)
    (spec_le c i arg4 harg4 arg5 harg5 arg6 harg6 arg8 harg8 (qH (arg3.view.read (Elt F) f3)) f4 f5 f6 ((i 2).val - 1) (left_le i) (body_pos.sl.v156 i)
      (first_stop (i 2)) (first_pred (i 2)) _))
  rw [spec_apply]; unfold held
  isplitl [H4 H5 H6 H8]
  · isplitl [H4]; · iexact H4
    isplitl [H5]; · iexact H5
    isplitl [H6]; · iexact H6
    iexists _; isplitr
    swap; · iexact H8
    ipureintro; exact slabs_written _ _ _
  iintro %r ⟨H4, H5, H6, ⟨%s8, %hs8, H8⟩⟩
  obtain ⟨h0, h1, h2, h3⟩ := hs8
  obtain ⟨r0, r1, r2, r3, r4⟩ := r
  sl_exec_parts!
  have e7 : body_pos.sl.H7_2 c i arg3 arg4 arg5 arg6 f3 f4 f5 f6
      = outPieces (final i (arg3.view.read (Elt F) f3) (arg4.view.read (Elt F) f4) (arg5.view.read (Elt F) f5) (arg6.view.read (Elt F) f6)).2 := rfl
  rw [e7]
  sl_step
  iapply Hk
  unfold after
  isplitl [H3]; · iexact H3
  isplitl [H4]; · iexact H4
  isplitl [H5]; · iexact H5
  isplitl [H6]; · iexact H6
  isplitl [H7]
  · iexists _; isplitr
    swap; · iexact H7
    ipureintro; exact View.read_writes_eq_canon _ _ _ (cover_out _)
  iexists _; iexact H8

set_option maxHeartbeats 4000000 in
/-- The body at the first block of queries: its result's block at `outPieces` of the state the loop leaves. -/
theorem body_neg (hC : ¬ k0_cond1 i = 1#1) (K : PUnit → sProp 𝕄) :
    (iprop(((arg3.view.loc (c : Thread nD τ) ↦{fullShare} f3) ∗ (arg4.view.loc (c : Thread nD τ) ↦{fullShare} f4) ∗ (arg5.view.loc (c : Thread nD τ) ↦{fullShare} f5)
    ∗ (arg6.view.loc (c : Thread nD τ) ↦{fullShare} f6) ∗ (arg7.view.loc (c : Thread nD τ) ↦{fullShare} f7) ∗ (arg8.view.loc (c : Thread nD τ) ↦{fullShare} f8))
    ∗ (after c i arg3 arg4 arg5 arg6 arg7 arg8 f3 f4 f5 f6 -∗ K ⟨⟩)) : sProp 𝕄)
      ⊢ wp frame (wpE (defs₀ (F := F)) 𝒱₀ (c : Thread nD τ) none) Set.univ
        (cc0_sb_prompt i arg3 harg3 arg4 harg4 arg5 harg5 arg6 harg6 arg7 harg7 arg8 harg8) K := by
  simp only [cc0_sb_prompt_eq_skeleton]; unfold cc0_sb_prompt_skel
  iintro ⟨⟨H3, H4, H5, H6, H7, H8⟩, Hk⟩
  sl_exec_parts!
  have hs : init c i arg3 arg4 arg5 arg6 f3 f4 f5 f6 = _ := dif_neg hC
  have q0 : body_neg.sl.v38 c arg3 f3 = qH (arg3.view.read (Elt F) f3) 0 := rfl
  have q1 : body_neg.sl.v74 c arg3 f3 = qH (arg3.view.read (Elt F) f3) 1 := rfl
  have q2 : body_neg.sl.v110 c arg3 f3 = qH (arg3.view.read (Elt F) f3) 2 := rfl
  have q3 : body_neg.sl.v146 c arg3 f3 = qH (arg3.view.read (Elt F) f3) 3 := rfl
  have z0 : body_neg.sl.v239 (F := F) arg8 = zeroSlab := View.readCov_fill arg8.view _ _ [] _ (by decide)
  have z1 : body_neg.sl.v280 c i arg3 arg4 arg5 arg6 arg8 f3 f4 f5 f6 hC = zeroSlab := (View.readCov_skip _ _ _ _ _ rfl).trans (View.readCov_fill arg8.view _ _ [] _ (by decide))
  have z2 : body_neg.sl.v321 c i arg3 arg4 arg5 arg6 arg8 f3 f4 f5 f6 hC = zeroSlab :=
    (View.readCov_skip _ _ _ _ _ rfl).trans ((View.readCov_skip _ _ _ _ _ rfl).trans (View.readCov_fill arg8.view _ _ [] _ (by decide)))
  have z3 : body_neg.sl.v362 c i arg3 arg4 arg5 arg6 arg8 f3 f4 f5 f6 hC = zeroSlab :=
    (View.readCov_skip _ _ _ _ _ rfl).trans ((View.readCov_skip _ _ _ _ _ rfl).trans ((View.readCov_skip _ _ _ _ _ rfl).trans (View.readCov_fill arg8.view _ _ [] _ (by decide))))
  have a0 : body_neg.sl.v248 c i arg3 arg4 arg5 arg6 arg8 f3 f4 f5 f6 hC = (init c i arg3 arg4 arg5 arg6 f3 f4 f5 f6).2 0 := by
    rw [hs]; refine .trans (b := negA _ _ _ _ (body_neg.sl.v239 arg8)) rfl ?_; rw [z0]; rfl
  have a1 : body_neg.sl.v289 c i arg3 arg4 arg5 arg6 arg8 f3 f4 f5 f6 hC = (init c i arg3 arg4 arg5 arg6 f3 f4 f5 f6).2 1 := by
    rw [hs]; refine .trans (b := negA _ _ _ _ (body_neg.sl.v280 c i arg3 arg4 arg5 arg6 arg8 f3 f4 f5 f6 hC)) rfl ?_; rw [z1]; rfl
  have a2 : body_neg.sl.v330 c i arg3 arg4 arg5 arg6 arg8 f3 f4 f5 f6 hC = (init c i arg3 arg4 arg5 arg6 f3 f4 f5 f6).2 2 := by
    rw [hs]; refine .trans (b := negA _ _ _ _ (body_neg.sl.v321 c i arg3 arg4 arg5 arg6 arg8 f3 f4 f5 f6 hC)) rfl ?_; rw [z2]; rfl
  have a3 : body_neg.sl.v371 c i arg3 arg4 arg5 arg6 arg8 f3 f4 f5 f6 hC = (init c i arg3 arg4 arg5 arg6 f3 f4 f5 f6).2 3 := by
    rw [hs]; refine .trans (b := negA _ _ _ _ (body_neg.sl.v362 c i arg3 arg4 arg5 arg6 arg8 f3 f4 f5 f6 hC)) rfl ?_; rw [z3]; rfl
  have e0 : body_neg.sl.v238 c i arg3 arg4 f3 f4 hC = (init c i arg3 arg4 arg5 arg6 f3 f4 f5 f6).1 0 := by rw [hs]; rfl
  have e1 : body_neg.sl.v279 c i arg3 arg4 f3 f4 hC = (init c i arg3 arg4 arg5 arg6 f3 f4 f5 f6).1 1 := by rw [hs]; rfl
  have e2 : body_neg.sl.v320 c i arg3 arg4 f3 f4 hC = (init c i arg3 arg4 arg5 arg6 f3 f4 f5 f6).1 2 := by rw [hs]; rfl
  have e3 : body_neg.sl.v361 c i arg3 arg4 f3 f4 hC = (init c i arg3 arg4 arg5 arg6 f3 f4 f5 f6).1 3 := by rw [hs]; rfl
  have e8 : body_neg.sl.H8_5 c i arg3 arg4 arg5 arg6 arg8 f3 f4 f5 f6 hC = slabs (init c i arg3 arg4 arg5 arg6 f3 f4 f5 f6).2 body_neg.sl.H8_1 := by
    unfold body_neg.sl.H8_5 body_neg.sl.H8_4 body_neg.sl.H8_3 body_neg.sl.H8_2 slabs
    rw [a0, a1, a2, a3]
  rw [q0, q1, q2, q3, e0, e1, e2, e3, e8]
  iapply (wp_call_spec 𝒱₀ (c : Thread nD τ) none Set.univ
    (spec c arg4 arg5 arg6 arg8 (qH (arg3.view.read (Elt F) f3)) f4 f5 f6 ((i 2).val - 1) (left_le i) (init c i arg3 arg4 arg5 arg6 f3 f4 f5 f6)) ((i 2).val - 1)
    (fun u hu => nomatch hu)
    (spec_le c i arg4 harg4 arg5 harg5 arg6 harg6 arg8 harg8 (qH (arg3.view.read (Elt F) f3)) f4 f5 f6 ((i 2).val - 1) (left_le i) (body_neg.sl.v156 i)
      (first_stop (i 2)) (first_pred (i 2)) _))
  rw [spec_apply]; unfold held
  isplitl [H4 H5 H6 H8]
  · isplitl [H4]; · iexact H4
    isplitl [H5]; · iexact H5
    isplitl [H6]; · iexact H6
    iexists _; isplitr
    swap; · iexact H8
    ipureintro; exact slabs_written _ _ _
  iintro %r ⟨H4, H5, H6, ⟨%s8, %hs8, H8⟩⟩
  obtain ⟨h0, h1, h2, h3⟩ := hs8
  obtain ⟨r0, r1, r2, r3, r4⟩ := r
  sl_exec_parts!
  have e7 : body_neg.sl.H7_2 c i arg3 arg4 arg5 arg6 f3 f4 f5 f6
      = outPieces (final i (arg3.view.read (Elt F) f3) (arg4.view.read (Elt F) f4) (arg5.view.read (Elt F) f5) (arg6.view.read (Elt F) f6)).2 := rfl
  rw [e7]
  sl_step
  iapply Hk
  unfold after
  isplitl [H3]; · iexact H3
  isplitl [H4]; · iexact H4
  isplitl [H5]; · iexact H5
  isplitl [H6]; · iexact H6
  isplitl [H7]
  · iexists _; isplitr
    swap; · iexact H7
    ipureintro; exact View.read_writes_eq_canon _ _ _ (cover_out _)
  iexists _; iexact H8

end Body

end Cert.Proof.SB

end
-- ==== Proof.Run.lean ====
module

public import proofs.«01_k».proof.Proof.Body

@[expose] public section

noncomputable section

namespace Cert.Proof.SB

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The body on whole memrefs, the inputs' at read contents and the result's and the scratch at anything. -/
theorem sound_kernel (c : Dev nD) (i : grid0.Coords) (arg3 : Memref sig .tc .vmem S1x256x256 .bf16) (harg3 : arg3.IsWhole)
    (arg4 : Memref sig .tc .vmem S1x16x256x256 .bf16) (harg4 : arg4.IsWhole)
    (arg5 : Memref sig .tc .vmem S1x4096x256 .bf16) (harg5 : arg5.IsWhole) (arg6 : Memref sig .tc .vmem S512x256 .bf16) (harg6 : arg6.IsWhole)
    (arg7 : Memref sig .tc .vmem S1x256x256 .bf16) (harg7 : arg7.IsWhole)
    (arg8 : Memref sig .tc .vmem S4x256x128 .f32) (harg8 : arg8.IsWhole)
    (x3 : Vec F S1x256x256 .bf16) (x4 : Vec F S1x16x256x256 .bf16) (x5 : Vec F S1x4096x256 .bf16) (x6 : Vec F S512x256 .bf16) (K : PUnit → sProp 𝕄) :
    iprop(owns (c : Thread nD τ) arg3 fullShare x3 ∗ owns (c : Thread nD τ) arg4 fullShare x4 ∗ owns (c : Thread nD τ) arg5 fullShare x5
        ∗ owns (c : Thread nD τ) arg6 fullShare x6 ∗ (∃ d, owns (c : Thread nD τ) arg7 fullShare d)
        ∗ (∃ g, arg8.view.loc (c : Thread nD τ) ↦{fullShare} g)
        ∗ (iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare (outV i x3 x4 x5 x6)
            ∗ (∃ g, arg8.view.loc (c : Thread nD τ) ↦{fullShare} g)) -∗ K ⟨⟩))
      ⊢ wp frame (wpE (defs₀ (F := F)) 𝒱₀ (c : Thread nD τ) none) Set.univ
        (cc0_sb_prompt i arg3 harg3 arg4 harg4 arg5 harg5 arg6 harg6 arg7 harg7 arg8 harg8) K := by
  unfold owns
  simp only [harg3.set_eq_univ, harg4.set_eq_univ, harg5.set_eq_univ, harg6.set_eq_univ, harg7.set_eq_univ]
  iintro ⟨⟨%f3, %hf3, H3⟩, ⟨%f4, %hf4, H4⟩, ⟨%f5, %hf5, H5⟩, ⟨%f6, %hf6, H6⟩, ⟨%d7, %f7, -, H7⟩, ⟨%f8, H8⟩, Hk⟩
  subst hf3 hf4 hf5 hf6
  by_cases hC : k0_cond1 i = 1#1
  · iapply (body_pos c i arg3 harg3 arg4 harg4 arg5 harg5 arg6 harg6 arg7 harg7 arg8 harg8 f3 f4 f5 f6 f7 f8 hC K)
    isplitl [H3 H4 H5 H6 H7 H8]
    · isplitl [H3]; · iexact H3
      isplitl [H4]; · iexact H4
      isplitl [H5]; · iexact H5
      isplitl [H6]; · iexact H6
      isplitl [H7]; · iexact H7
      iexact H8
    unfold after
    iintro ⟨H3, H4, H5, H6, ⟨%g7, %hg7, H7⟩, H8⟩
    iapply Hk
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists g7; isplitr; · ipureintro; exact hg7
      iexact H7
    iexact H8
  · iapply (body_neg c i arg3 harg3 arg4 harg4 arg5 harg5 arg6 harg6 arg7 harg7 arg8 harg8 f3 f4 f5 f6 f7 f8 hC K)
    isplitl [H3 H4 H5 H6 H7 H8]
    · isplitl [H3]; · iexact H3
      isplitl [H4]; · iexact H4
      isplitl [H5]; · iexact H5
      isplitl [H6]; · iexact H6
      isplitl [H7]; · iexact H7
      iexact H8
    unfold after
    iintro ⟨H3, H4, H5, H6, ⟨%g7, %hg7, H7⟩, H8⟩
    iapply Hk
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists g7; isplitr; · ipureintro; exact hg7
      iexact H7
    iexact H8

/-! ## The pipeline's proof data -/

/-- What the body leaves in each window's buffer: the inputs as they were, the result at `outV` of the blocks. -/
def aft (c : Dev nD) (t : Fin (cfg0 (F := F)).N) : (w : Fin 5) → (win0 w).block.Idx → Elt F (win0 w).elt
  | 0 => iblk m c 0 t
  | 1 => iblk m c 1 t
  | 2 => iblk m c 2 t
  | 3 => iblk m c 3 t
  | 4 => outV (grid0.coords t) (iblk m c 0 t) (iblk m c 1 t) (iblk m c 2 t) (iblk m c 3 t)

/-- The proof data on core `c`: each input's buffer at its block, the result's at `outV` of the blocks; the invariant is the
    scoped rest, the scratch among it, and the generator register. -/
def dats (_ : Fin 1) (c : Dev nD) : Dat τ (Elt F) Unit ℕ (UR sig nD τ) ℕ (cfg0 (F := F)) c where
  A w := V m c (Pipeline.arrRef spec0 w)
  after w t := aft m c t w
  Φ _ := Pipeline.ΦA spec0 c
  q _ := fullShare
  owed _ := 0

theorem A_eq (c : Dev nD) (w : Fin (cfg0 (F := F)).W) : (dats m 0 c).A w = V m c (Pipeline.arrRef spec0 w) := by
  dsimp only [dats]

theorem after_0 (c : Dev nD) (t : Fin (cfg0 (F := F)).N) : (dats m 0 c).after 0 t = iblk m c 0 t := by unfold dats; dsimp only; rfl
theorem after_1 (c : Dev nD) (t : Fin (cfg0 (F := F)).N) : (dats m 0 c).after 1 t = iblk m c 1 t := by unfold dats; dsimp only; rfl
theorem after_2 (c : Dev nD) (t : Fin (cfg0 (F := F)).N) : (dats m 0 c).after 2 t = iblk m c 2 t := by unfold dats; dsimp only; rfl
theorem after_3 (c : Dev nD) (t : Fin (cfg0 (F := F)).N) : (dats m 0 c).after 3 t = iblk m c 3 t := by unfold dats; dsimp only; rfl
seal outV iblk in
theorem after_4 (c : Dev nD) (t : Fin (cfg0 (F := F)).N) :
    (dats m 0 c).after 4 t = outV (grid0.coords t) (iblk m c 0 t) (iblk m c 1 t) (iblk m c 2 t) (iblk m c 3 t) := by unfold dats; dsimp only; rfl

theorem before_0 (c : Dev nD) (t : Fin (cfg0 (F := F)).N) (d) : (dats m 0 c).before 0 t d = iblk m c 0 t :=
  before_0_of m (dats m 0 c) (A_eq m c 0) (after_0 m c) t d
theorem before_1 (c : Dev nD) (t : Fin (cfg0 (F := F)).N) (d) : (dats m 0 c).before 1 t d = iblk m c 1 t :=
  before_1_of m (dats m 0 c) (A_eq m c 1) (after_1 m c) t d
theorem before_2 (c : Dev nD) (t : Fin (cfg0 (F := F)).N) (d) : (dats m 0 c).before 2 t d = iblk m c 2 t :=
  before_2_of m (dats m 0 c) (A_eq m c 2) (after_2 m c) t d
theorem before_3 (c : Dev nD) (t : Fin (cfg0 (F := F)).N) (d) : (dats m 0 c).before 3 t d = iblk m c 3 t :=
  before_3_of m (dats m 0 c) (A_eq m c 3) (after_3 m c) t d

/-- What the body is called with at point `t`, -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin (cfg0 (F := F)).N) :
    bodyPre m c t ⊢ wp frame (wpE (defs₀ (F := F)) 𝒱₀ (c : Thread nD τ) none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4,
    show (dats m 0 c).Φ t.castSucc = Pipeline.ΦA spec0 c from rfl]
  unfold Pipeline.ΦA
  rw [scopedRest0_eq]
  iintro ⟨HΦ, Ho, ⟨%d0, H0⟩, ⟨%d1, H1⟩, ⟨%d2, H2⟩, ⟨%d3, H3⟩, ⟨%d4, H4⟩⟩
  icases HΦ with ⟨⟨%f8, H8⟩, Hp⟩
  iapply (sound_kernel c (grid0.coords t) _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H8]; · iexists f8; iexact H8
  iintro ⟨H0, H1, H2, H3, H4, ⟨%g8, H8⟩⟩
  isplitl [H8 Hp]
  · isplitl [H8]
    · iexists g8; iexact H8
    · iexact Hp
  isplitl [Ho]; · iexact Ho
  isplitl [H0]; · iexact H0
  isplitl [H1]; · iexact H1
  isplitl [H2]; · iexact H2
  isplitl [H3]; · iexact H3
  iexact H4

theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

/-! ## The run and the frame -/

set_option backward.isDefEq.respectTransparency.types false in
/-- The launch: every execution ends, with the arrays of the pipeline at what its data says, every other buffer as the host left
    it, and every counter at zero. -/
theorem run : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m) (hA := A_eq m) (hΦ := fun _ _ => rfl)

theorem kept (r : PUnit × MemSt nD τ sig (Elt F)) (h : Pipeline.FramePost cfgs (dats m) 0 (V m) r) (c : Dev nD) (b : Ref sig .tc)
    (hb : b ∈ Pipeline.restRefs sig spec0) : r.2.mem ((c.tc : Thread nD τ).loc b) = V m c b := (h c).2 b hb

/-- The arguments end as they began, and the counters at zero. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(kept m r h.1 c main_arg0 (Pipeline.mem_restRefs_of main_arg0 (by decide) (by decide))).trans (V_arg0 m c),
     (kept m r h.1 c main_arg1 (Pipeline.mem_restRefs_of main_arg1 (by decide) (by decide))).trans (V_arg1 m c),
     (kept m r h.1 c main_arg2 (Pipeline.mem_restRefs_of main_arg2 (by decide) (by decide))).trans (V_arg2 m c)⟩) (run m ρ)

/-- The arguments end as they began, and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run m ρ))

end Cert.Proof.SB

end
-- ==== Proof.Words.Body.lean ====
module

public import proofs.«01_k».proof.Proof.Words.Loop
public import Idealize.ShloMosaic.Lib.Pipeline.ReadBack

@[expose] public section

noncomputable section

namespace Cert.Proof.SBWords

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

theorem left_le (i : grid0.Coords) : (i 2).val - 1 ≤ 16 := by have := (i 2).isLt; change (i 2).val < 16 at this; omega

/-- The loop's first counter, at grid step `b`. -/
abbrev ctr (b : Fin 16) : BitVec 32 := Scalar.subi (BitVec.ofNat 32 b.val) 2#32

theorem first_stop : ∀ b : Fin 16, b.val - 1 = 0 → Scalar.cmpi .sge (ctr b) 0#32 ≠ 1#1 := by decide +kernel

theorem first_pred (b : Fin 16) (k : ℕ) (h : b.val - 1 = k + 1) : ctr b = BitVec.ofNat 32 k := by
  have : ∀ b : Fin 16, b.val - 1 ≠ 0 → ctr b = BitVec.ofNat 32 (b.val - 2) := by decide +kernel
  rw [this b (by omega)]; congr 1; omega

theorem cover_out (a : Fin 4 → Vec F S1x256x128 .f32) (y : S1x256x256.Idx) : ∃ pc ∈ outPieces a, y ∈ pc.1.set :=
  View.cover_of_tiled (outPieces a) S1x256x128.size (by rfl) y

section Body

variable (c : Dev nD) (i : grid0.Coords) (arg3 : Memref sig .tc .vmem S1x256x256 .bf16) (harg3 : arg3.IsWhole)
    (arg4 : Memref sig .tc .vmem S1x16x256x256 .bf16) (harg4 : arg4.IsWhole)
    (arg5 : Memref sig .tc .vmem S1x4096x256 .bf16) (harg5 : arg5.IsWhole) (arg6 : Memref sig .tc .vmem S512x256 .bf16) (harg6 : arg6.IsWhole)
    (arg7 : Memref sig .tc .vmem S1x256x256 .bf16) (harg7 : arg7.IsWhole)
    (arg8 : Memref sig .tc .vmem S4x256x128 .f32) (harg8 : arg8.IsWhole)
    (f3 : Buf (Elt F) (arg3.view.loc (c : Thread nD τ)))
    (f4 : Buf (Elt F) (arg4.view.loc (c : Thread nD τ))) (f5 : Buf (Elt F) (arg5.view.loc (c : Thread nD τ)))
    (f6 : Buf (Elt F) (arg6.view.loc (c : Thread nD τ))) (f7 : Buf (Elt F) (arg7.view.loc (c : Thread nD τ)))
    (f8 : Buf (Elt F) (arg8.view.loc (c : Thread nD τ)))

/-- What the body leaves: queries, keys, values and mask as they were, the result's block written, the scratch at anything. -/
def after : sProp 𝕄 :=
  iprop((arg3.view.loc (c : Thread nD τ) ↦{fullShare} f3) ∗ (arg4.view.loc (c : Thread nD τ) ↦{fullShare} f4) ∗ (arg5.view.loc (c : Thread nD τ) ↦{fullShare} f5)
    ∗ (arg6.view.loc (c : Thread nD τ) ↦{fullShare} f6)
    ∗ (∃ g, ⌜arg7.view.read (Elt F) g = outV i (arg3.view.read (Elt F) f3) (arg4.view.read (Elt F) f4) (arg5.view.read (Elt F) f5) (arg6.view.read (Elt F) f6)⌝
        ∗ (arg7.view.loc (c : Thread nD τ) ↦{fullShare} g))
    ∗ (∃ g, arg8.view.loc (c : Thread nD τ) ↦{fullShare} g))

abbrev init : St F := start i (arg3.view.read (Elt F) f3) (arg4.view.read (Elt F) f4) (arg5.view.read (Elt F) f5) (arg6.view.read (Elt F) f6)

set_option maxHeartbeats 4000000 in
/-- The body past the first block of queries: its result's block at `outPieces` of the state the loop leaves. -/
theorem body_pos (hC : k0_cond1 i = 1#1) (K : PUnit → sProp 𝕄) :
    (iprop(((arg3.view.loc (c : Thread nD τ) ↦{fullShare} f3) ∗ (arg4.view.loc (c : Thread nD τ) ↦{fullShare} f4) ∗ (arg5.view.loc (c : Thread nD τ) ↦{fullShare} f5)
    ∗ (arg6.view.loc (c : Thread nD τ) ↦{fullShare} f6) ∗ (arg7.view.loc (c : Thread nD τ) ↦{fullShare} f7) ∗ (arg8.view.loc (c : Thread nD τ) ↦{fullShare} f8))
    ∗ (after c i arg3 arg4 arg5 arg6 arg7 arg8 f3 f4 f5 f6 -∗ K ⟨⟩)) : sProp 𝕄)
      ⊢ wp frame (wpE (defs₀ (F := F)) 𝒱₀ (c : Thread nD τ) none) Set.univ
        (cc0_sb_prompt i arg3 harg3 arg4 harg4 arg5 harg5 arg6 harg6 arg7 harg7 arg8 harg8) K := by
  simp only [cc0_sb_prompt_eq_skeleton]; unfold cc0_sb_prompt_skel
  iintro ⟨⟨H3, H4, H5, H6, H7, H8⟩, Hk⟩
  sl_exec_parts!
  have hs : init c i arg3 arg4 arg5 arg6 f3 f4 f5 f6 = _ := dif_pos hC
  have q0 : body_pos.sl.r c arg3 f3 = qH (arg3.view.read (Elt F) f3) 0 := rfl
  have q1 : body_pos.sl.r_2 c arg3 f3 = qH (arg3.view.read (Elt F) f3) 1 := rfl
  have q2 : body_pos.sl.r_4 c arg3 f3 = qH (arg3.view.read (Elt F) f3) 2 := rfl
  have q3 : k0_pay73 (body_pos.sl.r_5 c arg3 f3) body_pos.sl.v77 (64#32) k0_pay71 k0_pay72 = qH (arg3.view.read (Elt F) f3) 3 := rfl
  have z0 : body_pos.sl.v288 (F := F) arg8 = zeroSlab := View.readCov_fill arg8.view _ _ [] _ (by decide)
  have z1 : body_pos.sl.v357 c i arg3 arg4 arg5 arg6 arg8 f3 f4 f5 f6 hC = zeroSlab := (View.readCov_skip _ _ _ _ _ rfl).trans (View.readCov_fill arg8.view _ _ [] _ (by decide))
  have z2 : body_pos.sl.v426 c i arg3 arg4 arg5 arg6 arg8 f3 f4 f5 f6 hC = zeroSlab :=
    (View.readCov_skip _ _ _ _ _ rfl).trans ((View.readCov_skip _ _ _ _ _ rfl).trans (View.readCov_fill arg8.view _ _ [] _ (by decide)))
  have z3 : body_pos.sl.v495 c i arg3 arg4 arg5 arg6 arg8 f3 f4 f5 f6 hC = zeroSlab :=
    (View.readCov_skip _ _ _ _ _ rfl).trans ((View.readCov_skip _ _ _ _ _ rfl).trans ((View.readCov_skip _ _ _ _ _ rfl).trans (View.readCov_fill arg8.view _ _ [] _ (by decide))))
  have e0 : body_pos.sl.r_16 c i arg3 arg4 f3 f4 hC = (init c i arg3 arg4 arg5 arg6 f3 f4 f5 f6).1 0 := by rw [hs]; rfl
  have e1 : body_pos.sl.r_21 c i arg3 arg4 f3 f4 hC = (init c i arg3 arg4 arg5 arg6 f3 f4 f5 f6).1 1 := by rw [hs]; rfl
  have e2 : body_pos.sl.r_25 c i arg3 arg4 f3 f4 hC = (init c i arg3 arg4 arg5 arg6 f3 f4 f5 f6).1 2 := by rw [hs]; rfl
  have e3 : k0_pay77 (body_pos.sl.r_30 c i arg3 arg4 f3 f4 hC) (body_pos.sl.r_31 c i arg3 arg4 f3 f4 hC) (body_pos.sl.r_32 c i arg3 arg4 f3 f4 hC) k0_pay42 = (init c i arg3 arg4 arg5 arg6 f3 f4 f5 f6).1 3 := by rw [hs]; rfl
  have e8 : body_pos.sl.H8_5 c i arg3 arg4 arg5 arg6 arg8 f3 f4 f5 f6 hC = slabs (init c i arg3 arg4 arg5 arg6 f3 f4 f5 f6).2 body_pos.sl.H8_1 := by
    let pa (n : Fin 4) (z : Vec F S1x256x128 .f32) : Vec F S1x256x128 .f32 := posA (qH (arg3.view.read (Elt F) f3) n) (ktPos i hC (arg4.view.read (Elt F) f4) 0 (pairOf n)) (ktPos i hC (arg4.view.read (Elt F) f4) 1 (pairOf n)) (u2Of (arg6.view.read (Elt F) f6)) (vPos i hC (arg5.view.read (Elt F) f5) (pairOf n)) z
    refine .trans (b := slabs (![pa 0 (body_pos.sl.v288 arg8), pa 1 (body_pos.sl.v357 c i arg3 arg4 arg5 arg6 arg8 f3 f4 f5 f6 hC), pa 2 (body_pos.sl.v426 c i arg3 arg4 arg5 arg6 arg8 f3 f4 f5 f6 hC), pa 3 (body_pos.sl.v495 c i arg3 arg4 arg5 arg6 arg8 f3 f4 f5 f6 hC)]) _) rfl ?_
    rw [z0, z1, z2, z3, hs]
    rfl
  rw [q0, q1, q2, q3, e0, e1, e2, e3, e8]
  iapply (wp_call_spec 𝒱₀ (c : Thread nD τ) none Set.univ
    (spec c arg4 arg5 arg6 arg8 (qH (arg3.view.read (Elt F) f3)) f4 f5 f6 ((i 2).val - 1) (left_le i) (init c i arg3 arg4 arg5 arg6 f3 f4 f5 f6)) ((i 2).val - 1)
    (fun u hu => nomatch hu)
    (spec_le c i arg4 harg4 arg5 harg5 arg6 harg6 arg8 harg8 (qH (arg3.view.read (Elt F) f3)) f4 f5 f6 ((i 2).val - 1) (left_le i) (body_pos.sl.v156 i)
      (first_stop (i 2)) (first_pred (i 2)) _))
  rw [spec_apply]; unfold held
  isplitl [H4 H5 H6 H8]
  · isplitl [H4]; · iexact H4
    isplitl [H5]; · iexact H5
    isplitl [H6]; · iexact H6
    iexists _; isplitr
    swap; · iexact H8
    ipureintro; exact slabs_written _ _ _
  iintro %r ⟨H4, H5, H6, ⟨%s8, %hs8, H8⟩⟩
  obtain ⟨h0, h1, h2, h3⟩ := hs8
  obtain ⟨r0, r1, r2, r3, r4⟩ := r
  sl_exec_parts!
  have e7 : body_pos.sl.H7_2 c i arg3 arg4 arg5 arg6 f3 f4 f5 f6
      = outPieces (final i (arg3.view.read (Elt F) f3) (arg4.view.read (Elt F) f4) (arg5.view.read (Elt F) f5) (arg6.view.read (Elt F) f6)).2 := rfl
  rw [e7]
  sl_step
  iapply Hk
  unfold after
  isplitl [H3]; · iexact H3
  isplitl [H4]; · iexact H4
  isplitl [H5]; · iexact H5
  isplitl [H6]; · iexact H6
  isplitl [H7]
  · iexists _; isplitr
    swap; · iexact H7
    ipureintro; exact View.read_writes_eq_canon _ _ _ (cover_out _)
  iexists _; iexact H8

set_option maxHeartbeats 4000000 in
/-- The body at the first block of queries: its result's block at `outPieces` of the state the loop leaves. -/
theorem body_neg (hC : ¬ k0_cond1 i = 1#1) (K : PUnit → sProp 𝕄) :
    (iprop(((arg3.view.loc (c : Thread nD τ) ↦{fullShare} f3) ∗ (arg4.view.loc (c : Thread nD τ) ↦{fullShare} f4) ∗ (arg5.view.loc (c : Thread nD τ) ↦{fullShare} f5)
    ∗ (arg6.view.loc (c : Thread nD τ) ↦{fullShare} f6) ∗ (arg7.view.loc (c : Thread nD τ) ↦{fullShare} f7) ∗ (arg8.view.loc (c : Thread nD τ) ↦{fullShare} f8))
    ∗ (after c i arg3 arg4 arg5 arg6 arg7 arg8 f3 f4 f5 f6 -∗ K ⟨⟩)) : sProp 𝕄)
      ⊢ wp frame (wpE (defs₀ (F := F)) 𝒱₀ (c : Thread nD τ) none) Set.univ
        (cc0_sb_prompt i arg3 harg3 arg4 harg4 arg5 harg5 arg6 harg6 arg7 harg7 arg8 harg8) K := by
  simp only [cc0_sb_prompt_eq_skeleton]; unfold cc0_sb_prompt_skel
  iintro ⟨⟨H3, H4, H5, H6, H7, H8⟩, Hk⟩
  sl_exec_parts!
  have hs : init c i arg3 arg4 arg5 arg6 f3 f4 f5 f6 = _ := dif_neg hC
  have q0 : body_neg.sl.r c arg3 f3 = qH (arg3.view.read (Elt F) f3) 0 := rfl
  have q1 : body_neg.sl.r_2 c arg3 f3 = qH (arg3.view.read (Elt F) f3) 1 := rfl
  have q2 : body_neg.sl.r_4 c arg3 f3 = qH (arg3.view.read (Elt F) f3) 2 := rfl
  have q3 : k0_pay73 (body_neg.sl.r_5 c arg3 f3) body_neg.sl.v77 (64#32) k0_pay71 k0_pay72 = qH (arg3.view.read (Elt F) f3) 3 := rfl
  have z0 : body_neg.sl.v239 (F := F) arg8 = zeroSlab := View.readCov_fill arg8.view _ _ [] _ (by decide)
  have z1 : body_neg.sl.v280 c i arg3 arg4 arg5 arg6 arg8 f3 f4 f5 f6 hC = zeroSlab := (View.readCov_skip _ _ _ _ _ rfl).trans (View.readCov_fill arg8.view _ _ [] _ (by decide))
  have z2 : body_neg.sl.v321 c i arg3 arg4 arg5 arg6 arg8 f3 f4 f5 f6 hC = zeroSlab :=
    (View.readCov_skip _ _ _ _ _ rfl).trans ((View.readCov_skip _ _ _ _ _ rfl).trans (View.readCov_fill arg8.view _ _ [] _ (by decide)))
  have z3 : body_neg.sl.v362 c i arg3 arg4 arg5 arg6 arg8 f3 f4 f5 f6 hC = zeroSlab :=
    (View.readCov_skip _ _ _ _ _ rfl).trans ((View.readCov_skip _ _ _ _ _ rfl).trans ((View.readCov_skip _ _ _ _ _ rfl).trans (View.readCov_fill arg8.view _ _ [] _ (by decide))))
  have e0 : body_neg.sl.r_12 c i arg3 arg4 f3 f4 hC = (init c i arg3 arg4 arg5 arg6 f3 f4 f5 f6).1 0 := by rw [hs]; rfl
  have e1 : body_neg.sl.r_15 c i arg3 arg4 f3 f4 hC = (init c i arg3 arg4 arg5 arg6 f3 f4 f5 f6).1 1 := by rw [hs]; rfl
  have e2 : body_neg.sl.r_18 c i arg3 arg4 f3 f4 hC = (init c i arg3 arg4 arg5 arg6 f3 f4 f5 f6).1 2 := by rw [hs]; rfl
  have e3 : k0_pay79 (body_neg.sl.r_19 c i arg3 arg4 f3 f4 hC) = (init c i arg3 arg4 arg5 arg6 f3 f4 f5 f6).1 3 := by rw [hs]; rfl
  have e8 : body_neg.sl.H8_5 c i arg3 arg4 arg5 arg6 arg8 f3 f4 f5 f6 hC = slabs (init c i arg3 arg4 arg5 arg6 f3 f4 f5 f6).2 body_neg.sl.H8_1 := by
    let pa (n : Fin 4) (z : Vec F S1x256x128 .f32) : Vec F S1x256x128 .f32 := negA (qH (arg3.view.read (Elt F) f3) n) (ktNeg i hC (arg4.view.read (Elt F) f4) (pairOf n)) (u2Of (arg6.view.read (Elt F) f6)) (vNeg i hC (arg5.view.read (Elt F) f5) (pairOf n)) z
    refine .trans (b := slabs (![pa 0 (body_neg.sl.v239 arg8), pa 1 (body_neg.sl.v280 c i arg3 arg4 arg5 arg6 arg8 f3 f4 f5 f6 hC), pa 2 (body_neg.sl.v321 c i arg3 arg4 arg5 arg6 arg8 f3 f4 f5 f6 hC), pa 3 (body_neg.sl.v362 c i arg3 arg4 arg5 arg6 arg8 f3 f4 f5 f6 hC)]) _) rfl ?_
    rw [z0, z1, z2, z3, hs]
    rfl
  rw [q0, q1, q2, q3, e0, e1, e2, e3, e8]
  iapply (wp_call_spec 𝒱₀ (c : Thread nD τ) none Set.univ
    (spec c arg4 arg5 arg6 arg8 (qH (arg3.view.read (Elt F) f3)) f4 f5 f6 ((i 2).val - 1) (left_le i) (init c i arg3 arg4 arg5 arg6 f3 f4 f5 f6)) ((i 2).val - 1)
    (fun u hu => nomatch hu)
    (spec_le c i arg4 harg4 arg5 harg5 arg6 harg6 arg8 harg8 (qH (arg3.view.read (Elt F) f3)) f4 f5 f6 ((i 2).val - 1) (left_le i) (body_neg.sl.v156 i)
      (first_stop (i 2)) (first_pred (i 2)) _))
  rw [spec_apply]; unfold held
  isplitl [H4 H5 H6 H8]
  · isplitl [H4]; · iexact H4
    isplitl [H5]; · iexact H5
    isplitl [H6]; · iexact H6
    iexists _; isplitr
    swap; · iexact H8
    ipureintro; exact slabs_written _ _ _
  iintro %r ⟨H4, H5, H6, ⟨%s8, %hs8, H8⟩⟩
  obtain ⟨h0, h1, h2, h3⟩ := hs8
  obtain ⟨r0, r1, r2, r3, r4⟩ := r
  sl_exec_parts!
  have e7 : body_neg.sl.H7_2 c i arg3 arg4 arg5 arg6 f3 f4 f5 f6
      = outPieces (final i (arg3.view.read (Elt F) f3) (arg4.view.read (Elt F) f4) (arg5.view.read (Elt F) f5) (arg6.view.read (Elt F) f6)).2 := rfl
  rw [e7]
  sl_step
  iapply Hk
  unfold after
  isplitl [H3]; · iexact H3
  isplitl [H4]; · iexact H4
  isplitl [H5]; · iexact H5
  isplitl [H6]; · iexact H6
  isplitl [H7]
  · iexists _; isplitr
    swap; · iexact H7
    ipureintro; exact View.read_writes_eq_canon _ _ _ (cover_out _)
  iexists _; iexact H8

end Body

end Cert.Proof.SBWords

end
-- ==== Proof.Frames.lean ====
/- The three frames and `preserves`. The kernel as printed and the one read over the extended reals differ in one
   constant, and in the record that the loop passes its state in: each has its run (Run, and Words/Run). -/
module

public import proofs.«01_k».proof.Defs
public import proofs.«01_k».proof.Proof.Run
public import proofs.«01_k».proof.Proof.Words.Run
public import proofs.«01_k».proof.Proof.Gen.Kernel
public import proofs.«01_k».proof.Proof.Gen.ReferenceIdeal
public import proofs.«01_k».proof.Proof.Gen.ReferenceIdeal.Run
public import Idealize.ShloMosaic.Adequacy
public import Idealize.ShloMosaic.Init
public import Idealize.ShloMosaic.Lib.Quiescent

@[expose] public section

noncomputable section

namespace Cert.Proof.SB

open Idealize.ShloMosaic Idealize.SL.Sem

theorem frame_kernelIdeal : Cert.quiescent_KernelIdeal := fun m ρ _ => frame (F := Ideal) m ρ

theorem frame_kernel : Cert.quiescent_Kernel := fun m ρ _ => SBWords.frame (F := Bits) m ρ

theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The one rewrite: the stopping tail is read as infinity. -/
theorem preserves : Cert.preserves_Kernel_KernelIdeal :=
  IdealRules.named_const.statement Cert.KernelIdeal.κ "dead" .f32 0x42D00000#32 ⊤ rfl

end Cert.Proof.SB

end
-- ==== Proof.Value.Math.lean ====
/-
  Stick-breaking attention over the reals, for one query of one head: what a block of 256 keys adds to the tail and to
  the output, and what all blocks together come to. Keys are numbered by naturals; `s` is the query's position.
-/
module

public import Idealize.ShloMosaic.PureOps.Ideal
public import Mathlib.Algebra.BigOperators.Intervals

@[expose] public section

noncomputable section

namespace Cert.Proof.SB

open Idealize.ShloMosaic Finset

/-- `log (1 + exp z)`, as both programs spell it. -/
def sp (z : ℝ) : ℝ := max z 0 + Real.log (1 + Real.exp (-|z|))

theorem log_one_add_exp (x : ℝ) : Ideal.log (1 + Ideal.exp (x : EReal)) = ((Real.log (1 + Real.exp x) : ℝ) : EReal) := by
  rw [Ideal.exp_coe, ← EReal.coe_one, ← EReal.coe_add, Ideal.log_coe, if_neg (not_le.2 (by positivity))]

theorem coe_max (x y : ℝ) : ((max x y : ℝ) : EReal) = max (x : EReal) y := by
  rcases le_total x y with h | h
  · rw [max_eq_right h, max_eq_right (EReal.coe_le_coe_iff.2 h)]
  · rw [max_eq_left h, max_eq_left (EReal.coe_le_coe_iff.2 h)]

theorem abs_coe (z : ℝ) : max (z : EReal) (-(z : EReal)) = ((|z| : ℝ) : EReal) := by
  rw [abs_eq_max_neg, coe_max, EReal.coe_neg]

/-- The softplus of a real, on the extended reals. -/
theorem sp_coe (z : ℝ) : max (z : EReal) 0 + Ideal.log (1 + Ideal.exp (0 - max (z : EReal) (-(z : EReal)))) = ((sp z : ℝ) : EReal) := by
  rw [abs_coe, zero_sub, ← EReal.coe_neg, log_one_add_exp, ← EReal.coe_zero, ← coe_max, ← EReal.coe_add]; rfl

theorem sp_neg (z : ℝ) : sp (-z) = sp z - z := by
  unfold sp; rw [abs_neg]
  rcases le_total z 0 with h | h
  · rw [max_eq_left (by linarith), max_eq_right h]; ring
  · rw [max_eq_right (by linarith), max_eq_left h]; ring

theorem coe_sum {ι : Type*} (S : Finset ι) (f : ι → ℝ) : ((∑ i ∈ S, f i : ℝ) : EReal) = ∑ i ∈ S, (f i : EReal) :=
  map_sum (⟨⟨Real.toEReal, EReal.coe_zero⟩, EReal.coe_add⟩ : ℝ →+ EReal) f S

/-! ## One query -/

/-- What key `l` adds to the tail of the query at `s`. -/
def nl (Z : ℕ → ℝ) (s l : ℕ) : ℝ := if l < s then sp (Z l) else 0

/-- The tail from key `l` on. -/
def tail (Z : ℕ → ℝ) (s l : ℕ) : ℝ := ∑ k ∈ Ico l 4096, nl Z s k

/-- The weight of key `l`. -/
def wt (Z : ℕ → ℝ) (s l : ℕ) : ℝ := if l < s then Real.exp (Z l - sp (Z l) - tail Z s (l + 1)) else 0

/-- The output from key `l` on. -/
def outFrom (Z : ℕ → ℝ) (s : ℕ) (V : ℕ → EReal) (l : ℕ) : EReal := ∑ k ∈ Ico l 4096, (wt Z s k : EReal) * V k

/-- A sum over a stretch of keys is its sum over positions. -/
theorem sum_stretch {M : Type*} [AddCommMonoid M] (f : ℕ → M) (n k : ℕ) (h : n + k ≤ 4096) :
    ∑ l ∈ Ico n 4096, f l = ∑ l ∈ Ico (n + k) 4096, f l + ∑ c : Fin k, f (n + c) := by
  rw [← sum_Ico_consecutive f (Nat.le_add_right n k) h, add_comm, sum_Ico_eq_sum_range f n, Nat.add_sub_cancel_left, sum_range]

theorem tail_block (Z : ℕ → ℝ) (s n k : ℕ) (h : n + k ≤ 4096) :
    tail Z s n = tail Z s (n + k) + ∑ c : Fin k, nl Z s (n + c) := sum_stretch _ n k h

theorem outFrom_block (Z : ℕ → ℝ) (s : ℕ) (V : ℕ → EReal) (n k : ℕ) (h : n + k ≤ 4096) :
    outFrom Z s V n = outFrom Z s V (n + k) + ∑ c : Fin k, (wt Z s (n + c) : EReal) * V (n + c) := sum_stretch _ n k h

theorem tail_of_le (Z : ℕ → ℝ) (s l : ℕ) (h : s ≤ l) : tail Z s l = 0 :=
  sum_eq_zero fun k hk => if_neg (by have := (mem_Ico.1 hk).1; omega)

theorem outFrom_of_le (Z : ℕ → ℝ) (s : ℕ) (V : ℕ → EReal) (l : ℕ) (h : s ≤ l) : outFrom Z s V l = 0 :=
  sum_eq_zero fun k hk => by
    unfold wt; rw [if_neg (by have := (mem_Ico.1 hk).1; omega), EReal.coe_zero, zero_mul]

/-- The tail past a key inside a block: the block's later keys and the tail past the block. -/
theorem tail_inside (Z : ℕ → ℝ) (s n : ℕ) (c : Fin 256) (h : n + 256 ≤ 4096) :
    tail Z s (n + c + 1) = tail Z s (n + 256) + ∑ x : Fin 256, if c < x then nl Z s (n + x) else 0 := by
  unfold tail
  have hc := c.isLt
  rw [← sum_Ico_consecutive (nl Z s) (show n + c + 1 ≤ n + 256 by omega) h, add_comm]
  congr 1
  have e : ∑ x : Fin 256, (if c < x then nl Z s (n + x) else 0) = ∑ i ∈ Ico 0 256, if c.val < i then nl Z s (n + i) else 0 := by
    rw [← range_eq_Ico, sum_range]; exact sum_congr rfl fun x _ => by simp only [Fin.lt_def]
  rw [e, ← sum_Ico_consecutive _ (Nat.zero_le (c.val + 1)) (show c.val + 1 ≤ 256 by omega),
    sum_eq_zero (s := Ico 0 (c.val + 1)) fun i hi => if_neg (by have := (mem_Ico.1 hi).2; omega), zero_add,
    sum_congr rfl fun i hi => if_pos (show c.val < i by have := (mem_Ico.1 hi).1; omega), sum_Ico_add, add_comm (c.val + 1) n,
    add_comm 256 n, ← Nat.add_assoc]

/-- The later keys' sum by the stacked triangular mask: the low half's product vanishes. -/
theorem later_eq (N : Fin 256 → ℝ) (U L : Fin 256 → EReal) (c : Fin 256) (hU : ∀ x, U x = if c < x then 1 else 0) :
    ∑ x, (N x : EReal) * U x + ∑ x, ((N x : EReal) - N x) * L x = ((∑ x, if c < x then N x else 0 : ℝ) : EReal) := by
  rw [coe_sum, sum_eq_zero (f := fun x => ((N x : EReal) - N x) * L x) fun x _ => by
    rw [← EReal.coe_sub, sub_self, EReal.coe_zero, zero_mul], add_zero]
  refine sum_congr rfl fun x _ => ?_
  rw [hU]; split <;> simp

/-- A block key's weight, from its score and what the block has seen. -/
theorem wt_block (Z : ℕ → ℝ) (s n : ℕ) (c : Fin 256) (h : n + 256 ≤ 4096) (hs : n + c < s) :
    Ideal.exp ((Z (n + c) : EReal) - nl Z s (n + c) - (tail Z s (n + 256) + ((∑ x : Fin 256, if c < x then nl Z s (n + x) else 0 : ℝ) : EReal)))
      = (wt Z s (n + c) : EReal) := by
  rw [← EReal.coe_add, ← tail_inside Z s n c h, ← EReal.coe_sub, ← EReal.coe_sub, Ideal.exp_coe]
  unfold wt nl; rw [if_pos hs, if_pos hs]

/-! ## The reference's spelling -/

/-- The weight as the reference computes it: the logarithm of the sigmoid and the reversed running sum. -/
theorem wt_ref (Z : ℕ → ℝ) (s l : ℕ) (hl : l < 4096) (hs : l < s) :
    Ideal.exp (-((sp (-Z l) : ℝ) : EReal) + (((∑ k ∈ Ico l 4096, -nl Z s k : ℝ) : EReal) - ((-nl Z s l : ℝ) : EReal))) = (wt Z s l : EReal) := by
  rw [← EReal.coe_neg, ← EReal.coe_sub, ← EReal.coe_add, Ideal.exp_coe]
  unfold wt tail; rw [if_pos hs]
  congr 2
  rw [sum_eq_sum_Ico_succ_bot hl, sp_neg, sum_neg_distrib]; ring

end Cert.Proof.SB

end
-- ==== Proof.Value.Block.lean ====
/-
  One block of keys on the extended reals, at a row and a lane: where the scores are real and the tail and the output so
  far are those of the keys to the right, the block's payloads are those of its keys and the keys to the right.
-/
module

public import proofs.«01_k».proof.Proof.Common
public import proofs.«01_k».proof.Proof.Value.Math
public import Idealize.ShloMosaic.Lib.Pointwise
public import Idealize.ShloMosaic.Lib.WordCmp

@[expose] public section

noncomputable section

namespace Cert.Proof.SB

open Cert.KernelIdeal Cert.KernelIdeal.Gen Idealize.ShloMosaic Idealize.ShloMosaic.Pointwise Finset

/-- The scores of one head in a block of keys. -/
def scores (q : FVec Ideal S256x128 .bf16) (k : Vec Ideal S1x1x128x256 .bf16) : FVec Ideal S256x256 .f32 := k0_pay82 q k

/-- The mask of the later keys, as the call is handed it: two copies of it, one on the other. -/
def IsMask (u : Vec Ideal S512x256 .bf16) : Prop :=
  ∀ x c : Fin 256, u (ix2 ⟨x.val, by omega⟩ c) = (if c < x then 1 else 0 : EReal)

variable {Z : ℕ → ℝ} {s n : ℕ} {r : Fin 256} {l : Fin 128} {Vf : ℕ → EReal}

theorem nlm_at {z : FVec Ideal S256x256 .f32} (hz : ∀ c : Fin 256, z (ix2 r c) = ((Z (n + c) : ℝ) : EReal)) (hs : n + 256 ≤ s) (c : Fin 256) :
    k0_pay17 z (ix2 r c) = ((nl Z s (n + c) : ℝ) : EReal) := by
  pointwise [k0_pay17]
  unfold nl
  rw [hz, if_pos (by have := c.isLt; omega)]
  exact sp_coe _

theorem nlmMask_at {z : FVec Ideal S256x256 .f32} (hz : ∀ c : Fin 256, z (ix2 r c) = ((Z (n + c) : ℝ) : EReal)) (c : Fin 256) :
    k0_pay14 k0_pay61 z (ix2 r c) = ((nl Z (n + r) (n + c) : ℝ) : EReal) := by
  pointwise [k0_pay14, k0_pay61]
  rw [hz, WordCmp.cmpi_slt_ofNat (by omega) (by omega), WordCmp.select_decide]
  unfold nl
  by_cases h : c.val < r.val
  · rw [if_pos h, if_pos (by omega)]; exact sp_coe _
  · rw [if_neg h, if_neg (by omega)]; rfl

/-! ## The loop's block -/

theorem stepT_at {q : FVec Ideal S256x128 .bf16} {k : Vec Ideal S1x1x128x256 .bf16} {t : FVec Ideal S256x1 .f32}
    (hz : ∀ c : Fin 256, scores q k (ix2 r c) = ((Z (n + c) : ℝ) : EReal)) (hs : n + 256 ≤ s) (hn : n + 256 ≤ 4096)
    (ht : t (ix2 r 0) = ((tail Z s (n + 256) : ℝ) : EReal)) : stepT q k t (ix2 r 0) = ((tail Z s n : ℝ) : EReal) := by
  unfold stepT
  pointwise [k0_pay88]
  rw [ht, tail_block Z s n 256 hn, EReal.coe_add, coe_sum]
  exact congrArg _ (sum_congr rfl fun c _ => nlm_at hz hs c)

theorem stepA_at {q : FVec Ideal S256x128 .bf16} {k : Vec Ideal S1x1x128x256 .bf16} {u : Vec Ideal S512x256 .bf16} {v : Vec Ideal S1x256x128 .bf16}
    {t : FVec Ideal S256x1 .f32} {a : Vec Ideal S1x256x128 .f32}
    (hz : ∀ c : Fin 256, scores q k (ix2 r c) = ((Z (n + c) : ℝ) : EReal)) (hs : n + 256 ≤ s) (hn : n + 256 ≤ 4096) (hu : IsMask u)
    (hv : ∀ c : Fin 256, v (ix3 0 c l) = Vf (n + c))
    (ht : t (ix2 r 0) = ((tail Z s (n + 256) : ℝ) : EReal)) (ha : a (ix3 0 r l) = outFrom Z s Vf (n + 256)) :
    stepA q k u v t a (ix3 0 r l) = outFrom Z s Vf n := by
  unfold stepA
  pointwise [k0_pay89]
  rw [ha, outFrom_block Z s Vf n 256 hn]
  refine congrArg _ (sum_congr rfl fun c _ => ?_)
  rw [hv, ← wt_block Z s n c hn (by have := c.isLt; omega), ← later_eq (fun x => nl Z s (n + x)) (fun x => u (ix2 ⟨x.val, by omega⟩ c)) (fun x => u (ix2 ⟨256 + x.val, by omega⟩ c)) c (fun x => hu x c), ht]
  have e : ∀ x : Fin 256, k0_pay86 q k (ix2 r x) = ((nl Z s (n + x) : ℝ) : EReal) := fun x => nlm_at hz hs x
  have e' : ∀ x : Fin 256, k0_pay87 q k (ix2 r x) = ((nl Z s (n + x) : ℝ) : EReal) := e
  have ez : k0_pay82 q k (ix2 r c) = ((Z (n + c) : ℝ) : EReal) := hz c
  simp only [e, e', ez]

/-! ## The diagonal's block and the one left of it -/

theorem mid_at {k1 : FVec Ideal S256x256 .f32} (hz : ∀ c : Fin 256, k1 (ix2 r c) = ((Z (n + c) : ℝ) : EReal)) (hn : n + 256 ≤ 4096) :
    k0_pay16 k0_pay75 (k0_pay14 k0_pay61 k1) (ix2 r 0) = ((tail Z (n + r) n : ℝ) : EReal) := by
  rw [tail_block Z (n + r) n 256 hn, tail_of_le Z (n + r) (n + 256) (by omega), zero_add]
  pointwise [k0_pay16, k0_pay75]
  rw [coe_sum]
  exact sum_congr rfl fun c _ => nlmMask_at hz c

/-- The weights of the diagonal's block. -/
theorem diag_at {k1 : FVec Ideal S256x256 .f32} {u : Vec Ideal S512x256 .bf16} (hz : ∀ c : Fin 256, k1 (ix2 r c) = ((Z (n + c) : ℝ) : EReal))
    (hn : n + 256 ≤ 4096) (hu : IsMask u) (c : Fin 256) :
    k0_pay15 k0_pay61 k0_pay75 k1 u (ix2 r c) = ((wt Z (n + r) (n + c) : ℝ) : EReal) := by
  have e : ∀ x : Fin 256, k0_pay14 k0_pay61 k1 (ix2 r x) = ((nl Z (n + r) (n + x) : ℝ) : EReal) := fun x => nlmMask_at hz x
  pointwise [k0_pay15, k0_pay75]
  rw [show k0_pay61 (ix2 r c) = BitVec.ofBool (decide (c.val < r.val)) from by
    pointwise [k0_pay61]; exact WordCmp.cmpi_slt_ofNat (by omega) (by omega), WordCmp.select_decide]
  by_cases h : c.val < r.val
  · rw [if_pos h, ← wt_block Z (n + r) n c hn (by omega), tail_of_le Z (n + r) (n + 256) (by omega),
      ← later_eq (fun x => nl Z (n + r) (n + x)) (fun x => u (ix2 ⟨x.val, by omega⟩ c)) (fun x => u (ix2 ⟨256 + x.val, by omega⟩ c)) c (fun x => hu x c)]
    simp only [e, hz, EReal.coe_zero, zero_add]
  · rw [if_neg h]; unfold wt; rw [if_neg (by omega)]; rfl

theorem posT_at {q : FVec Ideal S256x128 .bf16} {k0 k1 : Vec Ideal S1x1x128x256 .bf16}
    (hz0 : ∀ c : Fin 256, scores q k0 (ix2 r c) = ((Z (n + c) : ℝ) : EReal)) (hz1 : ∀ c : Fin 256, scores q k1 (ix2 r c) = ((Z (n + 256 + c) : ℝ) : EReal))
    (hn : n + 512 ≤ 4096) : posT q k0 k1 (ix2 r 0) = ((tail Z (n + 256 + r) n : ℝ) : EReal) := by
  have e := mid_at (n := n + 256) hz1 (by omega)
  rw [tail_block Z (n + 256 + r) n 256 (by omega), EReal.coe_add, coe_sum, ← e]
  unfold posT
  pointwise [k0_pay18]
  exact congrArg _ (sum_congr rfl fun c _ => nlm_at hz0 (by omega) c)

theorem posA_at {q : FVec Ideal S256x128 .bf16} {k0 k1 : Vec Ideal S1x1x128x256 .bf16} {u : Vec Ideal S512x256 .bf16} {v : Vec Ideal S1x512x128 .bf16}
    (hz0 : ∀ c : Fin 256, scores q k0 (ix2 r c) = ((Z (n + c) : ℝ) : EReal)) (hz1 : ∀ c : Fin 256, scores q k1 (ix2 r c) = ((Z (n + 256 + c) : ℝ) : EReal))
    (hn : n + 512 ≤ 4096) (hu : IsMask u) (hv : ∀ c : Fin 512, v (ix3 0 c l) = Vf (n + c)) :
    posA q k0 k1 u v zeroSlab (ix3 0 r l) = outFrom Z (n + 256 + r) Vf n := by
  rw [outFrom_block Z _ Vf n 256 (by omega), outFrom_block Z _ Vf (n + 256) 256 (by omega), outFrom_of_le Z _ Vf (n + 256 + 256) (by omega), zero_add]
  unfold posA zeroSlab
  pointwise [k0_pay19]
  refine (add_comm _ _).trans ?_
  refine congrArg₂ (· + ·) (sum_congr rfl fun c _ => ?_) (sum_congr rfl fun c _ => ?_)
  · rw [hv]
    exact congrArg₂ (· * ·) (diag_at (n := n + 256) hz1 (by omega) hu c) (congrArg Vf (Nat.add_assoc _ _ _).symm)
  · rw [hv, ← wt_block Z _ n c (by omega) (by omega), ← later_eq (fun x => nl Z (n + 256 + r) (n + x)) (fun x => u (ix2 ⟨x.val, by omega⟩ c)) (fun x => u (ix2 ⟨256 + x.val, by omega⟩ c)) c (fun x => hu x c)]
    have e0 : ∀ x : Fin 256, k0_pay17 (k0_pay6 q k0) (ix2 r x) = ((nl Z (n + 256 + r) (n + x) : ℝ) : EReal) := fun x => nlm_at hz0 (by omega) x
    have ez : k0_pay6 q k0 (ix2 r c) = ((Z (n + c) : ℝ) : EReal) := hz0 c
    have et : k0_pay16 k0_pay75 (k0_pay14 k0_pay61 (k0_pay7 q k1)) (ix2 r 0) = ((tail Z (n + 256 + r) (n + 256) : ℝ) : EReal) := mid_at (n := n + 256) hz1 (by omega)
    simp only [e0, ez, et]

/-! ## The grid's first block -/

theorem negT_at {q : FVec Ideal S256x128 .bf16} {k : Vec Ideal S1x1x128x256 .bf16}
    (hz : ∀ c : Fin 256, scores q k (ix2 r c) = ((Z (n + c) : ℝ) : EReal)) (hn : n + 256 ≤ 4096) :
    negT q k (ix2 r 0) = ((tail Z (n + r) n : ℝ) : EReal) := mid_at hz hn

theorem negA_at {q : FVec Ideal S256x128 .bf16} {k : Vec Ideal S1x1x128x256 .bf16} {u : Vec Ideal S512x256 .bf16} {v : Vec Ideal S1x256x128 .bf16}
    (hz : ∀ c : Fin 256, scores q k (ix2 r c) = ((Z (n + c) : ℝ) : EReal)) (hn : n + 256 ≤ 4096) (hu : IsMask u)
    (hv : ∀ c : Fin 256, v (ix3 0 c l) = Vf (n + c)) : negA q k u v zeroSlab (ix3 0 r l) = outFrom Z (n + r) Vf n := by
  rw [outFrom_block Z _ Vf n 256 hn, outFrom_of_le Z _ Vf (n + 256) (by omega), zero_add]
  unfold negA
  have e : ∀ c : Fin 256, _ = ((wt Z (n + r) (n + c) : ℝ) : EReal) := fun c => diag_at (k1 := k0_pay43 q k) hz hn hu c
  have : k0_pay50 k0_pay61 k0_pay75 (k0_pay43 q k) (k0_pay47 k0_pay61 q k) (k0_pay48 k0_pay61 q k) u (zeroSlab (F := Ideal)) v (ix3 0 r l)
      = ∑ c, k0_pay15 k0_pay61 k0_pay75 (k0_pay43 q k) u (ix2 r c) * v (ix3 0 c l) := by
    unfold zeroSlab
    pointwise [k0_pay50, k0_pay15]
    rfl
  refine this.trans ?_
  exact sum_congr rfl fun c _ => congrArg₂ (· * ·) (e c) (hv c)

end Cert.Proof.SB

end
-- ==== Proof.Value.Point.lean ====
/-
  One point of the grid on the extended reals: where the blocks of queries and keys hold reals, the body leaves in the
  result's block the output of every row from its first key on. The loop never stops early: a finite tail is below the
  dead mark's ideal value.
-/
module

public import proofs.«01_k».proof.Proof.Value.Block
public import Idealize.ShloMosaic.Lib.Pipeline.ValueKit.Tiles

@[expose] public section

noncomputable section

namespace Cert.Proof.SB

open Cert.KernelIdeal Cert.KernelIdeal.Gen Idealize.ShloMosaic Idealize.ShloMosaic.Pointwise Finset

/-! ## The rectangles -/

theorem off9 : ∀ k : Fin 16, k0_off9 (BitVec.ofNat 32 k.val) = ![0, k.val, 0, 0] := by decide +kernel
theorem off10 : ∀ k : Fin 16, k0_off10 (BitVec.ofNat 32 k.val) = ![0, k.val, 128, 0] := by decide +kernel
theorem off11 : ∀ k : Fin 16, k0_off11 (BitVec.ofNat 32 k.val) = ![0, 256 * k.val, 0] := by decide +kernel
theorem off12 : ∀ k : Fin 16, k0_off12 (BitVec.ofNat 32 k.val) = ![0, 256 * k.val, 128] := by decide +kernel
theorem cond_pos : ∀ i : grid0.Coords, k0_cond1 i = 1#1 ↔ 1 ≤ (i 2).val := by decide +kernel
theorem off1 : ∀ i : grid0.Coords, 1 ≤ (i 2).val → k0_off1 i 0#32 = ![0, (i 2).val - 1, 0, 0] ∧ k0_off1 i 1#32 = ![0, (i 2).val, 0, 0] := by decide +kernel
theorem off2 : ∀ i : grid0.Coords, 1 ≤ (i 2).val → k0_off2 i 0#32 = ![0, (i 2).val - 1, 128, 0] ∧ k0_off2 i 1#32 = ![0, (i 2).val, 128, 0] := by decide +kernel
theorem off3 : ∀ i : grid0.Coords, 1 ≤ (i 2).val → k0_off3 i = ![0, 256 * ((i 2).val - 1), 0] := by decide +kernel
theorem off4 : ∀ i : grid0.Coords, 1 ≤ (i 2).val → k0_off4 i = ![0, 256 * ((i 2).val - 1), 128] := by decide +kernel

/-- Lane `x` of a pair of heads, among the group's lanes. -/
def plane (p : Fin 2) (x : Fin 128) : Fin 256 := ⟨128 * p.val + x.val, by omega⟩

section
variable {x4 : Vec Ideal S1x16x256x256 .bf16} {x5 : Vec Ideal S1x4096x256 .bf16}

theorem ld4 {o : Fin 4 → ℕ} (inb) (j : Fin 16) (p : Fin 2) (h : o = ![0, j.val, 128 * p.val, 0]) (x : Fin 128) (c : Fin 256) :
    View.ld x4 (Rect.unit o S1x1x128x256.size inb) (ix4 0 0 x c) = x4 (ix4 0 j (plane p x) c) := by
  subst h
  refine View.ld_unit_apply_of _ _ _ _ _ _ fun a => ?_
  match a with
  | ⟨0, _⟩ => rfl
  | ⟨1, _⟩ => rfl
  | ⟨2, _⟩ => rfl
  | ⟨3, _⟩ => exact (Nat.zero_add _).symm

theorem ld5 {w : ℕ} {o : Fin 3 → ℕ} (inb) (n : ℕ) (p : Fin 2) (h : o = ![0, n, 128 * p.val]) (c : Fin w) (x : Fin 128) (hc : n + c.val < 4096) :
    View.ld x5 (Rect.unit (s := S1x4096x256) o ![1, w, 128] inb) (ix3 0 c x) = x5 (ix3 0 ⟨n + c.val, hc⟩ (plane p x)) := by
  subst h
  refine View.ld_unit_apply_of _ _ _ _ _ _ fun a => ?_
  match a with
  | ⟨0, _⟩ => rfl
  | ⟨1, _⟩ => rfl
  | ⟨2, _⟩ => rfl

theorem ktAt_at (k : Fin 16) (p : Fin 2) (x : Fin 128) (c : Fin 256) : ktAt x4 k p (ix4 0 0 x c) = x4 (ix4 0 k (plane p x) c) := by
  match p with
  | 0 => exact ld4 _ k 0 (off9 k) x c
  | 1 => exact ld4 _ k 1 (off10 k) x c

theorem vAt_at (k : Fin 16) (p : Fin 2) (c : Fin 256) (x : Fin 128) :
    vAt x5 k p (ix3 0 c x) = x5 (ix3 0 ⟨256 * k.val + c.val, by omega⟩ (plane p x)) := by
  match p with
  | 0 => exact ld5 _ (256 * k.val) 0 (off11 k) c x _
  | 1 => exact ld5 _ (256 * k.val) 1 (off12 k) c x _

variable {i : grid0.Coords}

theorem i2_lt (i : grid0.Coords) : (i 2).val < 16 := (i 2).isLt

theorem ktPos_at (hC : k0_cond1 i = 1#1) (h : 1 ≤ (i 2).val) (p : Fin 2) (x : Fin 128) (c : Fin 256) :
    ktPos i hC x4 0 p (ix4 0 0 x c) = x4 (ix4 0 ⟨(i 2).val - 1, by have := i2_lt i; omega⟩ (plane p x) c)
    ∧ ktPos i hC x4 1 p (ix4 0 0 x c) = x4 (ix4 0 ⟨(i 2).val, i2_lt i⟩ (plane p x) c) := by
  match p with
  | 0 => exact ⟨ld4 _ ⟨(i 2).val - 1, by have := i2_lt i; omega⟩ 0 (off1 i h).1 x c, ld4 _ ⟨(i 2).val, i2_lt i⟩ 0 (off1 i h).2 x c⟩
  | 1 => exact ⟨ld4 _ ⟨(i 2).val - 1, by have := i2_lt i; omega⟩ 1 (off2 i h).1 x c, ld4 _ ⟨(i 2).val, i2_lt i⟩ 1 (off2 i h).2 x c⟩

theorem vPos_at (hC : k0_cond1 i = 1#1) (h : 1 ≤ (i 2).val) (p : Fin 2) (c : Fin 512) (x : Fin 128) :
    vPos i hC x5 p (ix3 0 c x) = x5 (ix3 0 ⟨256 * ((i 2).val - 1) + c.val, by have := i2_lt i; omega⟩ (plane p x)) := by
  match p with
  | 0 => exact ld5 _ (256 * ((i 2).val - 1)) 0 (off3 i h) c x _
  | 1 => exact ld5 _ (256 * ((i 2).val - 1)) 1 (off4 i h) c x _

theorem ktNeg_at (hC : ¬ k0_cond1 i = 1#1) (p : Fin 2) (x : Fin 128) (c : Fin 256) :
    ktNeg i hC x4 p (ix4 0 0 x c) = x4 (ix4 0 ⟨(i 2).val, i2_lt i⟩ (plane p x) c) := by
  match p with
  | 0 => exact ld4 _ ⟨(i 2).val, i2_lt i⟩ 0 (k0_off5_eq i) x c
  | 1 => exact ld4 _ ⟨(i 2).val, i2_lt i⟩ 1 (k0_off6_eq i) x c

theorem vNeg_at (hC : ¬ k0_cond1 i = 1#1) (p : Fin 2) (c : Fin 256) (x : Fin 128) :
    vNeg i hC x5 p (ix3 0 c x) = x5 (ix3 0 ⟨256 * (i 2).val + c.val, by have := i2_lt i; omega⟩ (plane p x)) := by
  match p with
  | 0 => exact ld5 _ (256 * (i 2).val) 0 (k0_off7_eq i) c x _
  | 1 => exact ld5 _ (256 * (i 2).val) 1 (k0_off8_eq i) c x _

end

/-! ## A head's queries -/

/-- Which half of its pair's lanes a head has. -/
def halfOf (n : Fin 4) : Fin 2 := match n with | 0 => 0 | 1 => 1 | 2 => 0 | 3 => 1

/-- Lane `d` of head `n`, among the group's lanes. -/
def hlane (n : Fin 4) (d : Fin 64) : Fin 256 := ⟨64 * n.val + d.val, by omega⟩

theorem hlane_eq (n : Fin 4) (d : Fin 64) : hlane n d = plane (pairOf n) ⟨64 * (halfOf n).val + d.val, by omega⟩ := by
  match n with
  | 0 => exact Fin.ext (by simp [hlane, plane, pairOf, halfOf])
  | 1 => exact Fin.ext (by simp [hlane, plane, pairOf, halfOf])
  | 2 => exact Fin.ext (by simp [hlane, plane, pairOf, halfOf])
  | 3 => exact Fin.ext (by simp [hlane, plane, pairOf, halfOf]; omega)

theorem pay62_at (q : Vec Ideal S1x256x128 .bf16) (r : Fin 256) (x : Fin 128) : k0_pay62 q (ix2 r x) = if x.val < 64 then q (ix3 0 r x) else 0 := by
  pointwise [k0_pay62]
  refine Eq.trans (congrArg (fun b => Scalar.select b (q (ix3 0 r x)) (0 : EReal)) (?h : _ = BitVec.ofBool (decide (x.val < 64)))) (WordCmp.select_decide _ _ _)
  clear q
  revert x
  decide +kernel

theorem pay64_at (q : Vec Ideal S1x256x128 .bf16) (r : Fin 256) (x : Fin 128) :
    k0_pay64 (k0_pay63 q) (ix2 r x) = if 64 ≤ x.val then q (ix3 0 r x) else 0 := by
  pointwise [k0_pay64, k0_pay63]
  refine Eq.trans (congrArg (fun b => Scalar.select b (q (ix3 0 r x)) (0 : EReal)) (?h : _ = BitVec.ofBool (decide (64 ≤ x.val)))) (WordCmp.select_decide _ _ _)
  clear q
  revert x
  decide +kernel

theorem ld3 (x3 : Vec Ideal S1x256x256 .bf16) {o : Fin 3 → ℕ} (inb) (p : Fin 2) (h : o = ![0, 0, 128 * p.val]) (r : Fin 256) (x : Fin 128) :
    View.ld x3 (Rect.unit o S1x256x128.size inb) (ix3 0 r x) = x3 (ix3 0 r (plane p x)) := by
  subst h
  refine View.ld_unit_apply_of _ _ _ _ _ _ fun a => ?_
  match a with
  | ⟨0, _⟩ => rfl
  | ⟨1, _⟩ => exact (Nat.zero_add _).symm
  | ⟨2, _⟩ => rfl

theorem qH_at (x3 : Vec Ideal S1x256x256 .bf16) (n : Fin 4) (r : Fin 256) (x : Fin 128) :
    qH x3 n (ix2 r x) = if x.val / 64 = (halfOf n).val then x3 (ix3 0 r (plane (pairOf n) x)) else 0 := by
  have hx := x.isLt
  have e0 : ∀ a : EReal, (if x.val < 64 then a else 0) = if x.val / 64 = 0 then a else 0 := fun a => if_congr (by omega) rfl rfl
  have e1 : ∀ a : EReal, (if 64 ≤ x.val then a else 0) = if x.val / 64 = 1 then a else 0 := fun a => if_congr (by omega) rfl rfl
  match n with
  | 0 => exact (pay62_at _ r x).trans ((e0 _).trans (by rw [ld3 x3 _ 0 (by rfl) r x]; rfl))
  | 1 => exact (pay64_at _ r x).trans ((e1 _).trans (by rw [ld3 x3 _ 0 (by rfl) r x]; rfl))
  | 2 => exact (pay62_at _ r x).trans ((e0 _).trans (by rw [ld3 x3 _ 1 (by rfl) r x]; rfl))
  | 3 => exact (pay64_at _ r x).trans ((e1 _).trans (by rw [ld3 x3 _ 1 (by rfl) r x]; rfl))

theorem sum_half (h : Fin 2) (f : Fin 128 → EReal) :
    ∑ x, (if x.val / 64 = h.val then f x else 0) = ∑ d : Fin 64, f ⟨64 * h.val + d.val, by omega⟩ := by
  have e : ∀ g : Fin 128 → EReal, ∑ x, g x = ∑ d : Fin 64, g ⟨d.val, by omega⟩ + ∑ d : Fin 64, g ⟨64 + d.val, by omega⟩ :=
    fun g => Fin.sum_univ_add (a := 64) (b := 64) g
  refine (e _).trans ?_
  match h with
  | 0 =>
    rw [sum_congr (s₁ := univ) rfl fun (d : Fin 64) _ => if_pos (by simp only; omega), sum_eq_zero fun (d : Fin 64) _ => if_neg (by simp only; omega), add_zero]
    exact sum_congr rfl fun d _ => congrArg f (Fin.ext (by simp))
  | 1 =>
    rw [sum_eq_zero fun (d : Fin 64) _ => if_neg (by simp only; omega), zero_add, sum_congr rfl fun (d : Fin 64) _ => if_pos (by simp only; omega)]
    exact sum_congr rfl fun d _ => congrArg f (Fin.ext (by simp))

/-- The scores of head `n`: the products of its own lanes. -/
theorem scores_at (x3 : Vec Ideal S1x256x256 .bf16) (n : Fin 4) (kb : Vec Ideal S1x1x128x256 .bf16) (r c : Fin 256) (K : Fin 256 → EReal)
    (hk : ∀ x, kb (ix4 0 0 x c) = K (plane (pairOf n) x)) :
    scores (qH x3 n) kb (ix2 r c) = ∑ d : Fin 64, x3 (ix3 0 r (hlane n d)) * K (hlane n d) := by
  have h : scores (qH x3 n) kb (ix2 r c) = ∑ x : Fin 128, qH x3 n (ix2 r x) * kb (ix4 0 0 x c) := by
    unfold scores; pointwise [k0_pay82]
  rw [h]
  refine (sum_congr rfl fun x _ => ?_).trans ((sum_half (halfOf n) fun x => x3 (ix3 0 r (plane (pairOf n) x)) * K (plane (pairOf n) x)).trans
    (sum_congr rfl fun d _ => ?_))
  · rw [hk, qH_at, ite_mul, zero_mul]
  · rw [hlane_eq]

/-! ## The point -/

/-- What the blocks of queries, keys and values hold, the queries and keys as reals; keys numbered among the batch's. -/
structure Holds (x3 : Vec Ideal S1x256x256 .bf16) (x4 : Vec Ideal S1x16x256x256 .bf16) (x5 : Vec Ideal S1x4096x256 .bf16)
    (Q : Fin 256 → Fin 256 → ℝ) (K : ℕ → Fin 256 → ℝ) (Vf : ℕ → Fin 256 → EReal) : Prop where
  hq : ∀ r y, x3 (ix3 0 r y) = ((Q r y : ℝ) : EReal)
  hk : ∀ (j : Fin 16) y (c : Fin 256), x4 (ix4 0 j y c) = ((K (256 * j.val + c.val) y : ℝ) : EReal)
  hv : ∀ (l : Fin 4096) y, x5 (ix3 0 l y) = Vf l.val y

/-- The score of row `r` of head `n` against key `l`. -/
def Zs (Q : Fin 256 → Fin 256 → ℝ) (K : ℕ → Fin 256 → ℝ) (n : Fin 4) (r : Fin 256) (l : ℕ) : ℝ :=
  ∑ d : Fin 64, Q r (hlane n d) * K l (hlane n d)

section
variable {x3 : Vec Ideal S1x256x256 .bf16} {x4 : Vec Ideal S1x16x256x256 .bf16} {x5 : Vec Ideal S1x4096x256 .bf16} {u : Vec Ideal S512x256 .bf16}
  {Q : Fin 256 → Fin 256 → ℝ} {K : ℕ → Fin 256 → ℝ} {Vf : ℕ → Fin 256 → EReal}

theorem scores_block (H : Holds x3 x4 x5 Q K Vf) (n : Fin 4) (j : Fin 16) (kb : Vec Ideal S1x1x128x256 .bf16)
    (hk : ∀ x c, kb (ix4 0 0 x c) = x4 (ix4 0 j (plane (pairOf n) x) c)) (r c : Fin 256) :
    scores (qH x3 n) kb (ix2 r c) = ((Zs Q K n r (256 * j.val + c) : ℝ) : EReal) := by
  rw [scores_at x3 n kb r c (fun y => x4 (ix4 0 j y c)) fun x => hk x c, Zs, coe_sum]
  exact sum_congr rfl fun d _ => by rw [H.hq, H.hk, EReal.coe_mul]

/-- A state holds, for every row of every head, the tail and the output from key `l` on; the rows start at `s₀`. -/
def At (Q : Fin 256 → Fin 256 → ℝ) (K : ℕ → Fin 256 → ℝ) (Vf : ℕ → Fin 256 → EReal) (s₀ l : ℕ) (s : St Ideal) : Prop :=
  ∀ (n : Fin 4) (r : Fin 256), s.1 n (ix2 r 0) = ((tail (Zs Q K n r) (s₀ + r) l : ℝ) : EReal)
    ∧ ∀ x : Fin 128, s.2 n (ix3 0 r x) = outFrom (Zs Q K n r) (s₀ + r) (fun k => Vf k (plane (pairOf n) x)) l

theorem At.live {s₀ l : ℕ} {s : St Ideal} (h : At Q K Vf s₀ l s) : Live s := by
  have e : k0_pay3 (F := Ideal) (s.1 0) (s.1 1) (s.1 2) (s.1 3) < ⊤ := by
    pointwise [k0_pay3]
    refine (Finset.fold_min_lt _).2 (Or.inr ⟨(0, 0), mem_univ _, ?_⟩)
    refine lt_of_le_of_lt (min_le_right _ _) ?_
    exact ((h 3 0).1).trans_lt (EReal.coe_lt_top _)
  unfold Live SB.live
  exact congrArg BitVec.ofBool (decide_eq_true e)

theorem At.step (H : Holds x3 x4 x5 Q K Vf) (hu : IsMask u) {s₀ : ℕ} {k : Fin 16} {s : St Ideal} (hk : 256 * k.val + 256 ≤ s₀)
    (h : At Q K Vf s₀ (256 * k.val + 256) s) : At Q K Vf s₀ (256 * k.val) (SB.step (qH x3) x4 x5 u k s) := fun n r =>
  have hz := scores_block H n k (ktAt x4 k (pairOf n)) (ktAt_at k (pairOf n)) r
  ⟨stepT_at hz (by omega) (by omega) (h n r).1,
    fun x => stepA_at (Vf := fun l => Vf l (plane (pairOf n) x)) hz (by omega) (by omega) hu
      (fun c => (vAt_at k (pairOf n) c x).trans (H.hv _ _)) (h n r).1 ((h n r).2 x)⟩

theorem At.loop (H : Holds x3 x4 x5 Q K Vf) (hu : IsMask u) {s₀ : ℕ} : ∀ (n : ℕ) (hn : n ≤ 16) (s : St Ideal), 256 * n ≤ s₀ →
    At Q K Vf s₀ (256 * n) s → At Q K Vf s₀ 0 (loopSt (qH x3) x4 x5 u n hn s)
  | 0, _, s, _, h => h
  | n + 1, hn, s, hs, h => by
    rw [loopSt, if_pos h.live]
    exact At.loop H hu n _ _ (by omega) (At.step H hu (k := ⟨n, by omega⟩) (by dsimp only; omega) h)

theorem At.start (H : Holds x3 x4 x5 Q K Vf) (i : grid0.Coords) (x6 : Vec Ideal S512x256 .bf16) (hu : IsMask (u2Of x6)) :
    At Q K Vf (256 * (i 2).val) (256 * ((i 2).val - 1)) (SB.start i x3 x4 x5 x6) := by
  intro n r
  have hi := i2_lt i
  unfold SB.start
  by_cases hC : k0_cond1 i = 1#1
  · rw [dif_pos hC]
    have h1 := (cond_pos i).1 hC
    have hz0 := scores_block H n ⟨(i 2).val - 1, by omega⟩ (ktPos i hC x4 0 (pairOf n)) (fun x c => (ktPos_at hC h1 (pairOf n) x c).1) r
    have hz1 := scores_block H n ⟨(i 2).val, by omega⟩ (ktPos i hC x4 1 (pairOf n)) (fun x c => (ktPos_at hC h1 (pairOf n) x c).2) r
    have e : 256 * ((i 2).val - 1) + 256 = 256 * (i 2).val := by omega
    rw [← e]
    simp only at hz0 hz1
    rw [← e] at hz1
    exact ⟨posT_at hz0 hz1 (by omega), fun x => posA_at (Vf := fun l => Vf l (plane (pairOf n) x)) hz0 hz1 (by omega) hu
      fun c => (vPos_at hC h1 (pairOf n) c x).trans (H.hv _ _)⟩
  · rw [dif_neg hC]
    have h1 : (i 2).val = 0 := by have := mt (cond_pos i).2 hC; omega
    have hz := scores_block H n ⟨(i 2).val, by omega⟩ (ktNeg i hC x4 (pairOf n)) (fun x c => ktNeg_at hC (pairOf n) x c) r
    have e : 256 * ((i 2).val - 1) = 256 * (i 2).val := by omega
    rw [e]
    exact ⟨negT_at hz (by omega), fun x => negA_at (Vf := fun l => Vf l (plane (pairOf n) x)) hz (by omega) hu
      fun c => (vNeg_at hC (pairOf n) c x).trans (H.hv _ _)⟩

theorem u2Of_eq (x6 : Vec Ideal S512x256 .bf16) : u2Of x6 = x6 :=
  funext fun j => View.ld_unit_apply_of _ _ _ _ _ _ fun a => by
    match a with
    | ⟨0, _⟩ => exact (Nat.zero_add _).symm
    | ⟨1, _⟩ => exact (Nat.zero_add _).symm

theorem pay2_at (a b : Vec Ideal S1x256x128 .f32) (r : Fin 256) (x : Fin 128) :
    k0_pay2 a b (ix3 0 r x) = if x.val < 64 then a (ix3 0 r x) else b (ix3 0 r x) := by
  pointwise [k0_pay2]
  rw [show (64#32 : BitVec 32) = BitVec.ofNat 32 64 from rfl, WordCmp.cmpi_slt_ofNat (by omega) (by omega), WordCmp.select_decide]

theorem pay1_at (a b : Vec Ideal S1x256x128 .f32) (r : Fin 256) (x : Fin 128) :
    k0_pay1 (k0_pay81 a b) (ix3 0 r x) = if x.val < 64 then a (ix3 0 r x) else b (ix3 0 r x) := by
  pointwise [k0_pay1, k0_pay81]
  rw [show (64#32 : BitVec 32) = BitVec.ofNat 32 64 from rfl, WordCmp.cmpi_slt_ofNat (by omega) (by omega), WordCmp.select_decide]

/-- The result's block at a lane of head `n`: that head's running output. -/
theorem outPieces_at (a : Fin 4 → Vec Ideal S1x256x128 .f32) (r : Fin 256) (n : Fin 4) (d : Fin 64) :
    View.canon (outPieces a) (ix3 0 r (hlane n d)) = a n (ix3 0 r ⟨64 * (halfOf n).val + d.val, by omega⟩) := by
  have hd := d.isLt
  refine View.canon_eq_of_allAt _ _ _ (View.cover_of_tiled_head _ _ _ (by rfl) _)
    (View.allAt_cons_unit _ _ _ _ _ (fun x hx => ?_) (View.allAt_cons_unit _ _ _ _ _ (fun x hx => ?_) (View.allAt_nil _ _)))
  all_goals
    have h1 : x 1 = r := Fin.ext (by have := hx 1; change r.val = 0 + (x 1).val at this; omega)
    have h0 : x 0 = (0 : Fin 1) := Fin.ext (by have : (x 0).val < 1 := (x 0).isLt; change (x 0).val = 0; omega)
    obtain ⟨y, hy⟩ : ∃ y : Fin 128, x 2 = y := ⟨_, rfl⟩
    have hx2 := hx 2
    rw [ValueIdx.eq_ix3 x, h0, h1, hy]
    rw [hy] at hx2
  · change 64 * n.val + d.val = 128 + y.val at hx2
    refine (pay2_at _ _ r y).trans ?_
    match n, hx2 with
    | 0, hx2 => change 64 * 0 + d.val = _ at hx2; omega
    | 1, hx2 => change 64 * 1 + d.val = _ at hx2; omega
    | 2, hx2 =>
      change 64 * 2 + d.val = _ at hx2
      rw [if_pos (by omega)]
      exact congrArg (fun y => a 2 (ix3 0 r y)) (Fin.ext (show y.val = 64 * 0 + d.val by omega))
    | 3, hx2 =>
      change 64 * 3 + d.val = _ at hx2
      rw [if_neg (by omega)]
      exact congrArg (fun y => a 3 (ix3 0 r y)) (Fin.ext (show y.val = 64 * 1 + d.val by omega))
  · change 64 * n.val + d.val = 0 + y.val at hx2
    refine (pay1_at _ _ r y).trans ?_
    match n, hx2 with
    | 0, hx2 =>
      change 64 * 0 + d.val = _ at hx2
      rw [if_pos (by omega)]
      exact congrArg (fun y => a 0 (ix3 0 r y)) (Fin.ext (show y.val = 64 * 0 + d.val by omega))
    | 1, hx2 =>
      change 64 * 1 + d.val = _ at hx2
      rw [if_neg (by omega)]
      exact congrArg (fun y => a 1 (ix3 0 r y)) (Fin.ext (show y.val = 64 * 1 + d.val by omega))
    | 2, hx2 => change 64 * 2 + d.val = _ at hx2; omega
    | 3, hx2 => change 64 * 3 + d.val = _ at hx2; omega

/-- The result's block: every row's output over all keys. -/
theorem outV_at (H : Holds x3 x4 x5 Q K Vf) (i : grid0.Coords) (x6 : Vec Ideal S512x256 .bf16) (hu : IsMask x6) (r : Fin 256) (n : Fin 4) (d : Fin 64) :
    outV i x3 x4 x5 x6 (ix3 0 r (hlane n d)) = outFrom (Zs Q K n r) (256 * (i 2).val + r) (fun k => Vf k (hlane n d)) 0 := by
  have h : At Q K Vf (256 * (i 2).val) 0 (final i x3 x4 x5 x6) :=
    At.loop H ((u2Of_eq x6).symm ▸ hu) _ _ _ (by omega) (At.start H i x6 ((u2Of_eq x6).symm ▸ hu))
  unfold outV
  rw [outPieces_at, (h n r).2]
  simp only [← hlane_eq]

end

end Cert.Proof.SB

end
-- ==== Proof.Value.Reference.lean ====
/-
  What the reference computes: at query `s`, head `h` and lane `d` of a batch, the sum over all keys of weight times
  value, the weights those of Math.lean.
-/
module

public import proofs.«01_k».proof.Proof.Value.Math
public import proofs.«01_k».proof.Proof.Gen.ReferenceIdeal.Run
public import Idealize.ShloMosaic.Lib.Pointwise
import Idealize.ShloMosaic.Lib.WordCmp

@[expose] public section

noncomputable section

namespace Cert.Proof.SB

open Idealize.ShloMosaic Idealize.ShloMosaic.Pointwise Idealize.ShloMosaic.TcCoe Finset
open Cert.ReferenceIdeal

/-- A queries', keys' or values' array. -/
abbrev Heads : Type := (⟨4, ![4, 4096, 8, 64]⟩ : Shape).Idx → EReal

/-- Its element at a position numbered by a natural. -/
def el (x : Heads) (b : Fin 4) (l : ℕ) (h : Fin 8) (d : Fin 64) : EReal := if hl : l < 4096 then x (ix4 b ⟨l, hl⟩ h d) else 0

theorem el_fin (x : Heads) (b : Fin 4) (l : Fin 4096) (h : Fin 8) (d : Fin 64) : el x b l.val h d = x (ix4 b l h d) := dif_pos l.isLt

/-- The score of key `l` at query `s`. -/
def score (q k : Heads) (b : Fin 4) (h : Fin 8) (s l : ℕ) : ℝ :=
  ∑ d : Fin 64, (el q b s h d).toReal * (1 / 8) * (el k b l h d).toReal

/-- The attention's result. -/
def attended (q k v : Heads) (b : Fin 4) (s : Fin 4096) (h : Fin 8) (d : Fin 64) : EReal :=
  outFrom (score q k b h s) s (fun l => el v b l h d) 0

/-- Every element is a real. -/
def Real (x : Heads) : Prop := ∀ i, ((x i).toReal : EReal) = x i

theorem eighth : Ideal.ofBits .f32 0x3E000000#32 = ((1 / 8 : ℝ) : EReal) := by
  simp [Ideal.ofBits, Ideal.ieee, -EReal.coe_mul]; norm_num

theorem score_eq {q k : Heads} (hq : SB.Real q) (hk : SB.Real k) (b : Fin 4) (h : Fin 8) (s l : Fin 4096) :
    (∑ d : Fin 64, q (ix4 b s h d) * k (ix4 b l h d)) * Ideal.ofBits .f32 0x3E000000#32 = ((score q k b h s l : ℝ) : EReal) := by
  rw [eighth, sum_congr rfl fun d _ => by rw [← hq (ix4 b s h d), ← hk (ix4 b l h d), ← EReal.coe_mul], ← coe_sum, ← EReal.coe_mul]
  refine congrArg _ ?_
  unfold score
  rw [sum_mul]
  refine sum_congr rfl fun d _ => ?_
  rw [el_fin, el_fin]; ring

theorem softplus_eq (z : ℝ) : max (z : EReal) 0 + Ideal.log1p (Ideal.exp (-FloatOps.absf (F := Ideal) (φ := .f32) (z : EReal))) = ((sp z : ℝ) : EReal) := by
  rw [← sp_coe, zero_sub]; rfl

/-! ## The sum over a window that starts at each key -/

theorem foldl_add {α : Type} (g : α → EReal) (f : EReal → α → EReal) (hf : ∀ r n, f r n = r + g n) :
    ∀ (L : List α) (v : EReal), L.foldl f v = v + (L.map g).sum
  | [], v => by simp
  | a :: L, v => by rw [List.foldl_cons, foldl_add g f hf L, hf, List.map_cons, List.sum_cons, add_assoc]

theorem window_numel : (⟨4, ![1, 1, 1, 4096]⟩ : Shape).numel = 4096 := by simp [Shape.numel, Fin.prod_univ_succ]

theorem window_symm (n : Fin (⟨4, ![1, 1, 1, 4096]⟩ : Shape).numel) :
    (⟨4, ![1, 1, 1, 4096]⟩ : Shape).rowMajor.symm n = ix4 (0 : Fin 1) (0 : Fin 1) (0 : Fin 1) (n.cast window_numel) := by
  rw [Equiv.symm_apply_eq]
  refine Fin.ext ?_
  rw [Shape.rowMajor_val_four]
  simp [ix4]

theorem window_sum (f : ℕ → ℝ) (l : ℕ) : (∑ n : Fin 4096, if l + n.val < 4096 then ((f (l + n.val) : ℝ) : EReal) else 0) = ((∑ k ∈ Ico l 4096, f k : ℝ) : EReal) := by
  rw [sum_Ico_eq_sum_range, coe_sum, ← sum_range (fun n => if l + n < 4096 then ((f (l + n) : ℝ) : EReal) else 0), ← sum_filter]
  refine sum_congr (Finset.ext fun n => ?_) fun _ _ => rfl
  simp only [mem_filter, mem_range]; omega

theorem window_at (x : FVec Ideal S4x8x4096x4096 .f32) (init : FVec Ideal S_ .f32)
    (hw : S4x8x4096x4096.ReduceWindows (![1, 1, 1, 4096] : Fin 4 → Nat) ![1, 1, 1, 1] ![0, 0, 0, 0] ![0, 0, 0, 4095] S4x8x4096x4096)
    (hu : 0 < S_.numel) (b : Fin 4) (h : Fin 8) (s l : Fin 4096) (f : ℕ → ℝ)
    (hi : ∀ i, init i = (0 : EReal)) (hx : ∀ k : Fin 4096, x (ix4 b h s k) = ((f k : ℝ) : EReal)) :
    Host.reduceWindowAdd (F := Ideal) ![1, 1, 1, 4096] ![1, 1, 1, 1] ![0, 0, 0, 0] ![0, 0, 0, 4095] x init hw hu (ix4 b h s l)
      = ((∑ k ∈ Ico l.val 4096, f k : ℝ) : EReal) := by
  unfold Host.reduceWindowAdd
  rw [hi, Ideal.hostReduceWindowAdd_def]
  unfold Ideal.hostReduceWindowAdd Host.reduceWindow
  refine (foldl_add _ _ (fun _ _ => rfl) _ _).trans ?_
  rw [zero_add, ← Fin.sum_univ_def]
  refine Eq.trans ?_ (window_sum f l.val)
  refine Fintype.sum_equiv (finCongr window_numel) _ _ fun n => ?_
  have hn : n.val < 4096 := (n.cast window_numel).isLt
  have h0 : ((⟨4, ![1, 1, 1, 4096]⟩ : Shape).rowMajor.symm n 0).val = 0 := by rw [window_symm]; rfl
  have h1 : ((⟨4, ![1, 1, 1, 4096]⟩ : Shape).rowMajor.symm n 1).val = 0 := by rw [window_symm]; rfl
  have h2 : ((⟨4, ![1, 1, 1, 4096]⟩ : Shape).rowMajor.symm n 2).val = 0 := by rw [window_symm]; rfl
  have h3 : ((⟨4, ![1, 1, 1, 4096]⟩ : Shape).rowMajor.symm n 3).val = n.val := by rw [window_symm]; rfl
  show _ = if l.val + n.val < 4096 then _ else _
  have hb := b.isLt
  have hh := h.isLt
  have hs := s.isLt
  by_cases hl : l.val + n.val < 4096
  · rw [if_pos hl, dif_pos (fun a => by
      match a with
      | ⟨0, _⟩ => show 0 ≤ b.val * 1 + ((⟨4, ![1, 1, 1, 4096]⟩ : Shape).rowMajor.symm n 0).val ∧ b.val * 1 + ((⟨4, ![1, 1, 1, 4096]⟩ : Shape).rowMajor.symm n 0).val - 0 < 4; rw [h0]; omega
      | ⟨1, _⟩ => show 0 ≤ h.val * 1 + ((⟨4, ![1, 1, 1, 4096]⟩ : Shape).rowMajor.symm n 1).val ∧ h.val * 1 + ((⟨4, ![1, 1, 1, 4096]⟩ : Shape).rowMajor.symm n 1).val - 0 < 8; rw [h1]; omega
      | ⟨2, _⟩ => show 0 ≤ s.val * 1 + ((⟨4, ![1, 1, 1, 4096]⟩ : Shape).rowMajor.symm n 2).val ∧ s.val * 1 + ((⟨4, ![1, 1, 1, 4096]⟩ : Shape).rowMajor.symm n 2).val - 0 < 4096; rw [h2]; omega
      | ⟨3, _⟩ => show 0 ≤ l.val * 1 + ((⟨4, ![1, 1, 1, 4096]⟩ : Shape).rowMajor.symm n 3).val ∧ l.val * 1 + ((⟨4, ![1, 1, 1, 4096]⟩ : Shape).rowMajor.symm n 3).val - 0 < 4096; rw [h3]; omega)]
    refine (congrArg x (funext fun a => Fin.ext ?_)).trans (hx ⟨l.val + n.val, hl⟩)
    match a with
    | ⟨0, _⟩ => show b.val * 1 + ((⟨4, ![1, 1, 1, 4096]⟩ : Shape).rowMajor.symm n 0).val - 0 = b.val; rw [h0]; omega
    | ⟨1, _⟩ => show h.val * 1 + ((⟨4, ![1, 1, 1, 4096]⟩ : Shape).rowMajor.symm n 1).val - 0 = h.val; rw [h1]; omega
    | ⟨2, _⟩ => show s.val * 1 + ((⟨4, ![1, 1, 1, 4096]⟩ : Shape).rowMajor.symm n 2).val - 0 = s.val; rw [h2]; omega
    | ⟨3, _⟩ => show l.val * 1 + ((⟨4, ![1, 1, 1, 4096]⟩ : Shape).rowMajor.symm n 3).val - 0 = l.val + n.val; rw [h3]; omega
  · rw [if_neg hl, dif_neg]
    intro hin
    have h := (hin 3).2
    change l.val * 1 + ((⟨4, ![1, 1, 1, 4096]⟩ : Shape).rowMajor.symm n 3).val - 0 < 4096 at h
    rw [h3] at h; omega

variable (m : (ℓ : Loc nD τ sig) → Buf (Elt Ideal) ℓ) (c : Dev nD)

theorem slt_at {α : Type} (x y : Fin 4096) (a b : α) :
    Scalar.select (IntOp.cmpi CmpIPredicate.slt (BitVec.ofNat 32 x.val) (BitVec.ofNat 32 y.val)) a b = if x.val < y.val then a else b := by
  rw [WordCmp.cmpi_slt_ofNat (by omega) (by omega), WordCmp.select_decide]

theorem reference_at (hq : SB.Real (m (c.tc.loc main_arg0))) (hk : SB.Real (m (c.tc.loc main_arg1)))
    (b : Fin 4) (s : Fin 4096) (h : Fin 8) (d : Fin 64) :
    Value.res_main_v25 m c (ix3 b s ⟨64 * h.val + d.val, by omega⟩)
      = attended (m (c.tc.loc main_arg0)) (m (c.tc.loc main_arg1)) (m (c.tc.loc main_arg2)) b s h d := by
  have hdiv : (64 * h.val + d.val) / 64 = h.val := by omega
  have hmod : (64 * h.val + d.val) % 64 = d.val := by omega
  pointwise [Value.res_main_v25]
  simp only [hdiv, hmod, slt_at, Fin.eta]
  unfold attended outFrom
  change (_ : EReal) = _
  rw [show Ico 0 4096 = range 4096 from by ext; simp, sum_range]
  refine sum_congr rfl fun l _ => ?_
  beta_reduce
  rw [el_fin]
  refine congrArg (fun t : EReal => t * (m (c.tc.loc main_arg2) (ix4 b l h d) : EReal)) ?_
  have hz := fun l => score_eq hq hk b h s l
  simp only [hz]
  by_cases hl : l.val < s.val
  · rw [if_pos hl, window_at (f := fun k => -nl (score (m (c.tc.loc main_arg0)) (m (c.tc.loc main_arg1)) b h s) s k) (hi := fun i => ?hi) (hx := fun k => ?hx)]
    case hi => pointwise []
    case hx =>
      pointwise [id]
      simp only [hz, slt_at, neg_neg, ne_eq, not_true_eq_false, if_false, softplus_eq]
      unfold nl
      split
      · rw [EReal.coe_neg]
      · rw [neg_zero, EReal.coe_zero]
    simp only [if_pos hl, neg_neg, ne_eq, not_true_eq_false, if_false, softplus_eq, ← EReal.coe_neg]
    refine Eq.trans ?_ (wt_ref (score (m (c.tc.loc main_arg0)) (m (c.tc.loc main_arg1)) b h s) s l l.isLt hl)
    unfold nl
    rw [if_pos hl]
    rfl
  · rw [if_neg hl]
    unfold wt
    rw [if_neg hl]
    pointwise [id]
    rfl

end Cert.Proof.SB
-- ==== Proof.Value.Blocks.lean ====
/-
  The result array: every point writes its own block, whose rows are the attention's at the block's queries and heads.
-/
module

public import proofs.«01_k».proof.Proof.Run
public import proofs.«01_k».proof.Proof.Value.Point
public import proofs.«01_k».proof.Proof.Value.Reference
public import Idealize.ShloMosaic.Lib.StableHlo.ReadAt
public import Idealize.ShloMosaic.Lib.Pipeline.ValueKit

@[expose] public section

noncomputable section

namespace Cert.Proof.SB

open Cert.KernelIdeal Cert.KernelIdeal.Gen Idealize.ShloMosaic Idealize.ShloMosaic.Pointwise Idealize.ShloMosaic.TcCoe Finset

variable (m : (ℓ : Loc nD τ sig) → Buf (Elt Ideal) ℓ) (c : Dev nD)

/-! ## The arrays the call is handed -/

theorem queries_at (b : Fin 4) (s : Fin 4096) (x : Fin 512) :
    V m c main_v14 (ix3 b s x) = (show EReal from m (c.tc.loc main_arg0) (ix4 b s ⟨x.val / 64, by omega⟩ ⟨x.val % 64, by omega⟩)) * Ideal.ofBits .f32 0x3E000000#32 := by
  unfold V
  after_reads_at

theorem keys_at (b : Fin 4) (j : Fin 16) (x : Fin 512) (l : Fin 256) :
    V m c main_v17 (ix4 b j x l) = (m (c.tc.loc main_arg1) (ix4 b ⟨j.val * 256 + l.val, by omega⟩ ⟨x.val / 64, by omega⟩ ⟨x.val % 64, by omega⟩) : EReal) := by
  unfold V
  after_reads_at

theorem values_at (b : Fin 4) (s : Fin 4096) (x : Fin 512) :
    V m c main_v19 (ix3 b s x) = (m (c.tc.loc main_arg2) (ix4 b s ⟨x.val / 64, by omega⟩ ⟨x.val % 64, by omega⟩) : EReal) := by
  unfold V
  after_reads_at

theorem mask_at (x l : Fin 256) : V m c main_v10 (ix2 ⟨x.val, by omega⟩ l) = (if l < x then 1 else 0 : EReal) := by
  unfold V
  after_reads_at
  rw [WordCmp.cmpi_sgt_ofNat (by omega) (by omega), WordCmp.select_decide]
  exact if_congr Iff.rfl rfl rfl

/-! ## The blocks -/

theorem index_0 : ∀ t : Fin (cfg0 (F := Ideal)).N, win0_0.index t = ![(grid0.coords t 0).val, (grid0.coords t 2).val, (grid0.coords t 1).val] :=
  (by decide +kernel : ∀ t : Fin grid0.N, _)
theorem index_1 : ∀ t : Fin (cfg0 (F := Ideal)).N, win0_1.index t = ![(grid0.coords t 0).val, 0, (grid0.coords t 1).val, 0] :=
  (by decide +kernel : ∀ t : Fin grid0.N, _)
theorem index_2 : ∀ t : Fin (cfg0 (F := Ideal)).N, win0_2.index t = ![(grid0.coords t 0).val, 0, (grid0.coords t 1).val] :=
  (by decide +kernel : ∀ t : Fin grid0.N, _)
theorem index_3 : ∀ t : Fin (cfg0 (F := Ideal)).N, win0_3.index t = ![0, 0] :=
  (by decide +kernel : ∀ t : Fin grid0.N, _)
theorem index_4 : ∀ t : Fin (cfg0 (F := Ideal)).N, win0_4.index t = ![(grid0.coords t 0).val, (grid0.coords t 2).val, (grid0.coords t 1).val] :=
  (by decide +kernel : ∀ t : Fin grid0.N, _)

/-- The batch, the pair of head pairs and the block of queries at a point. -/
def batch (i : grid0.Coords) : Fin 4 := i 0
def group (i : grid0.Coords) : Fin 2 := i 1
def block (i : grid0.Coords) : Fin 16 := i 2

/-- The head and the lane within it, of lane `y` of a block. -/
def headAt (g : Fin 2) (y : Fin 256) : Fin 8 := ⟨(256 * g.val + y.val) / 64, by omega⟩
def laneAt (g : Fin 2) (y : Fin 256) : Fin 64 := ⟨(256 * g.val + y.val) % 64, by omega⟩

theorem iblk_0 (t : Fin (cfg0 (F := Ideal)).N) (r y : Fin 256) :
    iblk m c 0 t (ix3 (0 : Fin 1) r y) = V m c main_v14 (ix3 (batch (grid0.coords t)) ⟨256 * (block (grid0.coords t)).val + r.val, by omega⟩
      ⟨256 * (group (grid0.coords t)).val + y.val, by omega⟩) := by
  blk_simp [iblk]
  refine congrArg (V m c main_v14) ?_
  blk_ext [index_0, batch, block, group]

theorem iblk_1 (t : Fin (cfg0 (F := Ideal)).N) (j : Fin 16) (y l : Fin 256) :
    iblk m c 1 t (ix4 (0 : Fin 1) j y l) = V m c main_v17 (ix4 (batch (grid0.coords t)) j ⟨256 * (group (grid0.coords t)).val + y.val, by omega⟩ l) := by
  blk_simp [iblk]
  refine congrArg (V m c main_v17) ?_
  blk_ext [index_1, batch, block, group]

theorem iblk_2 (t : Fin (cfg0 (F := Ideal)).N) (l : Fin 4096) (y : Fin 256) :
    iblk m c 2 t (ix3 (0 : Fin 1) l y) = V m c main_v19 (ix3 (batch (grid0.coords t)) l ⟨256 * (group (grid0.coords t)).val + y.val, by omega⟩) := by
  blk_simp [iblk]
  refine congrArg (V m c main_v19) ?_
  blk_ext [index_2, batch, block, group]

theorem iblk_3 (t : Fin (cfg0 (F := Ideal)).N) (x : Fin 512) (l : Fin 256) : iblk m c 3 t (ix2 x l) = V m c main_v10 (ix2 x l) := by
  blk_simp [iblk]
  refine congrArg (V m c main_v10) ?_
  blk_ext [index_3]

theorem isMask (t : Fin (cfg0 (F := Ideal)).N) : IsMask (iblk m c 3 t) := fun x l =>
  (iblk_3 m c t ⟨x.val, by omega⟩ l).trans (mask_at m c x l)

/-- A block's queries, scaled, as reals; its keys as reals; its values. -/
def Qb (q : Heads) (b : Fin 4) (g : Fin 2) (j : Fin 16) (r y : Fin 256) : ℝ :=
  (el q b (256 * j.val + r.val) (headAt g y) (laneAt g y)).toReal * (1 / 8)
def Kb (k : Heads) (b : Fin 4) (g : Fin 2) (l : ℕ) (y : Fin 256) : ℝ := (el k b l (headAt g y) (laneAt g y)).toReal
def Vb (v : Heads) (b : Fin 4) (g : Fin 2) (l : ℕ) (y : Fin 256) : EReal := el v b l (headAt g y) (laneAt g y)

theorem holds (hq : SB.Real (m (c.tc.loc main_arg0))) (hk : SB.Real (m (c.tc.loc main_arg1))) (t : Fin (cfg0 (F := Ideal)).N) :
    Holds (iblk m c 0 t) (iblk m c 1 t) (iblk m c 2 t)
      (Qb (m (c.tc.loc main_arg0)) (batch (grid0.coords t)) (group (grid0.coords t)) (block (grid0.coords t)))
      (Kb (m (c.tc.loc main_arg1)) (batch (grid0.coords t)) (group (grid0.coords t)))
      (Vb (m (c.tc.loc main_arg2)) (batch (grid0.coords t)) (group (grid0.coords t))) where
  hq r y := by
    refine (iblk_0 m c t r y).trans ((queries_at m c _ _ _).trans ?_)
    rw [Qb, EReal.coe_mul, eighth]
    refine congrArg (· * ((1 / 8 : ℝ) : EReal)) ?_
    refine (hq _).symm.trans (congrArg (fun e : EReal => ((e.toReal : ℝ) : EReal)) ?_)
    exact (el_fin (m (c.tc.loc main_arg0)) _ ⟨256 * (block (grid0.coords t)).val + r.val, by omega⟩ _ _).symm
  hk j y l := by
    refine (iblk_1 m c t j y l).trans ((keys_at m c _ _ _ _).trans ?_)
    refine (hk _).symm.trans (congrArg (fun e : EReal => ((e.toReal : ℝ) : EReal)) ?_)
    rw [mul_comm 256 j.val]
    exact (el_fin (m (c.tc.loc main_arg1)) _ ⟨j.val * 256 + l.val, by omega⟩ _ _).symm
  hv l y := by
    refine (iblk_2 m c t l y).trans ((values_at m c _ _ _).trans ?_)
    exact (el_fin (m (c.tc.loc main_arg2)) _ l _ _).symm

/-! ## The result -/

/-- The attention's result as an array. -/
def result (q k v : Heads) : (⟨3, ![4, 4096, 512]⟩ : Shape).Idx → EReal := fun j =>
  attended q k v (j 0) (j 1) ⟨(j 2).val / 64, by have : (j 2).val < 512 := (j 2).isLt; omega⟩ ⟨(j 2).val % 64, by omega⟩

theorem result_at (q k v : Heads) (b : Fin 4) (s : Fin 4096) (h : Fin 8) (d : Fin 64) (x : Fin 512) (hx : x.val = 64 * h.val + d.val) :
    result q k v (ix3 b s x) = attended q k v b s h d := by
  show attended q k v b s ⟨x.val / 64, _⟩ ⟨x.val % 64, _⟩ = _
  congr 1
  · exact Fin.ext (by show x.val / 64 = h.val; omega)
  · exact Fin.ext (by show x.val % 64 = d.val; omega)

theorem head_hlane (g : Fin 2) (n : Fin 4) (d : Fin 64) : headAt g (hlane n d) = ⟨4 * g.val + n.val, by omega⟩ :=
  Fin.ext (by show (256 * g.val + (64 * n.val + d.val)) / 64 = 4 * g.val + n.val; omega)
theorem lane_hlane (g : Fin 2) (n : Fin 4) (d : Fin 64) : laneAt g (hlane n d) = d :=
  Fin.ext (by show (256 * g.val + (64 * n.val + d.val)) % 64 = d.val; omega)

theorem scores_eq (q k : Heads) (b : Fin 4) (g : Fin 2) (j : Fin 16) (n : Fin 4) (r : Fin 256) :
    Zs (Qb q b g j) (Kb k b g) n r = score q k b ⟨4 * g.val + n.val, by omega⟩ (256 * j.val + r.val) := by
  funext l
  unfold Zs score Qb Kb
  simp only [head_hlane, lane_hlane]

theorem final_array (hq : SB.Real (m (c.tc.loc main_arg0))) (hk : SB.Real (m (c.tc.loc main_arg1))) :
    (dats m 0 c).arrAt 4 (cfg0 (F := Ideal)).N = result (m (c.tc.loc main_arg0)) (m (c.tc.loc main_arg1)) (m (c.tc.loc main_arg2)) := by
  refine (dats m 0 c).arrAt_eq_of_covers 4 _ (by decide +kernel) fun t hf y => ?_
  blk_simp
  rw [after_4]
  obtain ⟨r, hr⟩ : ∃ r : Fin 256, y 1 = r := ⟨_, rfl⟩
  obtain ⟨x, hx⟩ : ∃ x : Fin 256, y 2 = x := ⟨_, rfl⟩
  have hy : y = ix3 (0 : Fin 1) r (hlane ⟨x.val / 64, by omega⟩ ⟨x.val % 64, by omega⟩) := by
    refine (ValueIdx.eq_ix3 y).trans ?_
    rw [hr, hx]
    have e : hlane ⟨x.val / 64, by omega⟩ ⟨x.val % 64, by omega⟩ = x := Fin.ext (by show 64 * (x.val / 64) + x.val % 64 = _; omega)
    rw [e]
    have h0 : y 0 = (0 : Fin 1) := Fin.ext (by have : (y 0).val < 1 := (y 0).isLt; change (y 0).val = 0; omega)
    rw [h0]
    rfl
  rw [hy]
  refine (outV_at (holds m c hq hk t) (grid0.coords t) (iblk m c 3 t) (isMask m c t) r _ _).trans ?_
  rw [scores_eq]
  unfold Vb
  simp only [head_hlane, lane_hlane]
  refine Eq.symm ((congrArg (result _ _ _) ?_).trans (result_at _ _ _ (batch (grid0.coords t)) ⟨256 * (block (grid0.coords t)).val + r.val, by omega⟩
    ⟨4 * (group (grid0.coords t)).val + x.val / 64, by omega⟩ ⟨x.val % 64, by omega⟩ ⟨256 * (group (grid0.coords t)).val + x.val, by omega⟩ (by dsimp only; omega)))
  blk_ext [index_4, batch, block, group, hlane]

end Cert.Proof.SB
-- ==== Proof.Value.Algebraic.lean ====
/-
  The two programs' results are one array, where the queries and the keys are reals.
-/
module

public import proofs.«01_k».proof.Proof.Value.Blocks
public import proofs.«01_k».proof.Defs
public import proofs.«01_k».proof.Proof.Frames
import Idealize.ShloMosaic.Lib.Claim

@[expose] public section

noncomputable section

namespace Cert.Proof.SB

open Idealize.ShloMosaic Idealize.ShloMosaic.Pointwise Idealize.ShloMosaic.TcCoe Idealize.SL.Sem

instance preFacts : Cert.Pre_finite_scores.Facts := ⟨by decide⟩

theorem inf_eq : Ideal.ofBits .f32 0x7F800000#32 = ⊤ := by
  simp [Ideal.ofBits, Ideal.ieee]

theorem real_of_lt {x : EReal} (h : max x (-x) < ⊤) : ((x.toReal : ℝ) : EReal) = x := by
  obtain ⟨h1, h2⟩ := max_lt_iff.1 h
  exact EReal.coe_toReal h1.ne fun hb => by rw [hb] at h2; simp at h2

theorem and_ofBool {p q : Prop} [Decidable p] [Decidable q] (h : IntOp.andi (BitVec.ofBool (decide p)) (BitVec.ofBool (decide q)) = 1#1) : p ∧ q := by
  by_cases hp : p <;> by_cases hq : q <;> simp [hp, hq, IntOp.andi] at h ⊢

theorem real_of_pre (q k v : Heads) (h : Cert.Pre_finite_scores.fn (F := Ideal) q k v = fun _ => 1#1) : SB.Real q ∧ SB.Real k := by
  have h' : ∀ i, max (q i) (-(q i)) < ⊤ ∧ max (k i) (-(k i)) < ⊤ := fun i => by
    have e := congrFun h i
    rw [ValueIdx.eq_ix4 i] at e ⊢
    revert e
    pointwise [Cert.Pre_finite_scores.fn]
    rw [inf_eq]
    intro e
    obtain ⟨e1, e2⟩ := and_ofBool e
    exact ⟨e1, e2⟩
  exact ⟨fun i => real_of_lt (h' i).1, fun i => real_of_lt (h' i).2⟩

theorem reference_eq (m : (ℓ : Loc ReferenceIdeal.nD ReferenceIdeal.τ ReferenceIdeal.sig) → Buf (Elt Ideal) ℓ) (c : Dev ReferenceIdeal.nD)
    (hq : SB.Real (m (c.tc.loc ReferenceIdeal.main_arg0))) (hk : SB.Real (m (c.tc.loc ReferenceIdeal.main_arg1))) :
    ReferenceIdeal.Value.res_main_v25 m c
      = result (m (c.tc.loc ReferenceIdeal.main_arg0)) (m (c.tc.loc ReferenceIdeal.main_arg1)) (m (c.tc.loc ReferenceIdeal.main_arg2)) := by
  funext j
  obtain ⟨b, hb⟩ : ∃ b : Fin 4, j 0 = b := ⟨_, rfl⟩
  obtain ⟨s, hs⟩ : ∃ s : Fin 4096, j 1 = s := ⟨_, rfl⟩
  obtain ⟨x, hx⟩ : ∃ x : Fin 512, j 2 = x := ⟨_, rfl⟩
  rw [ValueIdx.eq_ix3 j, hb, hs, hx]
  have e : x = ⟨64 * (⟨x.val / 64, by omega⟩ : Fin 8).val + (⟨x.val % 64, by omega⟩ : Fin 64).val, by dsimp only; omega⟩ :=
    Fin.ext (by dsimp only; omega)
  refine Eq.trans ?_ (result_at _ _ _ b s ⟨x.val / 64, by omega⟩ ⟨x.val % 64, by omega⟩ x (by dsimp only; omega)).symm
  refine Eq.trans ?_ (reference_at m c hq hk b s ⟨x.val / 64, by omega⟩ ⟨x.val % 64, by omega⟩)
  exact congrArg (fun x => ReferenceIdeal.Value.res_main_v25 m c (ix3 b s x)) e

theorem algebraic : @algebraic_KernelIdeal_ReferenceIdeal_pre_finite_scores KernelIdeal.Gen.facts ReferenceIdeal.Gen.facts preFacts := by
  intro m g m' g' hpre hargs
  have hreal := fun c => real_of_pre _ _ _ (hpre c)
  refine ⟨fun c => result (m (c.tc.loc KernelIdeal.main_arg0)) (m (c.tc.loc KernelIdeal.main_arg1)) (m (c.tc.loc KernelIdeal.main_arg2)), ?_, ?_⟩
  · refine (θ_run _ _ _).mono (fun r h c => ?_) (SB.run m g)
    exact ⟨((h.1 c).1 4).trans (final_array m c (hreal c).1 (hreal c).2),
      (kept m r h.1 c KernelIdeal.main_arg0 (Pipeline.mem_restRefs_of KernelIdeal.main_arg0 (by decide) (by decide))).trans (V_arg0 m c),
      (kept m r h.1 c KernelIdeal.main_arg1 (Pipeline.mem_restRefs_of KernelIdeal.main_arg1 (by decide) (by decide))).trans (V_arg1 m c),
      (kept m r h.1 c KernelIdeal.main_arg2 (Pipeline.mem_restRefs_of KernelIdeal.main_arg2 (by decide) (by decide))).trans (V_arg2 m c)⟩
  · refine (θ_run _ _ _).mono (fun r h c => ⟨(h c).1.trans ?_, (h c).2⟩) (ReferenceIdeal.Value.run m' g')
    obtain ⟨h0, h1, h2⟩ := hargs c
    refine (reference_eq m' c (fun i => ?_) (fun i => ?_)).trans ?_
    · rw [h0]; exact (hreal c).1 i
    · rw [h1]; exact (hreal c).2 i
    · rw [h0, h1, h2]

end Cert.Proof.SB
-- ==== Proof.Proj.Body.lean ====
/-
  The projection's body, over any float values: what it leaves in each result's buffer, from the blocks of its operands.
-/
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.Proof.Proj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body reads and writes -/

abbrev rX : Rect S256x1024 := Rect.unit (s := S256x1024) ![0, 0] S256x1024.size inb_S256x1024_S256x1024_0_0
abbrev rNg : Rect S1x1024 := Rect.unit (s := S1x1024) ![0, 0] S1x1024.size inb_S1x1024_S1x1024_0_0
abbrev rRot : Rect S256x128 := Rect.unit (s := S256x128) ![0, 0] S256x128.size inb_S256x128_S256x128_0_0
abbrev rHead : Rect S1x512 := Rect.unit (s := S1x512) ![0, 0] S1x512.size inb_S1x512_S1x512_0_0
abbrev rSeg : Rect S256x256 := Rect.unit (s := S256x256) ![0, 0] S256x256.size inb_S256x256_S256x256_0_0
abbrev rBg : Rect S1x2048 := Rect.unit (s := S1x2048) ![0, 0] S1x2048.size inb_S1x2048_S1x2048_0_0
abbrev rQa : Rect S1024x6144 := Rect.unit (s := S1024x6144) ![0, 0] S1024x512.size inb_S1024x6144_S1024x512_0_0
abbrev rKa : Rect S1024x6144 := Rect.unit (s := S1024x6144) ![0, 512] S1024x512.size inb_S1024x6144_S1024x512_0_512
abbrev rVa : Rect S1024x6144 := Rect.unit (s := S1024x6144) ![0, 1024] S1024x512.size inb_S1024x6144_S1024x512_0_1024
abbrev rGa : Rect S1024x6144 := Rect.unit (s := S1024x6144) ![0, 1536] S1024x512.size inb_S1024x6144_S1024x512_0_1536
abbrev rQb : Rect S1024x6144 := Rect.unit (s := S1024x6144) ![0, 2048] S1024x512.size inb_S1024x6144_S1024x512_0_2048
abbrev rKb : Rect S1024x6144 := Rect.unit (s := S1024x6144) ![0, 2560] S1024x512.size inb_S1024x6144_S1024x512_0_2560
abbrev rVb : Rect S1024x6144 := Rect.unit (s := S1024x6144) ![0, 3072] S1024x512.size inb_S1024x6144_S1024x512_0_3072
abbrev rGb : Rect S1024x6144 := Rect.unit (s := S1024x6144) ![0, 3584] S1024x512.size inb_S1024x6144_S1024x512_0_3584
abbrev rGm : Rect S1024x6144 := Rect.unit (s := S1024x6144) ![0, 4096] S1024x2048.size inb_S1024x6144_S1024x2048_0_4096
abbrev rOut : Rect S256x512 := Rect.unit (s := S256x512) ![0, 0] S256x512.size inb_S256x512_S256x512_0_0
abbrev rOutT : Rect S1x512x256 := Rect.unit (s := S1x512x256) ![0, 0, 0] S1x512x256.size inb_S1x512x256_S1x512x256_0_0_0
abbrev rSlab0 : Rect S2x1x512x256 := Rect.unit (s := S2x1x512x256) ![0, 0, 0, 0] S1x1x512x256.size inb_S2x1x512x256_S1x1x512x256_0_0_0_0
abbrev rSlab1 : Rect S2x1x512x256 := Rect.unit (s := S2x1x512x256) ![1, 0, 0, 0] S1x1x512x256.size inb_S2x1x512x256_S1x1x512x256_1_0_0_0
abbrev rMean : Rect S1x1x512 := Rect.unit (s := S1x1x512) ![0, 0, 0] S1x1x512.size inb_S1x1x512_S1x1x512_0_0_0
abbrev rOutM : Rect S256x2048 := Rect.unit (s := S256x2048) ![0, 0] S256x2048.size inb_S256x2048_S256x2048_0_0

/-! ## The values of one block of rows -/

/-- The normed rows. -/
def hid (x : Vec F S256x1024 .f32) (ng : Vec F S1x1024 .f32) : FVec F S256x1024 .bf16 := k0_pay8 (View.ld x rX) (View.ld ng rNg)

/-- The queries of the first branch. -/
def qa (x : Vec F S256x1024 .f32) (ng : Vec F S1x1024 .f32) (w : Vec F S1024x6144 .bf16) (qg : Vec F S1x512 .f32) (cs : Vec F S256x128 .f32) (s1 : Vec F S256x128 .f32) (s2 : Vec F S256x128 .f32) (sg : Vec F S256x256 .bf16) : FVec F S256x512 .f32 :=
  k0_pay17 (k0_pay9 (View.ld cs rRot)) (k0_pay10 (View.ld s1 rRot)) (k0_pay11 (View.ld s2 rRot))
    (k0_pay12 (View.ld x rX) (View.ld ng rNg) (View.ld w rQa)) (k0_pay13 (View.ld qg rHead))
    (k0_pay15 (View.ld x rX) (View.ld ng rNg) (View.ld w rQa) (View.ld sg rSeg))
    (k0_pay16 (View.ld x rX) (View.ld ng rNg) (View.ld w rQa)) (View.ld sg rSeg)

/-- The keys of the first branch. -/
def ka (x : Vec F S256x1024 .f32) (ng : Vec F S1x1024 .f32) (w : Vec F S1024x6144 .bf16) (kg : Vec F S1x512 .f32) (cs : Vec F S256x128 .f32) (s1 : Vec F S256x128 .f32) (s2 : Vec F S256x128 .f32) (sg : Vec F S256x256 .bf16) : FVec F S256x512 .f32 :=
  k0_pay21 (k0_pay9 (View.ld cs rRot)) (k0_pay10 (View.ld s1 rRot)) (k0_pay11 (View.ld s2 rRot)) (k0_pay18 (hid x ng) (View.ld w rKa))
    (k0_pay19 (View.ld kg rHead)) (k0_pay20 (hid x ng) (View.ld w rKa) (View.ld sg rSeg) (View.ld sg rSeg)) (Scalar.ofBits .f32 0x358637BD#32)

/-- The values of the first branch, and the second branch's keys and values. -/
def va (x : Vec F S256x1024 .f32) (ng : Vec F S1x1024 .f32) (w : Vec F S1024x6144 .bf16) : FVec F S256x512 .f32 := k0_pay22 (hid x ng) (View.ld w rVa)
def kb (x : Vec F S256x1024 .f32) (ng : Vec F S1x1024 .f32) (w : Vec F S1024x6144 .bf16) : FVec F S256x512 .f32 := k0_pay25 (hid x ng) (View.ld w rKb)
def vb (x : Vec F S256x1024 .f32) (ng : Vec F S1x1024 .f32) (w : Vec F S1024x6144 .bf16) : FVec F S256x512 .f32 := k0_pay26 (hid x ng) (View.ld w rVb)

/-! ## What each result's buffer holds after the body -/

def qaOut (x : Vec F S256x1024 .f32) (ng : Vec F S1x1024 .f32) (w : Vec F S1024x6144 .bf16) (qg : Vec F S1x512 .f32) (cs : Vec F S256x128 .f32) (s1 : Vec F S256x128 .f32) (s2 : Vec F S256x128 .f32) (sg : Vec F S256x256 .bf16) : Vec F S256x512 .bf16 :=
  View.canon [⟨rOut, k0_pay29 (qa x ng w qg cs s1 s2 sg)⟩]
def kaOut (x : Vec F S256x1024 .f32) (ng : Vec F S1x1024 .f32) (w : Vec F S1024x6144 .bf16) (kg : Vec F S1x512 .f32) (cs : Vec F S256x128 .f32) (s1 : Vec F S256x128 .f32) (s2 : Vec F S256x128 .f32) (sg : Vec F S256x256 .bf16) : Vec F S1x512x256 .bf16 :=
  View.canon [⟨rOutT, k0_pay35 (k0_pay33 (ka x ng w kg cs s1 s2 sg))⟩]
def vaOut (x : Vec F S256x1024 .f32) (ng : Vec F S1x1024 .f32) (w : Vec F S1024x6144 .bf16) : Vec F S256x512 .bf16 :=
  View.canon [⟨rOut, k0_pay31 (va x ng w)⟩]
def qbOut (x : Vec F S256x1024 .f32) (ng : Vec F S1x1024 .f32) (w : Vec F S1024x6144 .bf16) : Vec F S256x512 .bf16 :=
  View.canon [⟨rOut, k0_pay30 (k0_pay24 (hid x ng) (View.ld w rQb))⟩]
def kbOut (x : Vec F S256x1024 .f32) (ng : Vec F S1x1024 .f32) (w : Vec F S1024x6144 .bf16) : Vec F S1x512x256 .bf16 :=
  View.canon [⟨rOutT, k0_pay36 (k0_pay34 (kb x ng w))⟩]
def vbOut (x : Vec F S256x1024 .f32) (ng : Vec F S1x1024 .f32) (w : Vec F S1024x6144 .bf16) : Vec F S256x512 .bf16 :=
  View.canon [⟨rOut, k0_pay32 (vb x ng w)⟩]
def kaSlabs (x : Vec F S256x1024 .f32) (ng : Vec F S1x1024 .f32) (w : Vec F S1024x6144 .bf16) (kg : Vec F S1x512 .f32) (cs : Vec F S256x128 .f32) (s1 : Vec F S256x128 .f32) (s2 : Vec F S256x128 .f32) (sg : Vec F S256x256 .bf16) : Vec F S2x1x512x256 .f32 :=
  View.canon [⟨rSlab1, k0_pay40 (k0_pay33 (ka x ng w kg cs s1 s2 sg))⟩, ⟨rSlab0, k0_pay39 (k0_pay33 (ka x ng w kg cs s1 s2 sg))⟩]
def vaSlabs (x : Vec F S256x1024 .f32) (ng : Vec F S1x1024 .f32) (w : Vec F S1024x6144 .bf16) : Vec F S2x1x512x256 .f32 :=
  View.canon [⟨rSlab1, k0_pay42 (va x ng w)⟩, ⟨rSlab0, k0_pay41 (va x ng w)⟩]
def kbSlabs (x : Vec F S256x1024 .f32) (ng : Vec F S1x1024 .f32) (w : Vec F S1024x6144 .bf16) : Vec F S2x1x512x256 .f32 :=
  View.canon [⟨rSlab1, k0_pay1 (k0_pay34 (kb x ng w))⟩, ⟨rSlab0, k0_pay43 (k0_pay34 (kb x ng w))⟩]
def vbSlabs (x : Vec F S256x1024 .f32) (ng : Vec F S1x1024 .f32) (w : Vec F S1024x6144 .bf16) : Vec F S2x1x512x256 .f32 :=
  View.canon [⟨rSlab1, k0_pay3 (k0_pay38 (vb x ng w))⟩, ⟨rSlab0, k0_pay2 (k0_pay38 (vb x ng w))⟩]
def gateA (x : Vec F S256x1024 .f32) (ng : Vec F S1x1024 .f32) (w : Vec F S1024x6144 .bf16) : Vec F S256x512 .bf16 :=
  View.canon [⟨rOut, k0_pay5 (k0_pay23 (hid x ng) (View.ld w rGa))⟩]
def gateB (x : Vec F S256x1024 .f32) (ng : Vec F S1x1024 .f32) (w : Vec F S1024x6144 .bf16) : Vec F S256x512 .bf16 :=
  View.canon [⟨rOut, k0_pay6 (k0_pay27 (hid x ng) (View.ld w rGb))⟩]
def gateM (x : Vec F S256x1024 .f32) (ng : Vec F S1x1024 .f32) (w : Vec F S1024x6144 .bf16) (bg : Vec F S1x2048 .f32) : Vec F S256x2048 .bf16 :=
  View.canon [⟨rOutM, k0_pay7 (k0_pay28 (hid x ng) (View.ld w rGm) (View.ld bg rBg))⟩]
def kmeanOut (x : Vec F S256x1024 .f32) (ng : Vec F S1x1024 .f32) (w : Vec F S1024x6144 .bf16) (kg : Vec F S1x512 .f32) (cs : Vec F S256x128 .f32) (s1 : Vec F S256x128 .f32) (s2 : Vec F S256x128 .f32) (sg : Vec F S256x256 .bf16) : Vec F S1x1x512 .f32 :=
  View.canon [⟨rMean, k0_pay4 (ka x ng w kg cs s1 s2 sg)⟩]

/-- The stores of one result cover its buffer. -/
theorem cover_rows (p : Vec F S256x512 .bf16) (y : S256x512.Idx) : ∃ pc ∈ ([⟨rOut, p⟩] : List (View.Piece (Elt F) S256x512 .bf16)), y ∈ pc.1.set :=
  View.cover_of_tiled [⟨rOut, p⟩] S256x512.size (by rfl) y
theorem cover_blocks (p : Vec F S1x512x256 .bf16) (y : S1x512x256.Idx) : ∃ pc ∈ ([⟨rOutT, p⟩] : List (View.Piece (Elt F) S1x512x256 .bf16)), y ∈ pc.1.set :=
  View.cover_of_tiled [⟨rOutT, p⟩] S1x512x256.size (by rfl) y
theorem cover_merge (p : Vec F S256x2048 .bf16) (y : S256x2048.Idx) : ∃ pc ∈ ([⟨rOutM, p⟩] : List (View.Piece (Elt F) S256x2048 .bf16)), y ∈ pc.1.set :=
  View.cover_of_tiled [⟨rOutM, p⟩] S256x2048.size (by rfl) y
theorem cover_mean (p : Vec F S1x1x512 .f32) (y : S1x1x512.Idx) : ∃ pc ∈ ([⟨rMean, p⟩] : List (View.Piece (Elt F) S1x1x512 .f32)), y ∈ pc.1.set :=
  View.cover_of_tiled [⟨rMean, p⟩] S1x1x512.size (by rfl) y
theorem cover_slabs (p q : Vec F S1x1x512x256 .f32) (y : S2x1x512x256.Idx) :
    ∃ pc ∈ ([⟨rSlab1, p⟩, ⟨rSlab0, q⟩] : List (View.Piece (Elt F) S2x1x512x256 .f32)), y ∈ pc.1.set :=
  View.cover_of_tiled [⟨rSlab1, p⟩, ⟨rSlab0, q⟩] S1x1x512x256.size (by rfl) y

/-! ## The body's triple -/

set_option maxHeartbeats 2000000 in
/-- The body on whole memrefs, the inputs' at read contents and the results' at anything, leaves each result at its value. -/
theorem sound_kernel (c : Dev nD) (E : Set ℕ) (i : grid0.Coords)
    (a0 : Memref sig .tc .vmem S256x1024 .f32) (h0 : a0.IsWhole)
    (a1 : Memref sig .tc .vmem S1x1024 .f32) (h1 : a1.IsWhole)
    (a2 : Memref sig .tc .vmem S1024x6144 .bf16) (h2 : a2.IsWhole)
    (a3 : Memref sig .tc .vmem S1x2048 .f32) (h3 : a3.IsWhole)
    (a4 : Memref sig .tc .vmem S1x512 .f32) (h4 : a4.IsWhole)
    (a5 : Memref sig .tc .vmem S1x512 .f32) (h5 : a5.IsWhole)
    (a6 : Memref sig .tc .vmem S256x128 .f32) (h6 : a6.IsWhole)
    (a7 : Memref sig .tc .vmem S256x128 .f32) (h7 : a7.IsWhole)
    (a8 : Memref sig .tc .vmem S256x128 .f32) (h8 : a8.IsWhole)
    (a9 : Memref sig .tc .vmem S256x256 .bf16) (h9 : a9.IsWhole)
    (a10 : Memref sig .tc .vmem S256x512 .bf16) (h10 : a10.IsWhole)
    (a11 : Memref sig .tc .vmem S1x512x256 .bf16) (h11 : a11.IsWhole)
    (a12 : Memref sig .tc .vmem S256x512 .bf16) (h12 : a12.IsWhole)
    (a13 : Memref sig .tc .vmem S256x512 .bf16) (h13 : a13.IsWhole)
    (a14 : Memref sig .tc .vmem S1x512x256 .bf16) (h14 : a14.IsWhole)
    (a15 : Memref sig .tc .vmem S256x512 .bf16) (h15 : a15.IsWhole)
    (a16 : Memref sig .tc .vmem S2x1x512x256 .f32) (h16 : a16.IsWhole)
    (a17 : Memref sig .tc .vmem S2x1x512x256 .f32) (h17 : a17.IsWhole)
    (a18 : Memref sig .tc .vmem S2x1x512x256 .f32) (h18 : a18.IsWhole)
    (a19 : Memref sig .tc .vmem S2x1x512x256 .f32) (h19 : a19.IsWhole)
    (a20 : Memref sig .tc .vmem S256x512 .bf16) (h20 : a20.IsWhole)
    (a21 : Memref sig .tc .vmem S256x512 .bf16) (h21 : a21.IsWhole)
    (a22 : Memref sig .tc .vmem S256x2048 .bf16) (h22 : a22.IsWhole)
    (a23 : Memref sig .tc .vmem S1x1x512 .f32) (h23 : a23.IsWhole)
    (x : Vec F S256x1024 .f32) (ng : Vec F S1x1024 .f32) (w : Vec F S1024x6144 .bf16) (bg : Vec F S1x2048 .f32) (qg : Vec F S1x512 .f32) (kg : Vec F S1x512 .f32) (cs : Vec F S256x128 .f32) (s1 : Vec F S256x128 .f32) (s2 : Vec F S256x128 .f32) (sg : Vec F S256x256 .bf16) (K : PUnit → sProp 𝕄) :
    iprop(owns (c : Thread nD τ) a0 fullShare x ∗ owns (c : Thread nD τ) a1 fullShare ng ∗ owns (c : Thread nD τ) a2 fullShare w ∗ owns (c : Thread nD τ) a3 fullShare bg ∗ owns (c : Thread nD τ) a4 fullShare qg ∗ owns (c : Thread nD τ) a5 fullShare kg ∗ owns (c : Thread nD τ) a6 fullShare cs ∗ owns (c : Thread nD τ) a7 fullShare s1 ∗ owns (c : Thread nD τ) a8 fullShare s2 ∗ owns (c : Thread nD τ) a9 fullShare sg
        ∗ (∃ d, owns (c : Thread nD τ) a10 fullShare d) ∗ (∃ d, owns (c : Thread nD τ) a11 fullShare d) ∗ (∃ d, owns (c : Thread nD τ) a12 fullShare d) ∗ (∃ d, owns (c : Thread nD τ) a13 fullShare d) ∗ (∃ d, owns (c : Thread nD τ) a14 fullShare d) ∗ (∃ d, owns (c : Thread nD τ) a15 fullShare d) ∗ (∃ d, owns (c : Thread nD τ) a16 fullShare d) ∗ (∃ d, owns (c : Thread nD τ) a17 fullShare d) ∗ (∃ d, owns (c : Thread nD τ) a18 fullShare d) ∗ (∃ d, owns (c : Thread nD τ) a19 fullShare d) ∗ (∃ d, owns (c : Thread nD τ) a20 fullShare d) ∗ (∃ d, owns (c : Thread nD τ) a21 fullShare d) ∗ (∃ d, owns (c : Thread nD τ) a22 fullShare d) ∗ (∃ d, owns (c : Thread nD τ) a23 fullShare d)
        ∗ (iprop(owns (c : Thread nD τ) a0 fullShare x ∗ owns (c : Thread nD τ) a1 fullShare ng ∗ owns (c : Thread nD τ) a2 fullShare w ∗ owns (c : Thread nD τ) a3 fullShare bg ∗ owns (c : Thread nD τ) a4 fullShare qg ∗ owns (c : Thread nD τ) a5 fullShare kg ∗ owns (c : Thread nD τ) a6 fullShare cs ∗ owns (c : Thread nD τ) a7 fullShare s1 ∗ owns (c : Thread nD τ) a8 fullShare s2 ∗ owns (c : Thread nD τ) a9 fullShare sg
        ∗ owns (c : Thread nD τ) a10 fullShare (qaOut x ng w qg cs s1 s2 sg)
        ∗ owns (c : Thread nD τ) a11 fullShare (kaOut x ng w kg cs s1 s2 sg)
        ∗ owns (c : Thread nD τ) a12 fullShare (vaOut x ng w)
        ∗ owns (c : Thread nD τ) a13 fullShare (qbOut x ng w)
        ∗ owns (c : Thread nD τ) a14 fullShare (kbOut x ng w)
        ∗ owns (c : Thread nD τ) a15 fullShare (vbOut x ng w)
        ∗ owns (c : Thread nD τ) a16 fullShare (kaSlabs x ng w kg cs s1 s2 sg)
        ∗ owns (c : Thread nD τ) a17 fullShare (vaSlabs x ng w)
        ∗ owns (c : Thread nD τ) a18 fullShare (kbSlabs x ng w)
        ∗ owns (c : Thread nD τ) a19 fullShare (vbSlabs x ng w)
        ∗ owns (c : Thread nD τ) a20 fullShare (gateA x ng w)
        ∗ owns (c : Thread nD τ) a21 fullShare (gateB x ng w)
        ∗ owns (c : Thread nD τ) a22 fullShare (gateM x ng w bg)
        ∗ owns (c : Thread nD τ) a23 fullShare (kmeanOut x ng w kg cs s1 s2 sg)) -∗ K ⟨⟩))
      ⊢ wp frame (wpE (defs₀ (F := F)) Variants.none c none) E (cc0_proj_prompt i a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23) K := by
  simp only [cc0_proj_prompt_eq_skeleton]; unfold cc0_proj_prompt_skel
  simp only [k0_part1_eq_skeleton, k0_part2_eq_skeleton, k0_part3_eq_skeleton, k0_part4_eq_skeleton, k0_part5_eq_skeleton]
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, Hk⟩
  subst e0 e1 e2 e3 e4 e5 e6 e7 e8 e9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr; swap; · iexact H10
    ipureintro; exact (View.read_writes_eq_canon _ _ _ (cover_rows _)).trans rfl
  isplitl [H11]
  · iexists _; isplitr; swap; · iexact H11
    ipureintro; exact (View.read_writes_eq_canon _ _ _ (cover_blocks _)).trans rfl
  isplitl [H12]
  · iexists _; isplitr; swap; · iexact H12
    ipureintro; exact (View.read_writes_eq_canon _ _ _ (cover_rows _)).trans rfl
  isplitl [H13]
  · iexists _; isplitr; swap; · iexact H13
    ipureintro; exact (View.read_writes_eq_canon _ _ _ (cover_rows _)).trans rfl
  isplitl [H14]
  · iexists _; isplitr; swap; · iexact H14
    ipureintro; exact (View.read_writes_eq_canon _ _ _ (cover_blocks _)).trans rfl
  isplitl [H15]
  · iexists _; isplitr; swap; · iexact H15
    ipureintro; exact (View.read_writes_eq_canon _ _ _ (cover_rows _)).trans rfl
  isplitl [H16]
  · iexists _; isplitr; swap; · iexact H16
    ipureintro; exact (View.read_writes_eq_canon _ _ _ (cover_slabs _ _)).trans rfl
  isplitl [H17]
  · iexists _; isplitr; swap; · iexact H17
    ipureintro; exact (View.read_writes_eq_canon _ _ _ (cover_slabs _ _)).trans rfl
  isplitl [H18]
  · iexists _; isplitr; swap; · iexact H18
    ipureintro; exact (View.read_writes_eq_canon _ _ _ (cover_slabs _ _)).trans rfl
  isplitl [H19]
  · iexists _; isplitr; swap; · iexact H19
    ipureintro; exact (View.read_writes_eq_canon _ _ _ (cover_slabs _ _)).trans rfl
  isplitl [H20]
  · iexists _; isplitr; swap; · iexact H20
    ipureintro; exact (View.read_writes_eq_canon _ _ _ (cover_rows _)).trans rfl
  isplitl [H21]
  · iexists _; isplitr; swap; · iexact H21
    ipureintro; exact (View.read_writes_eq_canon _ _ _ (cover_rows _)).trans rfl
  isplitl [H22]
  · iexists _; isplitr; swap; · iexact H22
    ipureintro; exact (View.read_writes_eq_canon _ _ _ (cover_merge _)).trans rfl
  iexists _; isplitr; swap; · iexact H23
  ipureintro; exact (View.read_writes_eq_canon _ _ _ (cover_mean _)).trans rfl

end Cert.Proof.Proj

end
-- ==== Proof.Proj.Run.lean ====
/-
  The projection's run, over any float values: the host's lines, the pipeline's proof data, and the frame.
-/
module

public import proofs.«01_k».proof.Proof.Proj.Body

@[expose] public section

set_option maxRecDepth 16384

noncomputable section

namespace Cert.Proof.Proj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host's lines before the region -/

/-- Core `c`'s buffers when the region is entered. -/
abbrev V (c : Dev nD) (b : Ref sig .tc) : Buf (Elt F) ((c : Thread nD τ).loc b) :=
  StableHlo.after (List.flatten [hostOps0, hostOps0_1, hostOps0_2]) (fun b => m (c, b)) b

theorem fresh_0 : (hostOps0 : List (HloOp τ sig (Elt F))).Forall fun op => op.fresh = ∅ := by
  simp only [List.Forall]; repeat' constructor
theorem fresh_1 : (hostOps0_1 : List (HloOp τ sig (Elt F))).Forall fun op => op.fresh = ∅ := by
  simp only [List.Forall]; repeat' constructor
theorem fresh_2 : (hostOps0_2 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨fresh_0, fresh_1, fresh_2⟩) main_chain

/-- The program's arguments. -/
abbrev argRefs : List (Ref sig .tc) := [main_arg0, main_arg1, main_arg2, main_arg3, main_arg4, main_arg5]

/-- No line writes an argument. -/
theorem V_arg (c : Dev nD) (b : Ref sig .tc) (hb : b ∈ argRefs) : V m c b = m ((c : Thread nD τ).loc b) :=
  StableHlo.after_of_forall_not_mem (b := Proc.devRef .tc b) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by revert b; decide)))

/-! ## The proof data -/

/-- Window `w`'s block at point `t`, of its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- What the body leaves in each window's buffer: the operands as they were, each result at its value of their blocks. -/
def aft (c : Dev nD) (t : Fin cfg0.N) : (w : Fin 24) → (win0 w).block.Idx → Elt F (win0 w).elt
  | ⟨0, _⟩ => iblk m c 0 t
  | ⟨1, _⟩ => iblk m c 1 t
  | ⟨2, _⟩ => iblk m c 2 t
  | ⟨3, _⟩ => iblk m c 3 t
  | ⟨4, _⟩ => iblk m c 4 t
  | ⟨5, _⟩ => iblk m c 5 t
  | ⟨6, _⟩ => iblk m c 6 t
  | ⟨7, _⟩ => iblk m c 7 t
  | ⟨8, _⟩ => iblk m c 8 t
  | ⟨9, _⟩ => iblk m c 9 t
  | ⟨10, _⟩ => qaOut (iblk m c 0 t) (iblk m c 1 t) (iblk m c 2 t) (iblk m c 4 t) (iblk m c 6 t) (iblk m c 7 t) (iblk m c 8 t) (iblk m c 9 t)
  | ⟨11, _⟩ => kaOut (iblk m c 0 t) (iblk m c 1 t) (iblk m c 2 t) (iblk m c 5 t) (iblk m c 6 t) (iblk m c 7 t) (iblk m c 8 t) (iblk m c 9 t)
  | ⟨12, _⟩ => vaOut (iblk m c 0 t) (iblk m c 1 t) (iblk m c 2 t)
  | ⟨13, _⟩ => qbOut (iblk m c 0 t) (iblk m c 1 t) (iblk m c 2 t)
  | ⟨14, _⟩ => kbOut (iblk m c 0 t) (iblk m c 1 t) (iblk m c 2 t)
  | ⟨15, _⟩ => vbOut (iblk m c 0 t) (iblk m c 1 t) (iblk m c 2 t)
  | ⟨16, _⟩ => kaSlabs (iblk m c 0 t) (iblk m c 1 t) (iblk m c 2 t) (iblk m c 5 t) (iblk m c 6 t) (iblk m c 7 t) (iblk m c 8 t) (iblk m c 9 t)
  | ⟨17, _⟩ => vaSlabs (iblk m c 0 t) (iblk m c 1 t) (iblk m c 2 t)
  | ⟨18, _⟩ => kbSlabs (iblk m c 0 t) (iblk m c 1 t) (iblk m c 2 t)
  | ⟨19, _⟩ => vbSlabs (iblk m c 0 t) (iblk m c 1 t) (iblk m c 2 t)
  | ⟨20, _⟩ => gateA (iblk m c 0 t) (iblk m c 1 t) (iblk m c 2 t)
  | ⟨21, _⟩ => gateB (iblk m c 0 t) (iblk m c 1 t) (iblk m c 2 t)
  | ⟨22, _⟩ => gateM (iblk m c 0 t) (iblk m c 1 t) (iblk m c 2 t) (iblk m c 3 t)
  | ⟨23, _⟩ => kmeanOut (iblk m c 0 t) (iblk m c 1 t) (iblk m c 2 t) (iblk m c 5 t) (iblk m c 6 t) (iblk m c 7 t) (iblk m c 8 t) (iblk m c 9 t)
  | ⟨_ + 24, h⟩ => absurd h (Nat.not_lt.2 (Nat.le_add_left _ _))

def dats (_ : Fin 1) (c : Dev nD) : Dat τ (Elt F) Unit ℕ (UR sig nD τ) ℕ cfg0 c where
  A w := V m c (Pipeline.arrRef spec0 w)
  after w t := aft m c t w
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by
  dsimp only [dats, aft]
theorem after_1 (c : Dev nD) (t : Fin cfg0.N) : (dats m 0 c).after 1 t = iblk m c 1 t := by
  dsimp only [dats, aft]
theorem after_2 (c : Dev nD) (t : Fin cfg0.N) : (dats m 0 c).after 2 t = iblk m c 2 t := by
  dsimp only [dats, aft]
theorem after_3 (c : Dev nD) (t : Fin cfg0.N) : (dats m 0 c).after 3 t = iblk m c 3 t := by
  dsimp only [dats, aft]
theorem after_4 (c : Dev nD) (t : Fin cfg0.N) : (dats m 0 c).after 4 t = iblk m c 4 t := by
  dsimp only [dats, aft]
theorem after_5 (c : Dev nD) (t : Fin cfg0.N) : (dats m 0 c).after 5 t = iblk m c 5 t := by
  dsimp only [dats, aft]
theorem after_6 (c : Dev nD) (t : Fin cfg0.N) : (dats m 0 c).after 6 t = iblk m c 6 t := by
  dsimp only [dats, aft]
theorem after_7 (c : Dev nD) (t : Fin cfg0.N) : (dats m 0 c).after 7 t = iblk m c 7 t := by
  dsimp only [dats, aft]
theorem after_8 (c : Dev nD) (t : Fin cfg0.N) : (dats m 0 c).after 8 t = iblk m c 8 t := by
  dsimp only [dats, aft]
theorem after_9 (c : Dev nD) (t : Fin cfg0.N) : (dats m 0 c).after 9 t = iblk m c 9 t := by
  dsimp only [dats, aft]
theorem after_10 (c : Dev nD) (t : Fin cfg0.N) : (dats m 0 c).after 10 t = qaOut (iblk m c 0 t) (iblk m c 1 t) (iblk m c 2 t) (iblk m c 4 t) (iblk m c 6 t) (iblk m c 7 t) (iblk m c 8 t) (iblk m c 9 t) := by
  dsimp only [dats, aft]
theorem after_11 (c : Dev nD) (t : Fin cfg0.N) : (dats m 0 c).after 11 t = kaOut (iblk m c 0 t) (iblk m c 1 t) (iblk m c 2 t) (iblk m c 5 t) (iblk m c 6 t) (iblk m c 7 t) (iblk m c 8 t) (iblk m c 9 t) := by
  dsimp only [dats, aft]
theorem after_12 (c : Dev nD) (t : Fin cfg0.N) : (dats m 0 c).after 12 t = vaOut (iblk m c 0 t) (iblk m c 1 t) (iblk m c 2 t) := by
  dsimp only [dats, aft]
theorem after_13 (c : Dev nD) (t : Fin cfg0.N) : (dats m 0 c).after 13 t = qbOut (iblk m c 0 t) (iblk m c 1 t) (iblk m c 2 t) := by
  dsimp only [dats, aft]
theorem after_14 (c : Dev nD) (t : Fin cfg0.N) : (dats m 0 c).after 14 t = kbOut (iblk m c 0 t) (iblk m c 1 t) (iblk m c 2 t) := by
  dsimp only [dats, aft]
theorem after_15 (c : Dev nD) (t : Fin cfg0.N) : (dats m 0 c).after 15 t = vbOut (iblk m c 0 t) (iblk m c 1 t) (iblk m c 2 t) := by
  dsimp only [dats, aft]
theorem after_16 (c : Dev nD) (t : Fin cfg0.N) : (dats m 0 c).after 16 t = kaSlabs (iblk m c 0 t) (iblk m c 1 t) (iblk m c 2 t) (iblk m c 5 t) (iblk m c 6 t) (iblk m c 7 t) (iblk m c 8 t) (iblk m c 9 t) := by
  dsimp only [dats, aft]
theorem after_17 (c : Dev nD) (t : Fin cfg0.N) : (dats m 0 c).after 17 t = vaSlabs (iblk m c 0 t) (iblk m c 1 t) (iblk m c 2 t) := by
  dsimp only [dats, aft]
theorem after_18 (c : Dev nD) (t : Fin cfg0.N) : (dats m 0 c).after 18 t = kbSlabs (iblk m c 0 t) (iblk m c 1 t) (iblk m c 2 t) := by
  dsimp only [dats, aft]
theorem after_19 (c : Dev nD) (t : Fin cfg0.N) : (dats m 0 c).after 19 t = vbSlabs (iblk m c 0 t) (iblk m c 1 t) (iblk m c 2 t) := by
  dsimp only [dats, aft]
theorem after_20 (c : Dev nD) (t : Fin cfg0.N) : (dats m 0 c).after 20 t = gateA (iblk m c 0 t) (iblk m c 1 t) (iblk m c 2 t) := by
  dsimp only [dats, aft]
theorem after_21 (c : Dev nD) (t : Fin cfg0.N) : (dats m 0 c).after 21 t = gateB (iblk m c 0 t) (iblk m c 1 t) (iblk m c 2 t) := by
  dsimp only [dats, aft]
theorem after_22 (c : Dev nD) (t : Fin cfg0.N) : (dats m 0 c).after 22 t = gateM (iblk m c 0 t) (iblk m c 1 t) (iblk m c 2 t) (iblk m c 3 t) := by
  dsimp only [dats, aft]
theorem after_23 (c : Dev nD) (t : Fin cfg0.N) : (dats m 0 c).after 23 t = kmeanOut (iblk m c 0 t) (iblk m c 1 t) (iblk m c 2 t) (iblk m c 5 t) (iblk m c 6 t) (iblk m c 7 t) (iblk m c 8 t) (iblk m c 9 t) := by
  dsimp only [dats, aft]

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; rfl) t d).trans rfl
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; rfl) t d).trans rfl
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; rfl) t d).trans rfl
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; rfl) t d).trans rfl
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; rfl) t d).trans rfl
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; rfl) t d).trans rfl
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; rfl) t d).trans rfl
theorem before_7 (c : Dev nD) (t : Fin cfg0.N) (d) : (dats m 0 c).before 7 t d = iblk m c 7 t :=
  ((dats m 0 c).before_in_eq_fetched 7 rfl (fun _ => rfl) (fun _ _ _ => rfl) (fun t => by rw [after_7]; rfl) t d).trans rfl
theorem before_8 (c : Dev nD) (t : Fin cfg0.N) (d) : (dats m 0 c).before 8 t d = iblk m c 8 t :=
  ((dats m 0 c).before_in_eq_fetched 8 rfl (fun _ => rfl) (fun _ _ _ => rfl) (fun t => by rw [after_8]; rfl) t d).trans rfl
theorem before_9 (c : Dev nD) (t : Fin cfg0.N) (d) : (dats m 0 c).before 9 t d = iblk m c 9 t :=
  ((dats m 0 c).before_in_eq_fetched 9 rfl (fun _ => rfl) (fun _ _ _ => rfl) (fun t => by rw [after_9]; rfl) t d).trans rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t))

set_option maxHeartbeats 4000000 in
theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  simp only [before_0, before_1, before_2, before_3, before_4, before_5, before_6, before_7, before_8, before_9]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15, after_16, after_17, after_18, after_19, after_20, after_21, after_22, after_23]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  iintro ⟨H0, H1, H2, H3, H4, H5, H6, H7, H8, H9, H10, H11, H12, H13, H14, H15, H16, H17, H18, H19, H20, H21, H22, H23⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iexact H23

theorem defs₀_row (t : Fin cfg0.N) : defs₀ (F := F) .tc cfg0.body (cfg0.bodyArgs t (cfg0.slots t)) = bodyAt0 t := by
  unfold defs₀; rw [Defs.onTc_tc]

set_option maxHeartbeats 4000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The launch: every execution ends, with the pipeline's arrays at what its data says, every other buffer as the host left it,
    and every counter at zero. -/
theorem run : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem kept (r : PUnit × MemSt nD τ sig (Elt F)) (h : Pipeline.FramePost cfgs (dats m) 0 (V m) r) (c : Dev nD) (b : Ref sig .tc)
    (hb : b ∈ argRefs) : r.2.mem ((c.tc : Thread nD τ).loc b) = m ((c.tc : Thread nD τ).loc b) :=
  ((h c).2 b ((by decide +kernel : ∀ b ∈ argRefs, b ∈ Pipeline.restRefs sig spec0) b hb)).trans (V_arg m c b hb)

/-- The arguments end as they began, and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨kept m r h.1 c main_arg0 (by decide), kept m r h.1 c main_arg1 (by decide), kept m r h.1 c main_arg2 (by decide), kept m r h.1 c main_arg3 (by decide), kept m r h.1 c main_arg4 (by decide), kept m r h.1 c main_arg5 (by decide)⟩, h.2⟩) (run m ρ)

end Cert.Proof.Proj

end
-- ==== Proof.Proj.Frames.lean ====
/-
  The projection's frames. The kernel and its ideal version have the same text: both frames are the one run's.
-/
module

public import proofs.«01_k».proof.Proof.Proj.Run
public import proofs.«01_k».proof.Proof.Gen.Reference2Ideal
public import proofs.«01_k».proof.Proof.Gen.Reference2Ideal.Run
public import proofs.«01_k».proof.Proof.Gen.Kernel2
public import proofs.«01_k».proof.Defs

@[expose] public section

set_option maxHeartbeats 4000000

noncomputable section

namespace Cert.Proof.Proj

open Idealize.ShloMosaic Idealize.ShloMosaic.TcCoe Idealize.SL.Sem

attribute [local instance] Kernel2.Gen.facts Kernel2Ideal.Gen.facts in
/-- The two body tables are one. -/
theorem bodies : Kernel2.defs₀ (F := Bits) = Kernel2Ideal.defs₀ (F := Bits) := by
  unfold Kernel2.defs₀ Kernel2Ideal.defs₀
  refine congrArg Defs.onTc (funext fun l => ?_)
  match l with
  | 0 => exact funext fun (t, s) => rfl

attribute [local instance] Kernel2.Gen.facts Kernel2Ideal.Gen.facts in
theorem tables : Kernel2.defs (F := Bits) = Kernel2Ideal.defs (F := Bits) := congrArg (Pipeline.defs Kernel2Ideal.pcfgs) bodies

theorem frame_kernel : @quiescent_Kernel2 Kernel2.Gen.facts := fun m ρ _ => by
  rw [tables]
  exact frame (F := Bits) m ρ

theorem frame_kernelIdeal : @quiescent_Kernel2Ideal Kernel2Ideal.Gen.facts := fun m ρ _ => frame (F := Ideal) m ρ

theorem frame_reference : @quiescent_Reference2Ideal Reference2Ideal.Gen.facts := fun m ρ _ =>
  (θ_run _ _ _).mono (fun r h => ⟨fun c => (h c).2.2.2.2.2.2.2.2.2.2.2.2.2.2, sem_eq_zero_of_no_sems (by decide) r.2⟩) (Reference2Ideal.Value.run (F := Ideal) m ρ)

end Cert.Proof.Proj
-- ==== Proof.Proj.Math.lean ====
/-
  The projection's formulas of one row: the norm, the projected lanes, the heads' norm, the rotation, and the forms in which the kernel computes them.
-/
module

public import Idealize.ShloMosaic.Lib.Pointwise
public import Idealize.ShloMosaic.Lib.Claim

@[expose] public section

noncomputable section

namespace Cert.Proof.Proj

open Idealize.ShloMosaic Finset

/-- Lane `j` of a normed row. -/
def hidden (x ng : Fin 1024 → EReal) (j : Fin 1024) : EReal :=
  x j * Ideal.rsqrt (Ideal.div (∑ k, x k * x k) (Ideal.ofBits .f32 1149239296#32) + Ideal.ofBits .f32 897988541#32) * ng j

/-- Lane `k` of a projected row. -/
def lane (x ng : Fin 1024 → EReal) (w : Fin 1024 → Fin 6144 → EReal) (k : Fin 6144) : EReal := ∑ j, hidden x ng j * w j k

/-- The 512 lanes from `o` on. -/
def lanes (x ng : Fin 1024 → EReal) (w : Fin 1024 → Fin 6144 → EReal) (o : ℕ) (ho : o + 512 ≤ 6144) (l : Fin 512) : EReal :=
  lane x ng w ⟨o + l.val, by omega⟩

/-- The mean of the squares of lane `l`'s head. -/
def headMean (a : Fin 512 → EReal) (l : Fin 512) : EReal :=
  Ideal.div (∑ e : Fin 64, a ⟨l.val / 64 * 64 + e.val, by omega⟩ * a ⟨l.val / 64 * 64 + e.val, by omega⟩) (Ideal.ofBits .f32 1115684864#32)

/-- Lane `l` of eight heads of 64 lanes, each normed. -/
def headNorm (a : Fin 512 → EReal) (g : Fin 64 → EReal) (l : Fin 512) : EReal :=
  a l * Ideal.rsqrt (headMean a l + Ideal.ofBits .f32 897988541#32) * g ⟨l.val % 64, by omega⟩

/-- Lane `l` after the rotation of each head's first 16 lanes. -/
def rope (cs sn : Fin 8 → EReal) (y : Fin 512 → EReal) (l : Fin 512) : EReal :=
  if h : l.val % 64 < 8 then y l * cs ⟨l.val % 64, h⟩ - y ⟨l.val + 8, by omega⟩ * sn ⟨l.val % 64, h⟩
  else if h' : l.val % 64 - 8 < 8 then y l * cs ⟨l.val % 64 - 8, h'⟩ + y ⟨l.val - 8, by omega⟩ * sn ⟨l.val % 64 - 8, h'⟩
  else y l

/-- The rotated, normed heads of the lanes from `o` on. -/
def heads (x ng : Fin 1024 → EReal) (w : Fin 1024 → Fin 6144 → EReal) (g : Fin 64 → EReal) (cs sn : Fin 8 → EReal) (o : ℕ) (ho : o + 512 ≤ 6144) :
    Fin 512 → EReal :=
  rope cs sn (headNorm (lanes x ng w o ho) g)

/-- The rotation's angle of position `t` and frequency `e`, and its cosine and sine. -/
def angle (t : Fin 4096) (e : Fin 8) : EReal :=
  FloatOps.sitofp (F := Ideal) .f32 (BitVec.ofNat 32 t.val) * Ideal.pow (Ideal.ofBits .f32 1223959552#32)
    (Ideal.div (-FloatOps.sitofp (F := Ideal) .f32 (BitVec.ofNat 32 e.val) * Ideal.ofBits .f32 1073741824#32) (Ideal.ofBits .f32 1098907648#32))
def cosOf (t : Fin 4096) (e : Fin 8) : EReal := Ideal.cos (angle t e)
def sinOf (t : Fin 4096) (e : Fin 8) : EReal := Ideal.sin (angle t e)

/-- The logistic function. -/
def logistic (u : EReal) : EReal := Ideal.div 1 (1 + Ideal.exp (-u))

/-! ## The kernel's forms -/

/-- A table over 64 lanes, repeated: `lo` on the first 8, `hi` on the next 8, `z` on the rest. -/
def table (lo hi : Fin 8 → EReal) (z : EReal) (n : ℕ) : EReal :=
  if h : n % 64 < 8 then lo ⟨n % 64, h⟩ else if h' : n % 64 - 8 < 8 then hi ⟨n % 64 - 8, h'⟩ else z

theorem table_mod (lo hi : Fin 8 → EReal) (z : EReal) {n n' : ℕ} (h : n % 64 = n' % 64) : table lo hi z n = table lo hi z n' := by
  unfold table
  simp only [h]

theorem rope_of_tables (cs sn : Fin 8 → EReal) (y : Fin 512 → EReal) (l : Fin 512) :
    y l * table cs cs 1 l + y ⟨(l.val + 512 - 504) % 512, Nat.mod_lt _ (by decide)⟩ * table (fun e => -sn e) (fun _ => 0) 0 l
      + y ⟨(l.val + 512 - 8) % 512, Nat.mod_lt _ (by decide)⟩ * table (fun _ => 0) sn 0 l = rope cs sn y l := by
  unfold table rope
  by_cases h : l.val % 64 < 8
  · simp only [dif_pos h, mul_zero, add_zero, mul_neg, sub_eq_add_neg]
    have : (⟨(l.val + 512 - 504) % 512, Nat.mod_lt _ (by decide)⟩ : Fin 512) = ⟨l.val + 8, by omega⟩ := Fin.ext (by simp only; omega)
    rw [this]
  · by_cases h' : l.val % 64 - 8 < 8
    · simp only [dif_neg h, dif_pos h', mul_zero, add_zero]
      have : (⟨(l.val + 512 - 8) % 512, Nat.mod_lt _ (by decide)⟩ : Fin 512) = ⟨l.val - 8, by omega⟩ := Fin.ext (by simp only; omega)
      rw [this]
    · simp only [dif_neg h, dif_neg h', mul_zero, add_zero, mul_one]

/-- A matrix column that marks one group of 64 rows sums that group. -/
theorem sum_group (f : Fin 256 → EReal) (k : Fin 256) :
    ∑ l : Fin 256, f l * (if l.val / 64 = k.val / 64 then 1 else 0) = ∑ e : Fin 64, f ⟨k.val / 64 * 64 + e.val, by omega⟩ := by
  rw [← (finProdFinEquiv : Fin 4 × Fin 64 ≃ Fin (4 * 64)).sum_comp, Fintype.sum_prod_type,
    Finset.sum_eq_single (⟨k.val / 64, by omega⟩ : Fin 4)]
  · refine Finset.sum_congr rfl fun e _ => ?_
    have : (finProdFinEquiv ((⟨k.val / 64, by omega⟩ : Fin 4), e)).val = e.val + 64 * (k.val / 64) := rfl
    rw [if_pos (by rw [this]; omega), mul_one]
    exact congrArg f (Fin.ext (by rw [this]; simp only; omega))
  · intro q _ hq
    refine Finset.sum_eq_zero fun e _ => ?_
    have : (finProdFinEquiv (q, e)).val = e.val + 64 * q.val := rfl
    rw [if_neg, mul_zero]
    rw [this]
    intro h
    exact hq (Fin.ext (by simp only; omega))
  · intro h
    exact absurd (Finset.mem_univ _) h

theorem mul_64th (u : EReal) : u * Ideal.ofBits .f32 1015021568#32 = Ideal.div u (Ideal.ofBits .f32 1115684864#32) := by
  have h1 : Ideal.ofBits .f32 1015021568#32 = ((1 / 64 : ℝ) : EReal) := by
    simp [Ideal.ofBits, Ideal.ieee, -EReal.coe_mul]
    norm_num
  have h2 : Ideal.ofBits .f32 1115684864#32 = ((64 : ℝ) : EReal) := by
    simp [Ideal.ofBits, Ideal.ieee, -EReal.coe_mul]
    norm_num
  rw [h1, h2, Ideal.div_coe]
  norm_num

/-- The kernel's mean of a head: a product with the marking matrix, of the lower or the upper half of the lanes. -/
theorem mean_of_halves (a : Fin 512 → EReal) (j : Fin 512) :
    (if h : j.val < 256 then
        ∑ l : Fin 256, a ⟨l.val, by omega⟩ * a ⟨l.val, by omega⟩ * (if l.val / 64 = j.val / 64 then 1 else 0)
      else ∑ l : Fin 256, a ⟨256 + l.val, by omega⟩ * a ⟨256 + l.val, by omega⟩ * (if l.val / 64 = (j.val - 256) / 64 then 1 else 0))
      * Ideal.ofBits .f32 1015021568#32 = headMean a j := by
  rw [mul_64th, headMean]
  refine congrArg (fun v => Ideal.div v _) ?_
  by_cases h : j.val < 256
  · rw [dif_pos h]
    exact sum_group (fun l => a ⟨l.val, by omega⟩ * a ⟨l.val, by omega⟩) ⟨j.val, h⟩
  · rw [dif_neg h]
    refine (sum_group (fun l => a ⟨256 + l.val, by omega⟩ * a ⟨256 + l.val, by omega⟩) ⟨j.val - 256, by omega⟩).trans ?_
    refine Finset.sum_congr rfl fun e _ => ?_
    have : (⟨256 + ((j.val - 256) / 64 * 64 + e.val), by omega⟩ : Fin 512) = ⟨j.val / 64 * 64 + e.val, by omega⟩ := Fin.ext (by simp only; omega)
    simp only [this]

/-! ## The reference's forms: lane `e` of head `h` -/

theorem headNorm_at (a : Fin 512 → EReal) (g : Fin 64 → EReal) (h : Fin 8) (e : Fin 64) :
    headNorm a g ⟨h.val * 64 + e.val, by omega⟩
      = a ⟨h.val * 64 + e.val, by omega⟩ * Ideal.rsqrt (Ideal.div (∑ k : Fin 64, a ⟨h.val * 64 + k.val, by omega⟩ * a ⟨h.val * 64 + k.val, by omega⟩)
          (Ideal.ofBits .f32 1115684864#32) + Ideal.ofBits .f32 897988541#32) * g e := by
  unfold headNorm headMean
  have h1 : (h.val * 64 + e.val) / 64 = h.val := by omega
  have h2 : (⟨(h.val * 64 + e.val) % 64, by omega⟩ : Fin 64) = e := Fin.ext (by simp only; omega)
  simp only [h1, h2]

theorem rope_at (cs sn : Fin 8 → EReal) (y : Fin 512 → EReal) (h : Fin 8) (e : Fin 64) :
    rope cs sn y ⟨h.val * 64 + e.val, by omega⟩
      = if h16 : e.val < 16 then
          if h' : e.val < 8 then y ⟨h.val * 64 + e.val, by omega⟩ * cs ⟨e.val, h'⟩ - y ⟨h.val * 64 + (8 + e.val), by omega⟩ * sn ⟨e.val, h'⟩
          else y ⟨h.val * 64 + (8 + (e.val - 8)), by omega⟩ * cs ⟨e.val - 8, by omega⟩ + y ⟨h.val * 64 + (e.val - 8), by omega⟩ * sn ⟨e.val - 8, by omega⟩
        else y ⟨h.val * 64 + (16 + (e.val - 16)), by omega⟩ := by
  unfold rope
  have h2 : (h.val * 64 + e.val) % 64 = e.val := by omega
  simp only [h2]
  by_cases h8 : e.val < 8
  · have h16 : e.val < 16 := by omega
    have : (⟨h.val * 64 + e.val + 8, by omega⟩ : Fin 512) = ⟨h.val * 64 + (8 + e.val), by omega⟩ := Fin.ext (by simp only; omega)
    simp only [h8, h16, dite_true, this]
  · by_cases h16 : e.val < 16
    · have h88 : e.val - 8 < 8 := by omega
      have e1 : (⟨h.val * 64 + (8 + (e.val - 8)), by omega⟩ : Fin 512) = ⟨h.val * 64 + e.val, by omega⟩ := Fin.ext (by simp only; omega)
      have e2 : (⟨h.val * 64 + e.val - 8, by omega⟩ : Fin 512) = ⟨h.val * 64 + (e.val - 8), by omega⟩ := Fin.ext (by simp only; omega)
      simp only [h8, h16, h88, dite_true, dite_false, e1, e2]
    · have h88 : ¬ e.val - 8 < 8 := by omega
      have e1 : (⟨h.val * 64 + (16 + (e.val - 16)), by omega⟩ : Fin 512) = ⟨h.val * 64 + e.val, by omega⟩ := Fin.ext (by simp only; omega)
      simp only [h8, h16, h88, dite_false, e1]

/-! ## The results as arrays of the argument arrays -/

/-- An array of extended reals. -/
abbrev Arr (s : Shape) := s.Idx → EReal

open Idealize.ShloMosaic.Pointwise

def vecOf {n : ℕ} (g : Arr ⟨1, ![n]⟩) : Fin n → EReal := fun k => g (ix1 k)
def matOf (w : Arr ⟨2, ![1024, 6144]⟩) : Fin 1024 → Fin 6144 → EReal := fun j k => w (ix2 j k)
def rowOf (x : Arr ⟨3, ![4, 4096, 1024]⟩) (b : Fin 4) (t : Fin 4096) : Fin 1024 → EReal := fun k => x (ix3 b t k)

section results
variable (x : Arr ⟨3, ![4, 4096, 1024]⟩) (ng : Arr ⟨1, ![1024]⟩) (w : Arr ⟨2, ![1024, 6144]⟩) (bg : Arr ⟨1, ![2048]⟩) (g : Arr ⟨1, ![64]⟩)

/-- Lane `l` of the 512 from `o` on, at position `t` of batch `b`, plain and after the heads' norm and rotation. -/
def laneAt (o : ℕ) (ho : o + 512 ≤ 6144) (b : Fin 4) (t : Fin 4096) (l : Fin 512) : EReal := lanes (rowOf x b t) (vecOf ng) (matOf w) o ho l
def headAt (o : ℕ) (ho : o + 512 ≤ 6144) (b : Fin 4) (t : Fin 4096) (l : Fin 512) : EReal :=
  heads (rowOf x b t) (vecOf ng) (matOf w) (vecOf g) (cosOf t) (sinOf t) o ho l
def gateAt (b : Fin 4) (t : Fin 4096) (k : Fin 2048) : EReal :=
  logistic (lane (rowOf x b t) (vecOf ng) (matOf w) ⟨4096 + k.val, by omega⟩ + bg (ix1 k))
end results

/-- All batches' rows, one after the other. -/
def rowsArr {n : ℕ} (f : Fin 4 → Fin 4096 → Fin n → EReal) : Arr ⟨2, ![16384, n]⟩ :=
  fun y => f ⟨(y 0).val / 4096, Nat.div_lt_of_lt_mul (y 0).isLt⟩ ⟨(y 0).val % 4096, Nat.mod_lt _ (by decide)⟩ (y 1)
/-- Blocks of 256 rows, each transposed. -/
def blocksArr (f : Fin 4 → Fin 4096 → Fin 512 → EReal) : Arr ⟨3, ![64, 512, 256]⟩ :=
  fun y => f ⟨(y 0).val / 16, Nat.div_lt_of_lt_mul (y 0).isLt⟩
    ⟨(y 0).val % 16 * 256 + (y 2).val, by have : (y 2).val < 256 := (y 2).isLt; omega⟩ (y 1)
/-- Each batch's rows transposed, twice. -/
def slabsArr (f : Fin 4 → Fin 4096 → Fin 512 → EReal) : Arr ⟨4, ![2, 4, 512, 4096]⟩ := fun y => f (y 1) (y 3) (y 2)
/-- The mean of each block of 256 rows. -/
def meanArr (f : Fin 4 → Fin 4096 → Fin 512 → EReal) : Arr ⟨3, ![64, 1, 512]⟩ :=
  fun y => Ideal.div (∑ r : Fin 256, f ⟨(y 0).val / 16, Nat.div_lt_of_lt_mul (y 0).isLt⟩ ⟨(y 0).val % 16 * 256 + r.val, by omega⟩ (y 2)) (Ideal.ofBits .f32 1132462080#32)

end Cert.Proof.Proj
-- ==== Proof.Proj.Host.lean ====
/-
  The projection's kernel over the extended reals: the arrays that the host computes before the call.
-/
module

public import proofs.«01_k».proof.Proof.Proj.Run
public import proofs.«01_k».proof.Proof.Proj.Math
public import Idealize.ShloMosaic.Lib.StableHlo.ReadAt

@[expose] public section

noncomputable section

namespace Cert.Proof.Proj

open Cert.Kernel2Ideal Cert.Kernel2Ideal.Gen Idealize.ShloMosaic Idealize.ShloMosaic.Pointwise Idealize.ShloMosaic.TcCoe Idealize.SL.Sem Finset

variable (m : (ℓ : Loc nD τ sig) → Buf (Elt Ideal) ℓ) (c : Dev nD)

theorem x_at (i : Fin 16384) (k : Fin 1024) :
    V m c main_v52 (ix2 i k) = (m (c.tc.loc main_arg0) (ix3 ⟨i.val / 4096, by omega⟩ ⟨i.val % 4096, by omega⟩ k) : EReal) := by
  unfold V
  after_reads_at
theorem ng_at (k : Fin 1024) : V m c main_v41 (ix2 0 k) = (m (c.tc.loc main_arg1) (ix1 k) : EReal) := by
  unfold V
  after_reads_at
theorem w_at (j : Fin 1024) (k : Fin 6144) : V m c main_v42 (ix2 j k) = (m (c.tc.loc main_arg2) (ix2 j k) : EReal) := by
  unfold V
  after_reads_at
theorem bg_at (k : Fin 2048) : V m c main_v43 (ix2 0 k) = (m (c.tc.loc main_arg3) (ix1 k) : EReal) := by
  unfold V
  after_reads_at
theorem qg_at (l : Fin 512) : V m c main_v47 (ix2 0 l) = (m (c.tc.loc main_arg4) (ix1 ⟨l.val % 64, by omega⟩) : EReal) := by
  unfold V
  after_reads_at
theorem kg_at (l : Fin 512) : V m c main_v51 (ix2 0 l) = (m (c.tc.loc main_arg5) (ix1 ⟨l.val % 64, by omega⟩) : EReal) := by
  unfold V
  after_reads_at

theorem cos_at (t : Fin 4096) (l : Fin 128) : V m c main_v34 (ix2 t l) = table (cosOf t) (cosOf t) 1 l.val := by
  unfold V
  after_reads_at
  after_reads_at
  rfl
theorem below_at (t : Fin 4096) (l : Fin 128) : V m c main_v37 (ix2 t l) = table (fun e => -sinOf t e) (fun _ => 0) 0 l.val := by
  unfold V
  after_reads_at
  after_reads_at
  rfl
theorem above_at (t : Fin 4096) (l : Fin 128) : V m c main_v40 (ix2 t l) = table (fun _ => 0) (sinOf t) 0 l.val := by
  unfold V
  after_reads_at
  after_reads_at
  rfl

/-- A lane's group of 64, as the host divides words. -/
def groupWord (x : BitVec 32) : BitVec 32 :=
  Scalar.select
    (IntOp.andi
      (IntOp.cmpi .ne (if x = 0 then 0 else if x.msb = true then -1 else 1)
        (if (64#32 : BitVec 32) = 0 then 0 else if (64#32 : BitVec 32).msb = true then -1 else 1 : BitVec 32))
      (IntOp.cmpi .ne (IntOp.remsi .host x 64#32) 0#32))
    (IntOp.subi (IntOp.divsi .host x 64#32) 1#32)
    (IntOp.divsi .host x 64#32)

theorem groupWord_eq : ∀ t : Fin 256, groupWord (BitVec.ofNat 32 t.val) = BitVec.ofNat 32 (t.val / 64) := by decide +kernel

theorem same_group : ∀ q q' : Fin 4, IntOp.cmpi .eq (BitVec.ofNat 32 q.val) (BitVec.ofNat 32 q'.val) = if q.val = q'.val then 1#1 else 0#1 := by decide +kernel

theorem marks_at (l k : Fin 256) : V m c main_v7 (ix2 l k) = (if l.val / 64 = k.val / 64 then 1 else 0 : EReal) := by
  have h : V m c main_v7 (ix2 l k) = FloatOps.uitofp (F := Ideal) .bf16 (IntOp.cmpi .eq (groupWord (BitVec.ofNat 32 l.val)) (groupWord (BitVec.ofNat 32 k.val))) := by
    unfold V
    after_reads_at
    rfl
  rw [h, groupWord_eq, groupWord_eq]
  refine (congrArg (FloatOps.uitofp (F := Ideal) .bf16) (same_group ⟨l.val / 64, by omega⟩ ⟨k.val / 64, by omega⟩)).trans ?_
  by_cases h : l.val / 64 = k.val / 64
  · simp [h, FloatOps.uitofp]
  · simp [h, FloatOps.uitofp]

end Cert.Proof.Proj
-- ==== Proof.Proj.Block.lean ====
/-
  The projection's body over the extended reals: each result's buffer at an index, from the operands' blocks.
-/
module

public import proofs.«01_k».proof.Proof.Proj.Body
public import proofs.«01_k».proof.Proof.Proj.Math
public import Idealize.ShloMosaic.Lib.Pipeline.ValueKit

@[expose] public section

noncomputable section

namespace Cert.Proof.Proj

open Cert.Kernel2Ideal Cert.Kernel2Ideal.Gen Idealize.ShloMosaic Idealize.ShloMosaic.Pointwise Finset

/-! ## Loads and payloads at an index -/

theorem ld_cols (w : Vec Ideal S1024x6144 .bf16) (o : ℕ) (inb) (ho : o + 512 ≤ 6144) (j : Fin 1024) (l : Fin 512) :
    View.ld w (Rect.unit (s := S1024x6144) ![0, o] S1024x512.size inb) (ix2 j l) = w (ix2 j ⟨o + l.val, by omega⟩) :=
  View.ld_unit_apply_of _ _ _ _ _ _ fun a => by
    fin_cases a
    · change j.val = 0 + j.val
      omega
    · rfl

theorem ld_cols' (w : Vec Ideal S1024x6144 .bf16) (o : ℕ) (inb) (ho : o + 2048 ≤ 6144) (j : Fin 1024) (l : Fin 2048) :
    View.ld w (Rect.unit (s := S1024x6144) ![0, o] S1024x2048.size inb) (ix2 j l) = w (ix2 j ⟨o + l.val, by omega⟩) :=
  View.ld_unit_apply_of _ _ _ _ _ _ fun a => by
    fin_cases a
    · change j.val = 0 + j.val
      omega
    · rfl

/-- A row of a block, and a weight, as functions. -/
def rowX (x : Vec Ideal S256x1024 .f32) (r : Fin 256) : Fin 1024 → EReal := fun k => x (ix2 r k)
def rowG (ng : Vec Ideal S1x1024 .f32) : Fin 1024 → EReal := fun k => ng (ix2 0 k)
def matW (w : Vec Ideal S1024x6144 .bf16) : Fin 1024 → Fin 6144 → EReal := fun j k => w (ix2 j k)

theorem pay8_at (x : Vec Ideal S256x1024 .f32) (ng : Vec Ideal S1x1024 .f32) (r : Fin 256) (j : Fin 1024) :
    k0_pay8 x ng (ix2 r j) = hidden (rowX x r) (rowG ng) j := by
  pointwise [k0_pay8]
  rfl

theorem pay18_at (h : FVec Ideal S256x1024 .bf16) (y : Vec Ideal S1024x512 .bf16) (r : Fin 256) (l : Fin 512) :
    k0_pay18 h y (ix2 r l) = (∑ j : Fin 1024, h (ix2 r j) * y (ix2 j l) : EReal) := by
  pointwise [k0_pay18]

theorem pay12_at (x : Vec Ideal S256x1024 .f32) (ng : Vec Ideal S1x1024 .f32) (y : Vec Ideal S1024x512 .bf16) (r : Fin 256) (l : Fin 512) :
    k0_pay12 x ng y (ix2 r l) = (∑ j : Fin 1024, k0_pay8 x ng (ix2 r j) * y (ix2 j l) : EReal) := by
  pointwise [k0_pay12]

theorem pay20_at (h : FVec Ideal S256x1024 .bf16) (y : Vec Ideal S1024x512 .bf16) (s s' : Vec Ideal S256x256 .bf16) (r : Fin 256) (j : Fin 512) :
    k0_pay20 h y s s' (ix2 r j)
      = ((if h' : j.val < 256 then ∑ l : Fin 256, k0_pay18 h y (ix2 r ⟨l.val, by omega⟩) * k0_pay18 h y (ix2 r ⟨l.val, by omega⟩) * s (ix2 l ⟨j.val, h'⟩)
          else ∑ l : Fin 256, k0_pay18 h y (ix2 r ⟨256 + l.val, by omega⟩) * k0_pay18 h y (ix2 r ⟨256 + l.val, by omega⟩) * s' (ix2 l ⟨j.val - 256, by omega⟩))
        * Ideal.ofBits .f32 1015021568#32 : EReal) := by
  pointwise [k0_pay20]

theorem pay15_at (x : Vec Ideal S256x1024 .f32) (ng : Vec Ideal S1x1024 .f32) (y : Vec Ideal S1024x512 .bf16) (s : Vec Ideal S256x256 .bf16) (r : Fin 256) (j : Fin 256) :
    k0_pay15 x ng y s (ix2 r j)
      = (∑ l : Fin 256, k0_pay12 x ng y (ix2 r ⟨l.val, by omega⟩) * k0_pay12 x ng y (ix2 r ⟨l.val, by omega⟩) * s (ix2 l j) : EReal) := by
  pointwise [k0_pay15, k0_pay14]

theorem pay16_at (x : Vec Ideal S256x1024 .f32) (ng : Vec Ideal S1x1024 .f32) (y : Vec Ideal S1024x512 .bf16) (r : Fin 256) (j : Fin 256) :
    k0_pay16 x ng y (ix2 r j)
      = (k0_pay12 x ng y (ix2 r ⟨256 + j.val, by omega⟩) * k0_pay12 x ng y (ix2 r ⟨256 + j.val, by omega⟩) : EReal) := by
  pointwise [k0_pay16, k0_pay14]

theorem pay9_at (x : Vec Ideal S256x128 .f32) (r : Fin 256) (lo hi : Fin 8 → EReal) (z : EReal) (hx : ∀ l : Fin 128, x (ix2 r l) = table lo hi z l.val) (j : Fin 512) :
    k0_pay9 x (ix2 r j) = table lo hi z j.val := by
  pointwise [k0_pay9]
  split_ifs
  all_goals exact (hx _).trans (table_mod _ _ _ (by first | rfl | (simp only; omega)))
theorem pay10_at (x : Vec Ideal S256x128 .f32) (r : Fin 256) (lo hi : Fin 8 → EReal) (z : EReal) (hx : ∀ l : Fin 128, x (ix2 r l) = table lo hi z l.val) (j : Fin 512) :
    k0_pay10 x (ix2 r j) = table lo hi z j.val := pay9_at x r lo hi z hx j
theorem pay11_at (x : Vec Ideal S256x128 .f32) (r : Fin 256) (lo hi : Fin 8 → EReal) (z : EReal) (hx : ∀ l : Fin 128, x (ix2 r l) = table lo hi z l.val) (j : Fin 512) :
    k0_pay11 x (ix2 r j) = table lo hi z j.val := pay9_at x r lo hi z hx j

theorem pay21_at (c s1 s2 u : FVec Ideal S256x512 .f32) (g : FVec Ideal S1x512 .f32) (v : FVec Ideal S256x512 .f32) (r : Fin 256) (j : Fin 512)
    (y : Fin 512 → EReal) (hy : ∀ l, u (ix2 r l) * Ideal.rsqrt (v (ix2 r l) + Ideal.ofBits .f32 897988541#32) * g (ix2 0 l) = y l) :
    k0_pay21 (F := Ideal) c s1 s2 u g v (Scalar.ofBits .f32 0x358637BD#32) (ix2 r j)
      = (y j * c (ix2 r j) + y ⟨(j.val + 512 - 504) % 512, Nat.mod_lt _ (by decide)⟩ * s1 (ix2 r j)
        + y ⟨(j.val + 512 - 8) % 512, Nat.mod_lt _ (by decide)⟩ * s2 (ix2 r j) : EReal) := by
  pointwise [k0_pay21]
  simp only [hy]

theorem pay17_at (c s1 s2 u : FVec Ideal S256x512 .f32) (g : FVec Ideal S1x512 .f32) (v : FVec Ideal S256x256 .f32) (v' : FVec Ideal S256x256 .bf16)
    (w : Vec Ideal S256x256 .bf16) (r : Fin 256) (j : Fin 512) (y : Fin 512 → EReal)
    (hy : ∀ l : Fin 512, u (ix2 r l) * Ideal.rsqrt ((if h : l.val < 256 then v (ix2 r ⟨l.val, h⟩) else ∑ k : Fin 256, v' (ix2 r k) * w (ix2 k ⟨l.val - 256, by omega⟩))
      * Ideal.ofBits .f32 1015021568#32 + Ideal.ofBits .f32 897988541#32) * g (ix2 0 l) = y l) :
    k0_pay17 (F := Ideal) c s1 s2 u g v v' w (ix2 r j)
      = ((y j * c (ix2 r j) + y ⟨(j.val + 512 - 504) % 512, Nat.mod_lt _ (by decide)⟩ * s1 (ix2 r j)
        + y ⟨(j.val + 512 - 8) % 512, Nat.mod_lt _ (by decide)⟩ * s2 (ix2 r j)) * Ideal.ofBits .f32 1040187392#32 : EReal) := by
  pointwise [k0_pay17]
  simp only [← hy]

theorem pay24_at (h : FVec Ideal S256x1024 .bf16) (y : Vec Ideal S1024x512 .bf16) (r : Fin 256) (l : Fin 512) :
    k0_pay30 (k0_pay24 h y) (ix2 r l) = (k0_pay18 h y (ix2 r l) * Ideal.ofBits .f32 1040187392#32 : EReal) := by
  pointwise [k0_pay30, k0_pay24, k0_pay18]
theorem pay23_at (h : FVec Ideal S256x1024 .bf16) (y : Vec Ideal S1024x512 .bf16) (r : Fin 256) (l : Fin 512) :
    k0_pay5 (k0_pay23 h y) (ix2 r l) = (k0_pay18 h y (ix2 r l) * logistic (k0_pay18 h y (ix2 r l)) : EReal) := by
  unfold logistic
  rw [← zero_sub]
  pointwise [k0_pay5, k0_pay23, k0_pay18]
theorem pay27_at (h : FVec Ideal S256x1024 .bf16) (y : Vec Ideal S1024x512 .bf16) (r : Fin 256) (l : Fin 512) :
    k0_pay6 (k0_pay27 h y) (ix2 r l) = (k0_pay18 h y (ix2 r l) * logistic (k0_pay18 h y (ix2 r l)) : EReal) := pay23_at h y r l
theorem pay28_at (h : FVec Ideal S256x1024 .bf16) (y : Vec Ideal S1024x2048 .bf16) (b : Vec Ideal S1x2048 .f32) (r : Fin 256) (l : Fin 2048) :
    k0_pay7 (k0_pay28 h y b) (ix2 r l) = logistic ((∑ j : Fin 1024, (h (ix2 r j) : EReal) * (y (ix2 j l) : EReal)) + b (ix2 0 l)) := by
  unfold logistic
  rw [← zero_sub]
  pointwise [k0_pay7, k0_pay28]

/-! ## The values -/

section values
variable (x : Vec Ideal S256x1024 .f32) (ng : Vec Ideal S1x1024 .f32) (w : Vec Ideal S1024x6144 .bf16) (r : Fin 256)

theorem hid_at (j : Fin 1024) : hid x ng (ix2 r j) = hidden (rowX x r) (rowG ng) j := by
  unfold hid
  rw [View.ld_unit_lit (S := S256x1024) _ x (fun a => by fin_cases a <;> rfl), View.ld_unit_lit (S := S1x1024) _ ng (fun a => by fin_cases a <;> rfl)]
  exact pay8_at ..

/-- The product of the normed rows and 512 columns of the weight. -/
theorem product_at (o : ℕ) (inb) (ho : o + 512 ≤ 6144) (l : Fin 512) :
    (∑ j : Fin 1024, (hid (F := Ideal) x ng (ix2 r j) : EReal) * (View.ld (Val := Elt Ideal) w (Rect.unit (s := S1024x6144) ![0, o] S1024x512.size inb) (ix2 j l) : EReal))
      = lanes (rowX x r) (rowG ng) (matW w) o ho l := by
  unfold lanes lane
  refine Finset.sum_congr rfl fun j _ => ?_
  rw [hid_at, ld_cols w o inb ho]
  rfl

theorem va_at (l : Fin 512) : va x ng w (ix2 r l) = lanes (rowX x r) (rowG ng) (matW w) 1024 (by decide) l :=
  (pay18_at ..).trans (product_at x ng w r 1024 _ _ l)
theorem kb_at (l : Fin 512) : kb x ng w (ix2 r l) = lanes (rowX x r) (rowG ng) (matW w) 2560 (by decide) l :=
  (pay18_at ..).trans (product_at x ng w r 2560 _ _ l)
theorem vb_at (l : Fin 512) : vb x ng w (ix2 r l) = lanes (rowX x r) (rowG ng) (matW w) 3072 (by decide) l :=
  (pay18_at ..).trans (product_at x ng w r 3072 _ _ l)

variable (qg kg : Vec Ideal S1x512 .f32) (cs s1 s2 : Vec Ideal S256x128 .f32) (sg : Vec Ideal S256x256 .bf16) (g : Fin 64 → EReal) (cS sN : Fin 8 → EReal)

/-- The two tables of a row hold the rotation, and the marking matrix marks each head. -/
structure Tables : Prop where
  cos : ∀ l : Fin 128, cs (ix2 r l) = table cS cS 1 l.val
  below : ∀ l : Fin 128, s1 (ix2 r l) = table (fun e => -sN e) (fun _ => 0) 0 l.val
  above : ∀ l : Fin 128, s2 (ix2 r l) = table (fun _ => 0) sN 0 l.val
  marks : ∀ l k : Fin 256, sg (ix2 l k) = (if l.val / 64 = k.val / 64 then 1 else 0 : EReal)

variable (T : Tables r cs s1 s2 sg cS sN)
include T

theorem ka_at (hg : ∀ l : Fin 512, kg (ix2 0 l) = g ⟨l.val % 64, by omega⟩) (l : Fin 512) :
    ka x ng w kg cs s1 s2 sg (ix2 r l) = heads (rowX x r) (rowG ng) (matW w) g cS sN 512 (by decide) l := by
  unfold ka
  rw [View.ld_unit_lit (S := S256x128) _ cs (fun a => by fin_cases a <;> rfl), View.ld_unit_lit (S := S256x128) _ s1 (fun a => by fin_cases a <;> rfl),
    View.ld_unit_lit (S := S256x128) _ s2 (fun a => by fin_cases a <;> rfl), View.ld_unit_lit (S := S256x256) _ sg (fun a => by fin_cases a <;> rfl),
    View.ld_unit_lit (S := S1x512) _ kg (fun a => by fin_cases a <;> rfl)]
  have hu : ∀ l, k0_pay18 (hid x ng) (View.ld w rKa) (ix2 r l) = lanes (rowX x r) (rowG ng) (matW w) 512 (by decide) l :=
    fun l => (pay18_at ..).trans (product_at x ng w r 512 _ _ l)
  refine (pay21_at _ _ _ _ _ _ r l (headNorm (lanes (rowX x r) (rowG ng) (matW w) 512 (by decide)) g) fun j => ?_).trans ?_
  · rw [pay20_at]
    simp only [hu, T.marks, mean_of_halves]
    rw [show k0_pay19 kg (ix2 0 j) = g ⟨j.val % 64, by omega⟩ from (by pointwise [k0_pay19]; exact hg j)]
    rfl
  · rw [pay9_at cs r _ _ _ T.cos, pay10_at s1 r _ _ _ T.below, pay11_at s2 r _ _ _ T.above]
    exact rope_of_tables ..

theorem qa_at (hg : ∀ l : Fin 512, qg (ix2 0 l) = g ⟨l.val % 64, by omega⟩) (l : Fin 512) :
    qa x ng w qg cs s1 s2 sg (ix2 r l)
      = (heads (rowX x r) (rowG ng) (matW w) g cS sN 0 (by decide) l * Ideal.ofBits .f32 1040187392#32 : EReal) := by
  unfold qa
  rw [View.ld_unit_lit (S := S256x128) _ cs (fun a => by fin_cases a <;> rfl), View.ld_unit_lit (S := S256x128) _ s1 (fun a => by fin_cases a <;> rfl),
    View.ld_unit_lit (S := S256x128) _ s2 (fun a => by fin_cases a <;> rfl), View.ld_unit_lit (S := S256x256) _ sg (fun a => by fin_cases a <;> rfl),
    View.ld_unit_lit (S := S1x512) _ qg (fun a => by fin_cases a <;> rfl)]
  have hu : ∀ l, k0_pay12 (View.ld x rX) (View.ld ng rNg) (View.ld w rQa) (ix2 r l) = lanes (rowX x r) (rowG ng) (matW w) 0 (by decide) l :=
    fun l => (pay12_at ..).trans (product_at x ng w r 0 _ _ l)
  refine (pay17_at _ _ _ _ _ _ _ _ r l (headNorm (lanes (rowX x r) (rowG ng) (matW w) 0 (by decide)) g) fun j => ?_).trans ?_
  · simp only [pay15_at, pay16_at, hu, T.marks, mean_of_halves]
    rw [show k0_pay13 qg (ix2 0 j) = g ⟨j.val % 64, by omega⟩ from (by pointwise [k0_pay13]; exact hg j)]
    rfl
  · rw [pay9_at cs r _ _ _ T.cos, pay10_at s1 r _ _ _ T.below, pay11_at s2 r _ _ _ T.above, rope_of_tables]
    rfl

end values

/-! ## The results' buffers -/

theorem slabs_at (p q : Vec Ideal S1x1x512x256 .f32) (l : Fin 512) (r : Fin 256) (v : EReal) (hp : p (ix4 0 0 l r) = v) (hq : q (ix4 0 0 l r) = v) (z : Fin 2) :
    View.canon ([⟨rSlab1, p⟩, ⟨rSlab0, q⟩] : List (View.Piece (Elt Ideal) S2x1x512x256 .f32)) (ix4 z 0 l r) = v := by
  refine View.canon_eq_of_allAt _ _ _ (cover_slabs p q _)
    (View.allAt_cons_unit _ _ _ _ _ (fun x hx => ?_) (View.allAt_cons_unit _ _ _ _ _ (fun x hx => ?_) (View.allAt_nil _ _)))
  all_goals
    have h0 : x 0 = (0 : Fin 1) := Fin.ext (by have : (x 0).val < 1 := (x 0).isLt; change (x 0).val = 0; omega)
    have h1 : x 1 = (0 : Fin 1) := Fin.ext (by have : (x 1).val < 1 := (x 1).isLt; change (x 1).val = 0; omega)
    have h2 : x 2 = l := Fin.ext (by have := hx 2; change l.val = 0 + (x 2).val at this; omega)
    have h3 : x 3 = r := Fin.ext (by have := hx 3; change r.val = 0 + (x 3).val at this; omega)
    rw [ValueIdx.eq_ix4 x, h0, h1, h2, h3]
  · exact hp
  · exact hq

section results
variable (x : Vec Ideal S256x1024 .f32) (ng : Vec Ideal S1x1024 .f32) (w : Vec Ideal S1024x6144 .bf16) (r : Fin 256)

theorem vaOut_at (l : Fin 512) : vaOut x ng w (ix2 r l) = lanes (rowX x r) (rowG ng) (matW w) 1024 (by decide) l := by
  unfold vaOut
  rw [View.canon_cons_unit_lit (S := S256x512) _ _ _ (fun a => by fin_cases a <;> rfl)]
  exact va_at ..
theorem vbOut_at (l : Fin 512) : vbOut x ng w (ix2 r l) = lanes (rowX x r) (rowG ng) (matW w) 3072 (by decide) l := by
  unfold vbOut
  rw [View.canon_cons_unit_lit (S := S256x512) _ _ _ (fun a => by fin_cases a <;> rfl)]
  exact vb_at ..
theorem kbOut_at (l : Fin 512) : kbOut x ng w (ix3 0 l r) = lanes (rowX x r) (rowG ng) (matW w) 2560 (by decide) l := by
  unfold kbOut
  rw [View.canon_cons_unit_lit (S := S1x512x256) _ _ _ (fun a => by fin_cases a <;> rfl)]
  pointwise [k0_pay36, k0_pay34]
  exact kb_at ..
theorem qbOut_at (l : Fin 512) :
    qbOut x ng w (ix2 r l) = (lanes (rowX x r) (rowG ng) (matW w) 2048 (by decide) l * Ideal.ofBits .f32 1040187392#32 : EReal) := by
  unfold qbOut
  rw [View.canon_cons_unit_lit (S := S256x512) _ _ _ (fun a => by fin_cases a <;> rfl)]
  rw [pay24_at, pay18_at, product_at x ng w r 2048 _ (by decide) l]
theorem gateA_at (l : Fin 512) :
    gateA x ng w (ix2 r l) = (lanes (rowX x r) (rowG ng) (matW w) 1536 (by decide) l * logistic (lanes (rowX x r) (rowG ng) (matW w) 1536 (by decide) l) : EReal) := by
  unfold gateA
  rw [View.canon_cons_unit_lit (S := S256x512) _ _ _ (fun a => by fin_cases a <;> rfl)]
  rw [pay23_at, pay18_at, product_at x ng w r 1536 _ (by decide) l]
theorem gateB_at (l : Fin 512) :
    gateB x ng w (ix2 r l) = (lanes (rowX x r) (rowG ng) (matW w) 3584 (by decide) l * logistic (lanes (rowX x r) (rowG ng) (matW w) 3584 (by decide) l) : EReal) := by
  unfold gateB
  rw [View.canon_cons_unit_lit (S := S256x512) _ _ _ (fun a => by fin_cases a <;> rfl)]
  rw [pay27_at, pay18_at, product_at x ng w r 3584 _ (by decide) l]
theorem gateM_at (bg : Vec Ideal S1x2048 .f32) (k : Fin 2048) :
    gateM x ng w bg (ix2 r k) = logistic (lane (rowX x r) (rowG ng) (matW w) ⟨4096 + k.val, by omega⟩ + bg (ix2 0 k)) := by
  unfold gateM
  rw [View.canon_cons_unit_lit (S := S256x2048) _ _ _ (fun a => by fin_cases a <;> rfl), View.ld_unit_lit (S := S1x2048) _ bg (fun a => by fin_cases a <;> rfl)]
  rw [pay28_at]
  simp only [hid_at, ld_cols' w 4096 _ (by decide)]
  rfl
theorem vaSlabs_at (z : Fin 2) (l : Fin 512) : vaSlabs x ng w (ix4 z 0 l r) = lanes (rowX x r) (rowG ng) (matW w) 1024 (by decide) l := by
  refine slabs_at _ _ l r _ ?_ ?_ z
  · pointwise [k0_pay42, k0_pay37]
    exact va_at ..
  · pointwise [k0_pay41, k0_pay37]
    exact va_at ..
theorem kbSlabs_at (z : Fin 2) (l : Fin 512) : kbSlabs x ng w (ix4 z 0 l r) = lanes (rowX x r) (rowG ng) (matW w) 2560 (by decide) l := by
  refine slabs_at _ _ l r _ ?_ ?_ z
  · pointwise [k0_pay1, k0_pay34]
    exact kb_at ..
  · pointwise [k0_pay43, k0_pay34]
    exact kb_at ..
theorem vbSlabs_at (z : Fin 2) (l : Fin 512) : vbSlabs x ng w (ix4 z 0 l r) = lanes (rowX x r) (rowG ng) (matW w) 3072 (by decide) l := by
  refine slabs_at _ _ l r _ ?_ ?_ z
  · pointwise [k0_pay3, k0_pay38]
    exact vb_at ..
  · pointwise [k0_pay2, k0_pay38]
    exact vb_at ..

variable (qg kg : Vec Ideal S1x512 .f32) (cs s1 s2 : Vec Ideal S256x128 .f32) (sg : Vec Ideal S256x256 .bf16) (g : Fin 64 → EReal) (cS sN : Fin 8 → EReal)

theorem qaOut_at (T : Tables r cs s1 s2 sg cS sN) (hg : ∀ l : Fin 512, qg (ix2 0 l) = g ⟨l.val % 64, by omega⟩) (l : Fin 512) :
    qaOut x ng w qg cs s1 s2 sg (ix2 r l)
      = (heads (rowX x r) (rowG ng) (matW w) g cS sN 0 (by decide) l * Ideal.ofBits .f32 1040187392#32 : EReal) := by
  unfold qaOut
  rw [View.canon_cons_unit_lit (S := S256x512) _ _ _ (fun a => by fin_cases a <;> rfl)]
  exact qa_at x ng w r qg cs s1 s2 sg g cS sN T hg l
theorem kaOut_at (T : Tables r cs s1 s2 sg cS sN) (hg : ∀ l : Fin 512, kg (ix2 0 l) = g ⟨l.val % 64, by omega⟩) (l : Fin 512) :
    kaOut x ng w kg cs s1 s2 sg (ix3 0 l r) = heads (rowX x r) (rowG ng) (matW w) g cS sN 512 (by decide) l := by
  unfold kaOut
  rw [View.canon_cons_unit_lit (S := S1x512x256) _ _ _ (fun a => by fin_cases a <;> rfl)]
  pointwise [k0_pay35, k0_pay33]
  exact ka_at x ng w r kg cs s1 s2 sg g cS sN T hg l
theorem kaSlabs_at (T : Tables r cs s1 s2 sg cS sN) (hg : ∀ l : Fin 512, kg (ix2 0 l) = g ⟨l.val % 64, by omega⟩) (z : Fin 2) (l : Fin 512) :
    kaSlabs x ng w kg cs s1 s2 sg (ix4 z 0 l r) = heads (rowX x r) (rowG ng) (matW w) g cS sN 512 (by decide) l := by
  refine slabs_at _ _ l r _ ?_ ?_ z
  · pointwise [k0_pay40, k0_pay33]
    exact ka_at x ng w r kg cs s1 s2 sg g cS sN T hg l
  · pointwise [k0_pay39, k0_pay33]
    exact ka_at x ng w r kg cs s1 s2 sg g cS sN T hg l
theorem kmeanOut_at (cS sN : Fin 256 → Fin 8 → EReal) (T : ∀ r, Tables r cs s1 s2 sg (cS r) (sN r))
    (hg : ∀ l : Fin 512, kg (ix2 0 l) = g ⟨l.val % 64, by omega⟩) (l : Fin 512) :
    kmeanOut x ng w kg cs s1 s2 sg (ix3 0 0 l)
      = Ideal.div (∑ r : Fin 256, heads (rowX x r) (rowG ng) (matW w) g (cS r) (sN r) 512 (by decide) l) (Ideal.ofBits .f32 1132462080#32) := by
  unfold kmeanOut
  rw [View.canon_cons_unit_lit (S := S1x1x512) _ _ _ (fun a => by fin_cases a <;> rfl)]
  pointwise [k0_pay4]
  simp only [fun r => ka_at x ng w r kg cs s1 s2 sg g (cS r) (sN r) (T r) hg l]

end results

end Cert.Proof.Proj
-- ==== Proof.Proj.Value.lean ====
/-
  The projection's kernel over the extended reals: each result as an array of the argument arrays.
-/
module

public import proofs.«01_k».proof.Proof.Proj.Host
public import proofs.«01_k».proof.Proof.Proj.Block

@[expose] public section

noncomputable section

namespace Cert.Proof.Proj

open Cert.Kernel2Ideal Cert.Kernel2Ideal.Gen Idealize.ShloMosaic Idealize.ShloMosaic.Pointwise Idealize.ShloMosaic.TcCoe Idealize.SL.Sem Finset

variable (m : (ℓ : Loc nD τ sig) → Buf (Elt Ideal) ℓ) (c : Dev nD)

/-! ## Blocks -/

theorem index_0 : ∀ t : Fin cfg0.N, win0_0.index t = ![t.val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![0, 0] := (by decide +kernel : ∀ t : Fin grid0.N, _)
theorem index_3 : ∀ t : Fin cfg0.N, win0_3.index t = ![0, 0] := (by decide +kernel : ∀ t : Fin grid0.N, _)
theorem index_4 : ∀ t : Fin cfg0.N, win0_4.index t = ![0, 0] := (by decide +kernel : ∀ t : Fin grid0.N, _)
theorem index_5 : ∀ t : Fin cfg0.N, win0_5.index t = ![0, 0] := (by decide +kernel : ∀ t : Fin grid0.N, _)
theorem index_6 : ∀ t : Fin cfg0.N, win0_6.index t = ![t.val % 16, 0] := (by decide +kernel : ∀ t : Fin grid0.N, _)
theorem index_7 : ∀ t : Fin cfg0.N, win0_7.index t = ![t.val % 16, 0] := (by decide +kernel : ∀ t : Fin grid0.N, _)
theorem index_8 : ∀ t : Fin cfg0.N, win0_8.index t = ![t.val % 16, 0] := (by decide +kernel : ∀ t : Fin grid0.N, _)
theorem index_9 : ∀ t : Fin cfg0.N, win0_9.index t = ![0, 0] := (by decide +kernel : ∀ t : Fin grid0.N, _)
theorem index_10 : ∀ t : Fin cfg0.N, win0_10.index t = ![t.val, 0] := (by decide +kernel : ∀ t : Fin grid0.N, _)
theorem index_11 : ∀ t : Fin cfg0.N, win0_11.index t = ![t.val, 0, 0] := (by decide +kernel : ∀ t : Fin grid0.N, _)
theorem index_12 : ∀ t : Fin cfg0.N, win0_12.index t = ![t.val, 0] := (by decide +kernel : ∀ t : Fin grid0.N, _)
theorem index_13 : ∀ t : Fin cfg0.N, win0_13.index t = ![t.val, 0] := (by decide +kernel : ∀ t : Fin grid0.N, _)
theorem index_14 : ∀ t : Fin cfg0.N, win0_14.index t = ![t.val, 0, 0] := (by decide +kernel : ∀ t : Fin grid0.N, _)
theorem index_15 : ∀ t : Fin cfg0.N, win0_15.index t = ![t.val, 0] := (by decide +kernel : ∀ t : Fin grid0.N, _)
theorem index_16 : ∀ t : Fin cfg0.N, win0_16.index t = ![0, t.val / 16, 0, t.val % 16] := (by decide +kernel : ∀ t : Fin grid0.N, _)
theorem index_17 : ∀ t : Fin cfg0.N, win0_17.index t = ![0, t.val / 16, 0, t.val % 16] := (by decide +kernel : ∀ t : Fin grid0.N, _)
theorem index_18 : ∀ t : Fin cfg0.N, win0_18.index t = ![0, t.val / 16, 0, t.val % 16] := (by decide +kernel : ∀ t : Fin grid0.N, _)
theorem index_19 : ∀ t : Fin cfg0.N, win0_19.index t = ![0, t.val / 16, 0, t.val % 16] := (by decide +kernel : ∀ t : Fin grid0.N, _)
theorem index_20 : ∀ t : Fin cfg0.N, win0_20.index t = ![t.val, 0] := (by decide +kernel : ∀ t : Fin grid0.N, _)
theorem index_21 : ∀ t : Fin cfg0.N, win0_21.index t = ![t.val, 0] := (by decide +kernel : ∀ t : Fin grid0.N, _)
theorem index_22 : ∀ t : Fin cfg0.N, win0_22.index t = ![t.val, 0] := (by decide +kernel : ∀ t : Fin grid0.N, _)
theorem index_23 : ∀ t : Fin cfg0.N, win0_23.index t = ![t.val, 0, 0] := (by decide +kernel : ∀ t : Fin grid0.N, _)

/-- Row `r` of block `t`: among all batches' rows, its batch, and its position there. -/
def rowAll (t : Fin cfg0.N) (r : Fin 256) : Fin 16384 := ⟨256 * t.val + r.val, by have : t.val < 64 := t.isLt; omega⟩
def batchOf (t : Fin cfg0.N) : Fin 4 := ⟨t.val / 16, by have : t.val < 64 := t.isLt; omega⟩
def posOf (t : Fin cfg0.N) (r : Fin 256) : Fin 4096 := ⟨t.val % 16 * 256 + r.val, by omega⟩
def blockOf (t : Fin cfg0.N) : Fin 64 := t

theorem batch_eq (t : Fin cfg0.N) (r : Fin 256) : (⟨(rowAll t r).val / 4096, by omega⟩ : Fin 4) = batchOf t :=
  Fin.ext (by simp only [rowAll, batchOf]; omega)
theorem pos_eq (t : Fin cfg0.N) (r : Fin 256) : (⟨(rowAll t r).val % 4096, by omega⟩ : Fin 4096) = posOf t r :=
  Fin.ext (by simp only [rowAll, posOf]; omega)

theorem iblk_0 (t : Fin cfg0.N) (r : Fin 256) (d : Fin 1024) : iblk m c 0 t (ix2 r d) = V m c main_v52 (ix2 (rowAll t r) d) := by
  blk_simp [iblk]
  refine congrArg (V m c main_v52) ?_
  blk_ext [index_0 t, rowAll]
theorem iblk_1 (t : Fin cfg0.N) (r : Fin 1) (d : Fin 1024) : iblk m c 1 t (ix2 r d) = V m c main_v41 (ix2 r d) := by
  blk_simp [iblk]
  refine congrArg (V m c main_v41) ?_
  blk_ext [index_1 t]
theorem iblk_2 (t : Fin cfg0.N) (r : Fin 1024) (d : Fin 6144) : iblk m c 2 t (ix2 r d) = V m c main_v42 (ix2 r d) := by
  blk_simp [iblk]
  refine congrArg (V m c main_v42) ?_
  blk_ext [index_2 t]
theorem iblk_3 (t : Fin cfg0.N) (r : Fin 1) (d : Fin 2048) : iblk m c 3 t (ix2 r d) = V m c main_v43 (ix2 r d) := by
  blk_simp [iblk]
  refine congrArg (V m c main_v43) ?_
  blk_ext [index_3 t]
theorem iblk_4 (t : Fin cfg0.N) (r : Fin 1) (d : Fin 512) : iblk m c 4 t (ix2 r d) = V m c main_v47 (ix2 r d) := by
  blk_simp [iblk]
  refine congrArg (V m c main_v47) ?_
  blk_ext [index_4 t]
theorem iblk_5 (t : Fin cfg0.N) (r : Fin 1) (d : Fin 512) : iblk m c 5 t (ix2 r d) = V m c main_v51 (ix2 r d) := by
  blk_simp [iblk]
  refine congrArg (V m c main_v51) ?_
  blk_ext [index_5 t]
theorem iblk_6 (t : Fin cfg0.N) (r : Fin 256) (d : Fin 128) : iblk m c 6 t (ix2 r d) = V m c main_v34 (ix2 (posOf t r) d) := by
  blk_simp [iblk]
  refine congrArg (V m c main_v34) ?_
  blk_ext [index_6 t, posOf]
theorem iblk_7 (t : Fin cfg0.N) (r : Fin 256) (d : Fin 128) : iblk m c 7 t (ix2 r d) = V m c main_v37 (ix2 (posOf t r) d) := by
  blk_simp [iblk]
  refine congrArg (V m c main_v37) ?_
  blk_ext [index_7 t, posOf]
theorem iblk_8 (t : Fin cfg0.N) (r : Fin 256) (d : Fin 128) : iblk m c 8 t (ix2 r d) = V m c main_v40 (ix2 (posOf t r) d) := by
  blk_simp [iblk]
  refine congrArg (V m c main_v40) ?_
  blk_ext [index_8 t, posOf]
theorem iblk_9 (t : Fin cfg0.N) (r : Fin 256) (d : Fin 256) : iblk m c 9 t (ix2 r d) = V m c main_v7 (ix2 r d) := by
  blk_simp [iblk]
  refine congrArg (V m c main_v7) ?_
  blk_ext [index_9 t]

theorem rowX_in (t : Fin cfg0.N) (r : Fin 256) : rowX (iblk m c 0 t) r = rowOf (m (c.tc.loc main_arg0)) (batchOf t) (posOf t r) := by
  funext k
  refine ((iblk_0 m c t r k).trans (x_at ..)).trans ?_
  rw [batch_eq, pos_eq]
  rfl
theorem rowG_in (t : Fin cfg0.N) : rowG (iblk m c 1 t) = vecOf (m (c.tc.loc main_arg1)) := funext fun k => (iblk_1 m c t 0 k).trans (ng_at ..)
theorem matW_in (t : Fin cfg0.N) : matW (iblk m c 2 t) = matOf (m (c.tc.loc main_arg2)) := funext fun j => funext fun k => (iblk_2 m c t j k).trans (w_at ..)
theorem bg_in (t : Fin cfg0.N) (k : Fin 2048) : iblk m c 3 t (ix2 0 k) = ((m (c.tc.loc main_arg3)) (ix1 k) : EReal) := (iblk_3 m c t 0 k).trans (bg_at ..)
theorem qg_in (t : Fin cfg0.N) (l : Fin 512) : iblk m c 4 t (ix2 0 l) = vecOf (m (c.tc.loc main_arg4)) ⟨l.val % 64, by omega⟩ := (iblk_4 m c t 0 l).trans (qg_at ..)
theorem kg_in (t : Fin cfg0.N) (l : Fin 512) : iblk m c 5 t (ix2 0 l) = vecOf (m (c.tc.loc main_arg5)) ⟨l.val % 64, by omega⟩ := (iblk_5 m c t 0 l).trans (kg_at ..)
theorem tables_in (t : Fin cfg0.N) (r : Fin 256) :
    Tables r (iblk m c 6 t) (iblk m c 7 t) (iblk m c 8 t) (iblk m c 9 t) (cosOf (posOf t r)) (sinOf (posOf t r)) where
  cos l := (iblk_6 m c t r l).trans (cos_at ..)
  below l := (iblk_7 m c t r l).trans (below_at ..)
  above l := (iblk_8 m c t r l).trans (above_at ..)
  marks l k := (iblk_9 m c t l k).trans (marks_at ..)

theorem rowsArr_at {n : ℕ} (f : Fin 4 → Fin 4096 → Fin n → EReal) (t : Fin cfg0.N) (r : Fin 256) (l : Fin n) :
    rowsArr f (ix2 (rowAll t r) l) = f (batchOf t) (posOf t r) l := by
  rw [← batch_eq t r, ← pos_eq t r]
  rfl

/-! ## The results -/

theorem array_10 : (dats m 0 c).arrAt 10 cfg0.N = rowsArr fun b t l => headAt (m (c.tc.loc main_arg0)) (m (c.tc.loc main_arg1)) (m (c.tc.loc main_arg2)) (m (c.tc.loc main_arg4)) 0 (by decide) b t l * Ideal.ofBits .f32 1040187392#32 := by
  refine (dats m 0 c).arrAt_eq_of_covers 10 _ (by decide +kernel) fun t hf y => ?_
  blk_simp
  rw [after_10]
  obtain ⟨r, hr⟩ : ∃ r : Fin 256, y 0 = r := ⟨_, rfl⟩
  obtain ⟨l, hl⟩ : ∃ l : Fin 512, y 1 = l := ⟨_, rfl⟩
  have hy : y = ix2 r l := (ValueIdx.eq_ix2 y).trans (by rw [hr, hl]; rfl)
  rw [hy]
  refine (qaOut_at (iblk m c 0 t) (iblk m c 1 t) (iblk m c 2 t) r (iblk m c 4 t) (iblk m c 6 t) (iblk m c 7 t) (iblk m c 8 t) (iblk m c 9 t) _ _ _ (tables_in m c t r) (qg_in m c t) l).trans ?_
  simp only [rowX_in, rowG_in, matW_in]
  refine Eq.trans ?_ (congrArg (rowsArr fun b t l => headAt (m (c.tc.loc main_arg0)) (m (c.tc.loc main_arg1)) (m (c.tc.loc main_arg2)) (m (c.tc.loc main_arg4)) 0 (by decide) b t l * Ideal.ofBits .f32 1040187392#32) (?_ : ix2 (rowAll t r) l = _))
  · rw [rowsArr_at]
    rfl
  · blk_ext [index_10 t, rowAll]
theorem array_11 : (dats m 0 c).arrAt 11 cfg0.N = blocksArr (headAt (m (c.tc.loc main_arg0)) (m (c.tc.loc main_arg1)) (m (c.tc.loc main_arg2)) (m (c.tc.loc main_arg5)) 512 (by decide)) := by
  refine (dats m 0 c).arrAt_eq_of_covers 11 _ (by decide +kernel) fun t hf y => ?_
  blk_simp
  rw [after_11]
  obtain ⟨z, hz⟩ : ∃ z : Fin 1, y 0 = z := ⟨_, rfl⟩
  obtain ⟨l, hl⟩ : ∃ l : Fin 512, y 1 = l := ⟨_, rfl⟩
  obtain ⟨r, hr⟩ : ∃ r : Fin 256, y 2 = r := ⟨_, rfl⟩
  obtain rfl : z = 0 := Fin.ext (by omega)
  have hy : y = ix3 0 l r := (ValueIdx.eq_ix3 y).trans (by rw [hz, hl, hr]; rfl)
  rw [hy]
  refine (kaOut_at (iblk m c 0 t) (iblk m c 1 t) (iblk m c 2 t) r (iblk m c 5 t) (iblk m c 6 t) (iblk m c 7 t) (iblk m c 8 t) (iblk m c 9 t) _ _ _ (tables_in m c t r) (kg_in m c t) l).trans ?_
  simp only [rowX_in, rowG_in, matW_in]
  refine Eq.trans ?_ (congrArg (blocksArr (headAt (m (c.tc.loc main_arg0)) (m (c.tc.loc main_arg1)) (m (c.tc.loc main_arg2)) (m (c.tc.loc main_arg5)) 512 (by decide))) (?_ : ix3 (blockOf t) l r = _))
  · rfl
  · blk_ext [index_11 t, blockOf]
theorem array_12 : (dats m 0 c).arrAt 12 cfg0.N = rowsArr (laneAt (m (c.tc.loc main_arg0)) (m (c.tc.loc main_arg1)) (m (c.tc.loc main_arg2)) 1024 (by decide)) := by
  refine (dats m 0 c).arrAt_eq_of_covers 12 _ (by decide +kernel) fun t hf y => ?_
  blk_simp
  rw [after_12]
  obtain ⟨r, hr⟩ : ∃ r : Fin 256, y 0 = r := ⟨_, rfl⟩
  obtain ⟨l, hl⟩ : ∃ l : Fin 512, y 1 = l := ⟨_, rfl⟩
  have hy : y = ix2 r l := (ValueIdx.eq_ix2 y).trans (by rw [hr, hl]; rfl)
  rw [hy]
  refine (vaOut_at (iblk m c 0 t) (iblk m c 1 t) (iblk m c 2 t) r l).trans ?_
  simp only [rowX_in, rowG_in, matW_in]
  refine Eq.trans ?_ (congrArg (rowsArr (laneAt (m (c.tc.loc main_arg0)) (m (c.tc.loc main_arg1)) (m (c.tc.loc main_arg2)) 1024 (by decide))) (?_ : ix2 (rowAll t r) l = _))
  · rw [rowsArr_at]
    rfl
  · blk_ext [index_12 t, rowAll]
theorem array_13 : (dats m 0 c).arrAt 13 cfg0.N = rowsArr fun b t l => laneAt (m (c.tc.loc main_arg0)) (m (c.tc.loc main_arg1)) (m (c.tc.loc main_arg2)) 2048 (by decide) b t l * Ideal.ofBits .f32 1040187392#32 := by
  refine (dats m 0 c).arrAt_eq_of_covers 13 _ (by decide +kernel) fun t hf y => ?_
  blk_simp
  rw [after_13]
  obtain ⟨r, hr⟩ : ∃ r : Fin 256, y 0 = r := ⟨_, rfl⟩
  obtain ⟨l, hl⟩ : ∃ l : Fin 512, y 1 = l := ⟨_, rfl⟩
  have hy : y = ix2 r l := (ValueIdx.eq_ix2 y).trans (by rw [hr, hl]; rfl)
  rw [hy]
  refine (qbOut_at (iblk m c 0 t) (iblk m c 1 t) (iblk m c 2 t) r l).trans ?_
  simp only [rowX_in, rowG_in, matW_in]
  refine Eq.trans ?_ (congrArg (rowsArr fun b t l => laneAt (m (c.tc.loc main_arg0)) (m (c.tc.loc main_arg1)) (m (c.tc.loc main_arg2)) 2048 (by decide) b t l * Ideal.ofBits .f32 1040187392#32) (?_ : ix2 (rowAll t r) l = _))
  · rw [rowsArr_at]
    rfl
  · blk_ext [index_13 t, rowAll]
theorem array_14 : (dats m 0 c).arrAt 14 cfg0.N = blocksArr (laneAt (m (c.tc.loc main_arg0)) (m (c.tc.loc main_arg1)) (m (c.tc.loc main_arg2)) 2560 (by decide)) := by
  refine (dats m 0 c).arrAt_eq_of_covers 14 _ (by decide +kernel) fun t hf y => ?_
  blk_simp
  rw [after_14]
  obtain ⟨z, hz⟩ : ∃ z : Fin 1, y 0 = z := ⟨_, rfl⟩
  obtain ⟨l, hl⟩ : ∃ l : Fin 512, y 1 = l := ⟨_, rfl⟩
  obtain ⟨r, hr⟩ : ∃ r : Fin 256, y 2 = r := ⟨_, rfl⟩
  obtain rfl : z = 0 := Fin.ext (by omega)
  have hy : y = ix3 0 l r := (ValueIdx.eq_ix3 y).trans (by rw [hz, hl, hr]; rfl)
  rw [hy]
  refine (kbOut_at (iblk m c 0 t) (iblk m c 1 t) (iblk m c 2 t) r l).trans ?_
  simp only [rowX_in, rowG_in, matW_in]
  refine Eq.trans ?_ (congrArg (blocksArr (laneAt (m (c.tc.loc main_arg0)) (m (c.tc.loc main_arg1)) (m (c.tc.loc main_arg2)) 2560 (by decide))) (?_ : ix3 (blockOf t) l r = _))
  · rfl
  · blk_ext [index_14 t, blockOf]
theorem array_15 : (dats m 0 c).arrAt 15 cfg0.N = rowsArr (laneAt (m (c.tc.loc main_arg0)) (m (c.tc.loc main_arg1)) (m (c.tc.loc main_arg2)) 3072 (by decide)) := by
  refine (dats m 0 c).arrAt_eq_of_covers 15 _ (by decide +kernel) fun t hf y => ?_
  blk_simp
  rw [after_15]
  obtain ⟨r, hr⟩ : ∃ r : Fin 256, y 0 = r := ⟨_, rfl⟩
  obtain ⟨l, hl⟩ : ∃ l : Fin 512, y 1 = l := ⟨_, rfl⟩
  have hy : y = ix2 r l := (ValueIdx.eq_ix2 y).trans (by rw [hr, hl]; rfl)
  rw [hy]
  refine (vbOut_at (iblk m c 0 t) (iblk m c 1 t) (iblk m c 2 t) r l).trans ?_
  simp only [rowX_in, rowG_in, matW_in]
  refine Eq.trans ?_ (congrArg (rowsArr (laneAt (m (c.tc.loc main_arg0)) (m (c.tc.loc main_arg1)) (m (c.tc.loc main_arg2)) 3072 (by decide))) (?_ : ix2 (rowAll t r) l = _))
  · rw [rowsArr_at]
    rfl
  · blk_ext [index_15 t, rowAll]
theorem array_16 : (dats m 0 c).arrAt 16 cfg0.N = slabsArr (headAt (m (c.tc.loc main_arg0)) (m (c.tc.loc main_arg1)) (m (c.tc.loc main_arg2)) (m (c.tc.loc main_arg5)) 512 (by decide)) := by
  refine (dats m 0 c).arrAt_eq_of_covers 16 _ (by decide +kernel) fun t hf y => ?_
  blk_simp
  rw [after_16]
  obtain ⟨z, hz⟩ : ∃ z : Fin 2, y 0 = z := ⟨_, rfl⟩
  obtain ⟨u, hu⟩ : ∃ u : Fin 1, y 1 = u := ⟨_, rfl⟩
  obtain ⟨l, hl⟩ : ∃ l : Fin 512, y 2 = l := ⟨_, rfl⟩
  obtain ⟨r, hr⟩ : ∃ r : Fin 256, y 3 = r := ⟨_, rfl⟩
  obtain rfl : u = 0 := Fin.ext (by omega)
  have hy : y = ix4 z 0 l r := (ValueIdx.eq_ix4 y).trans (by rw [hz, hu, hl, hr]; rfl)
  rw [hy]
  refine (kaSlabs_at (iblk m c 0 t) (iblk m c 1 t) (iblk m c 2 t) r (iblk m c 5 t) (iblk m c 6 t) (iblk m c 7 t) (iblk m c 8 t) (iblk m c 9 t) _ _ _ (tables_in m c t r) (kg_in m c t) z l).trans ?_
  simp only [rowX_in, rowG_in, matW_in]
  refine Eq.trans ?_ (congrArg (slabsArr (headAt (m (c.tc.loc main_arg0)) (m (c.tc.loc main_arg1)) (m (c.tc.loc main_arg2)) (m (c.tc.loc main_arg5)) 512 (by decide))) (?_ : ix4 z (batchOf t) l (posOf t r) = _))
  · rfl
  · blk_ext [index_16 t, batchOf, posOf]
theorem array_17 : (dats m 0 c).arrAt 17 cfg0.N = slabsArr (laneAt (m (c.tc.loc main_arg0)) (m (c.tc.loc main_arg1)) (m (c.tc.loc main_arg2)) 1024 (by decide)) := by
  refine (dats m 0 c).arrAt_eq_of_covers 17 _ (by decide +kernel) fun t hf y => ?_
  blk_simp
  rw [after_17]
  obtain ⟨z, hz⟩ : ∃ z : Fin 2, y 0 = z := ⟨_, rfl⟩
  obtain ⟨u, hu⟩ : ∃ u : Fin 1, y 1 = u := ⟨_, rfl⟩
  obtain ⟨l, hl⟩ : ∃ l : Fin 512, y 2 = l := ⟨_, rfl⟩
  obtain ⟨r, hr⟩ : ∃ r : Fin 256, y 3 = r := ⟨_, rfl⟩
  obtain rfl : u = 0 := Fin.ext (by omega)
  have hy : y = ix4 z 0 l r := (ValueIdx.eq_ix4 y).trans (by rw [hz, hu, hl, hr]; rfl)
  rw [hy]
  refine (vaSlabs_at (iblk m c 0 t) (iblk m c 1 t) (iblk m c 2 t) r z l).trans ?_
  simp only [rowX_in, rowG_in, matW_in]
  refine Eq.trans ?_ (congrArg (slabsArr (laneAt (m (c.tc.loc main_arg0)) (m (c.tc.loc main_arg1)) (m (c.tc.loc main_arg2)) 1024 (by decide))) (?_ : ix4 z (batchOf t) l (posOf t r) = _))
  · rfl
  · blk_ext [index_17 t, batchOf, posOf]
theorem array_18 : (dats m 0 c).arrAt 18 cfg0.N = slabsArr (laneAt (m (c.tc.loc main_arg0)) (m (c.tc.loc main_arg1)) (m (c.tc.loc main_arg2)) 2560 (by decide)) := by
  refine (dats m 0 c).arrAt_eq_of_covers 18 _ (by decide +kernel) fun t hf y => ?_
  blk_simp
  rw [after_18]
  obtain ⟨z, hz⟩ : ∃ z : Fin 2, y 0 = z := ⟨_, rfl⟩
  obtain ⟨u, hu⟩ : ∃ u : Fin 1, y 1 = u := ⟨_, rfl⟩
  obtain ⟨l, hl⟩ : ∃ l : Fin 512, y 2 = l := ⟨_, rfl⟩
  obtain ⟨r, hr⟩ : ∃ r : Fin 256, y 3 = r := ⟨_, rfl⟩
  obtain rfl : u = 0 := Fin.ext (by omega)
  have hy : y = ix4 z 0 l r := (ValueIdx.eq_ix4 y).trans (by rw [hz, hu, hl, hr]; rfl)
  rw [hy]
  refine (kbSlabs_at (iblk m c 0 t) (iblk m c 1 t) (iblk m c 2 t) r z l).trans ?_
  simp only [rowX_in, rowG_in, matW_in]
  refine Eq.trans ?_ (congrArg (slabsArr (laneAt (m (c.tc.loc main_arg0)) (m (c.tc.loc main_arg1)) (m (c.tc.loc main_arg2)) 2560 (by decide))) (?_ : ix4 z (batchOf t) l (posOf t r) = _))
  · rfl
  · blk_ext [index_18 t, batchOf, posOf]
theorem array_19 : (dats m 0 c).arrAt 19 cfg0.N = slabsArr (laneAt (m (c.tc.loc main_arg0)) (m (c.tc.loc main_arg1)) (m (c.tc.loc main_arg2)) 3072 (by decide)) := by
  refine (dats m 0 c).arrAt_eq_of_covers 19 _ (by decide +kernel) fun t hf y => ?_
  blk_simp
  rw [after_19]
  obtain ⟨z, hz⟩ : ∃ z : Fin 2, y 0 = z := ⟨_, rfl⟩
  obtain ⟨u, hu⟩ : ∃ u : Fin 1, y 1 = u := ⟨_, rfl⟩
  obtain ⟨l, hl⟩ : ∃ l : Fin 512, y 2 = l := ⟨_, rfl⟩
  obtain ⟨r, hr⟩ : ∃ r : Fin 256, y 3 = r := ⟨_, rfl⟩
  obtain rfl : u = 0 := Fin.ext (by omega)
  have hy : y = ix4 z 0 l r := (ValueIdx.eq_ix4 y).trans (by rw [hz, hu, hl, hr]; rfl)
  rw [hy]
  refine (vbSlabs_at (iblk m c 0 t) (iblk m c 1 t) (iblk m c 2 t) r z l).trans ?_
  simp only [rowX_in, rowG_in, matW_in]
  refine Eq.trans ?_ (congrArg (slabsArr (laneAt (m (c.tc.loc main_arg0)) (m (c.tc.loc main_arg1)) (m (c.tc.loc main_arg2)) 3072 (by decide))) (?_ : ix4 z (batchOf t) l (posOf t r) = _))
  · rfl
  · blk_ext [index_19 t, batchOf, posOf]
theorem array_20 : (dats m 0 c).arrAt 20 cfg0.N = rowsArr fun b t l => laneAt (m (c.tc.loc main_arg0)) (m (c.tc.loc main_arg1)) (m (c.tc.loc main_arg2)) 1536 (by decide) b t l * logistic (laneAt (m (c.tc.loc main_arg0)) (m (c.tc.loc main_arg1)) (m (c.tc.loc main_arg2)) 1536 (by decide) b t l) := by
  refine (dats m 0 c).arrAt_eq_of_covers 20 _ (by decide +kernel) fun t hf y => ?_
  blk_simp
  rw [after_20]
  obtain ⟨r, hr⟩ : ∃ r : Fin 256, y 0 = r := ⟨_, rfl⟩
  obtain ⟨l, hl⟩ : ∃ l : Fin 512, y 1 = l := ⟨_, rfl⟩
  have hy : y = ix2 r l := (ValueIdx.eq_ix2 y).trans (by rw [hr, hl]; rfl)
  rw [hy]
  refine (gateA_at (iblk m c 0 t) (iblk m c 1 t) (iblk m c 2 t) r l).trans ?_
  simp only [rowX_in, rowG_in, matW_in]
  refine Eq.trans ?_ (congrArg (rowsArr fun b t l => laneAt (m (c.tc.loc main_arg0)) (m (c.tc.loc main_arg1)) (m (c.tc.loc main_arg2)) 1536 (by decide) b t l * logistic (laneAt (m (c.tc.loc main_arg0)) (m (c.tc.loc main_arg1)) (m (c.tc.loc main_arg2)) 1536 (by decide) b t l)) (?_ : ix2 (rowAll t r) l = _))
  · rw [rowsArr_at]
    rfl
  · blk_ext [index_20 t, rowAll]
theorem array_21 : (dats m 0 c).arrAt 21 cfg0.N = rowsArr fun b t l => laneAt (m (c.tc.loc main_arg0)) (m (c.tc.loc main_arg1)) (m (c.tc.loc main_arg2)) 3584 (by decide) b t l * logistic (laneAt (m (c.tc.loc main_arg0)) (m (c.tc.loc main_arg1)) (m (c.tc.loc main_arg2)) 3584 (by decide) b t l) := by
  refine (dats m 0 c).arrAt_eq_of_covers 21 _ (by decide +kernel) fun t hf y => ?_
  blk_simp
  rw [after_21]
  obtain ⟨r, hr⟩ : ∃ r : Fin 256, y 0 = r := ⟨_, rfl⟩
  obtain ⟨l, hl⟩ : ∃ l : Fin 512, y 1 = l := ⟨_, rfl⟩
  have hy : y = ix2 r l := (ValueIdx.eq_ix2 y).trans (by rw [hr, hl]; rfl)
  rw [hy]
  refine (gateB_at (iblk m c 0 t) (iblk m c 1 t) (iblk m c 2 t) r l).trans ?_
  simp only [rowX_in, rowG_in, matW_in]
  refine Eq.trans ?_ (congrArg (rowsArr fun b t l => laneAt (m (c.tc.loc main_arg0)) (m (c.tc.loc main_arg1)) (m (c.tc.loc main_arg2)) 3584 (by decide) b t l * logistic (laneAt (m (c.tc.loc main_arg0)) (m (c.tc.loc main_arg1)) (m (c.tc.loc main_arg2)) 3584 (by decide) b t l)) (?_ : ix2 (rowAll t r) l = _))
  · rw [rowsArr_at]
    rfl
  · blk_ext [index_21 t, rowAll]
theorem array_22 : (dats m 0 c).arrAt 22 cfg0.N = rowsArr (gateAt (m (c.tc.loc main_arg0)) (m (c.tc.loc main_arg1)) (m (c.tc.loc main_arg2)) (m (c.tc.loc main_arg3))) := by
  refine (dats m 0 c).arrAt_eq_of_covers 22 _ (by decide +kernel) fun t hf y => ?_
  blk_simp
  rw [after_22]
  obtain ⟨r, hr⟩ : ∃ r : Fin 256, y 0 = r := ⟨_, rfl⟩
  obtain ⟨l, hl⟩ : ∃ l : Fin 2048, y 1 = l := ⟨_, rfl⟩
  have hy : y = ix2 r l := (ValueIdx.eq_ix2 y).trans (by rw [hr, hl]; rfl)
  rw [hy]
  refine (gateM_at (iblk m c 0 t) (iblk m c 1 t) (iblk m c 2 t) r (iblk m c 3 t) l).trans ?_
  simp only [rowX_in, rowG_in, matW_in, bg_in]
  refine Eq.trans ?_ (congrArg (rowsArr (gateAt (m (c.tc.loc main_arg0)) (m (c.tc.loc main_arg1)) (m (c.tc.loc main_arg2)) (m (c.tc.loc main_arg3)))) (?_ : ix2 (rowAll t r) l = _))
  · rw [rowsArr_at]
    rfl
  · blk_ext [index_22 t, rowAll]
theorem array_23 : (dats m 0 c).arrAt 23 cfg0.N = meanArr (headAt (m (c.tc.loc main_arg0)) (m (c.tc.loc main_arg1)) (m (c.tc.loc main_arg2)) (m (c.tc.loc main_arg5)) 512 (by decide)) := by
  refine (dats m 0 c).arrAt_eq_of_covers 23 _ (by decide +kernel) fun t hf y => ?_
  blk_simp
  rw [after_23]
  obtain ⟨z, hz⟩ : ∃ z : Fin 1, y 0 = z := ⟨_, rfl⟩
  obtain ⟨u, hu⟩ : ∃ u : Fin 1, y 1 = u := ⟨_, rfl⟩
  obtain ⟨l, hl⟩ : ∃ l : Fin 512, y 2 = l := ⟨_, rfl⟩
  obtain rfl : z = 0 := Fin.ext (by omega)
  obtain rfl : u = 0 := Fin.ext (by omega)
  have hy : y = ix3 0 0 l := (ValueIdx.eq_ix3 y).trans (by rw [hz, hu, hl]; rfl)
  rw [hy]
  refine (kmeanOut_at (iblk m c 0 t) (iblk m c 1 t) (iblk m c 2 t) (iblk m c 5 t) (iblk m c 6 t) (iblk m c 7 t) (iblk m c 8 t) (iblk m c 9 t) _ _ _ (tables_in m c t) (kg_in m c t) l).trans ?_
  simp only [rowX_in, rowG_in, matW_in]
  refine Eq.trans ?_ (congrArg (meanArr (headAt (m (c.tc.loc main_arg0)) (m (c.tc.loc main_arg1)) (m (c.tc.loc main_arg2)) (m (c.tc.loc main_arg5)) 512 (by decide))) (?_ : ix3 (blockOf t) 0 l = _))
  · rfl
  · blk_ext [index_23 t, blockOf]

end Cert.Proof.Proj
-- ==== Proof.Proj.Layout.lean ====
/-
  How the projection's reference lays out its results, over any arrays.
-/
module

public import proofs.«01_k».proof.Proof.Gen.Reference2Ideal.Run
public import proofs.«01_k».proof.Proof.Proj.Math

@[expose] public section

noncomputable section

namespace Cert.Proof.Proj.Ref

open Cert.Reference2Ideal Cert.Reference2Ideal.Gen Idealize.ShloMosaic Idealize.ShloMosaic.TcCoe Idealize.ShloMosaic.Pointwise Finset

/-- Eight heads of 64 lanes as 512 lanes. -/
def flatOf (v : FVec Ideal S4x4096x8x64 .f32) (b : Fin 4) (t : Fin 4096) (l : Fin 512) : EReal :=
  v (ix4 b t ⟨l.val / 64, by omega⟩ ⟨l.val % 64, by omega⟩)
def laneOf {n : ℕ} (v : FVec Ideal ⟨3, ![4, 4096, n]⟩ .f32) (b : Fin 4) (t : Fin 4096) (l : Fin n) : EReal := v (ix3 b t l)

variable (v : FVec Ideal S4x4096x512 .f32) (h : FVec Ideal S4x4096x8x64 .f32) (u : FVec Ideal S4x4096x6144 .f32) (bg : FVec Ideal S2048 .f32)

theorem rows_eq : (truncf .bf16 (shapeCast S16384x512 v shapeCasts_S4x4096x512_S16384x512) bitsLt_bf16_f32)
    = rowsArr (laneOf v) := by
  funext y
  obtain ⟨a, b, rfl⟩ : ∃ a b, y = ix2 a b := ⟨_, _, ValueIdx.eq_ix2 y⟩
  pointwise
  rfl

theorem rows_scaled_eq : (truncf .bf16 (shapeCast S16384x512 (mulf (extractStridedSlice S4x4096x512 ![0, 0, 2048] u slices_S4x4096x6144_S4x4096x512_0_0_2048) (broadcastInDim S4x4096x512 ![] bcast_S_S4x4096x512 (constant S_ .f32 0x3E000000#32))) shapeCasts_S4x4096x512_S16384x512) bitsLt_bf16_f32)
    = rowsArr fun b t l => laneOf (n := 6144) u b t ⟨2048 + l.val, by omega⟩ * Ideal.ofBits .f32 1040187392#32 := by
  funext y
  obtain ⟨a, b, rfl⟩ : ∃ a b, y = ix2 a b := ⟨_, _, ValueIdx.eq_ix2 y⟩
  pointwise
  rfl

theorem rows_heads_eq : (truncf .bf16 (shapeCast S16384x512 (mulf h (broadcastInDim S4x4096x8x64 ![] bcast_S_S4x4096x8x64 (constant S_ .f32 0x3E000000#32))) shapeCasts_S4x4096x8x64_S16384x512) bitsLt_bf16_f32)
    = rowsArr fun b t l => flatOf h b t l * Ideal.ofBits .f32 1040187392#32 := by
  funext y
  obtain ⟨a, b, rfl⟩ : ∃ a b, y = ix2 a b := ⟨_, _, ValueIdx.eq_ix2 y⟩
  pointwise
  rfl

theorem blocks_eq : (truncf .bf16 (transpose S64x512x256 [0, 2, 1] (shapeCast S64x256x512 v shapeCasts_S4x4096x512_S64x256x512) transposes_S64x256x512_S64x512x256_0_2_1) bitsLt_bf16_f32)
    = blocksArr (laneOf v) := by
  funext y
  obtain ⟨a, b, d, rfl⟩ : ∃ a b d, y = ix3 a b d := ⟨_, _, _, ValueIdx.eq_ix3 y⟩
  pointwise
  rfl

theorem blocks_heads_eq : (truncf .bf16 (transpose S64x512x256 [0, 2, 1] (shapeCast S64x256x512 h shapeCasts_S4x4096x8x64_S64x256x512) transposes_S64x256x512_S64x512x256_0_2_1) bitsLt_bf16_f32)
    = blocksArr (flatOf h) := by
  funext y
  obtain ⟨a, b, d, rfl⟩ : ∃ a b d, y = ix3 a b d := ⟨_, _, _, ValueIdx.eq_ix3 y⟩
  pointwise
  rfl

theorem slabs_eq : (broadcastInDim S2x4x512x4096 ![0, 1, 2, 3] bcast_S1x4x512x4096_S2x4x512x4096_0_1_2_3 (broadcastInDim S1x4x512x4096 ![1, 2, 3] bcast_S4x512x4096_S1x4x512x4096_1_2_3 (transpose S4x512x4096 [0, 2, 1] v transposes_S4x4096x512_S4x512x4096_0_2_1)))
    = slabsArr (laneOf v) := by
  funext y
  obtain ⟨a, b, d, e, rfl⟩ : ∃ a b d e, y = ix4 a b d e := ⟨_, _, _, _, ValueIdx.eq_ix4 y⟩
  pointwise
  rfl

theorem slabs_heads_eq : (broadcastInDim S2x4x512x4096 ![0, 1, 2, 3] bcast_S1x4x512x4096_S2x4x512x4096_0_1_2_3 (broadcastInDim S1x4x512x4096 ![1, 2, 3] bcast_S4x512x4096_S1x4x512x4096_1_2_3 (transpose S4x512x4096 [0, 2, 1] (shapeCast S4x4096x512 h shapeCasts_S4x4096x8x64_S4x4096x512) transposes_S4x4096x512_S4x512x4096_0_2_1)))
    = slabsArr (flatOf h) := by
  funext y
  obtain ⟨a, b, d, e, rfl⟩ : ∃ a b d e, y = ix4 a b d e := ⟨_, _, _, _, ValueIdx.eq_ix4 y⟩
  pointwise
  rfl

theorem gates_eq : (truncf .bf16 (shapeCast S16384x512 (mulf v (Host.divf (broadcastInDim S4x4096x512 ![] bcast_S_S4x4096x512 (constant S_ .f32 0x3F800000#32)) (addf (broadcastInDim S4x4096x512 ![] bcast_S_S4x4096x512 (constant S_ .f32 0x3F800000#32)) (Host.exp (Host.negf v))))) shapeCasts_S4x4096x512_S16384x512) bitsLt_bf16_f32)
    = rowsArr fun b t l => laneOf v b t l * logistic (laneOf v b t l) := by
  funext y
  obtain ⟨a, b, rfl⟩ : ∃ a b, y = ix2 a b := ⟨_, _, ValueIdx.eq_ix2 y⟩
  pointwise
  rfl

theorem gatesM_eq : (truncf .bf16 (shapeCast S16384x2048 (Host.divf (broadcastInDim S4x4096x2048 ![] bcast_S_S4x4096x2048 (constant S_ .f32 0x3F800000#32)) (addf (broadcastInDim S4x4096x2048 ![] bcast_S_S4x4096x2048 (constant S_ .f32 0x3F800000#32)) (Host.exp (Host.negf (addf (extractStridedSlice S4x4096x2048 ![0, 0, 4096] u slices_S4x4096x6144_S4x4096x2048_0_0_4096) (broadcastInDim S4x4096x2048 ![0, 1, 2] bcast_S1x1x2048_S4x4096x2048_0_1_2 (broadcastInDim S1x1x2048 ![2] bcast_S2048_S1x1x2048_2 bg))))))) shapeCasts_S4x4096x2048_S16384x2048) bitsLt_bf16_f32)
    = rowsArr (n := 2048) fun b t k => logistic (laneOf (n := 6144) u b t ⟨4096 + k.val, by omega⟩ + bg (ix1 k)) := by
  funext y
  obtain ⟨a, b, rfl⟩ : ∃ a b, y = ix2 a b := ⟨_, _, ValueIdx.eq_ix2 y⟩
  pointwise
  rfl

theorem mean_eq : (shapeCast S64x1x512 (Host.divf (Host.reduceAdd (shapeCast S4x16x256x8x64 h shapeCasts_S4x4096x8x64_S4x16x256x8x64) (constant S_ .f32 0x00000000#32) reducesTo_S4x16x256x8x64_S4x16x8x64_d2 h_S_) (broadcastInDim S4x16x8x64 ![] bcast_S_S4x16x8x64 (constant S_ .f32 0x43800000#32))) shapeCasts_S4x16x8x64_S64x1x512)
    = meanArr (flatOf h) := by
  funext y
  obtain ⟨a, b, d, rfl⟩ : ∃ a b d, y = ix3 a b d := ⟨_, _, _, ValueIdx.eq_ix3 y⟩
  pointwise
  rfl

end Cert.Proof.Proj.Ref
-- ==== Proof.Proj.Reference.lean ====
/-
  The projection's reference over the extended reals: each result as an array of the argument arrays.
-/
module

public import proofs.«01_k».proof.Proof.Gen.Reference2Ideal.Run
public import proofs.«01_k».proof.Proof.Proj.Layout

@[expose] public section

noncomputable section

namespace Cert.Proof.Proj.Ref

open Cert.Reference2Ideal Cert.Reference2Ideal.Gen Cert.Reference2Ideal.Value Idealize.ShloMosaic Idealize.ShloMosaic.TcCoe Idealize.ShloMosaic.Pointwise Finset

variable (W : Valuation τ sig (Elt Ideal))

theorem v13_at (b : Fin 4) (t : Fin 4096) (k : Fin 6144) : res_main_v13 W (ix3 b t k)
    = lane (rowOf (W (Proc.devRef .tc main_arg0)) b t) (vecOf (W (Proc.devRef .tc main_arg1))) (matOf (W (Proc.devRef .tc main_arg2))) k := by
  pointwise [res_main_v13]
  rfl
theorem v16_at (b : Fin 4) (t : Fin 4096) (l : Fin 512) : res_main_v16 W (ix3 b t l) = laneAt (W (Proc.devRef .tc main_arg0)) (W (Proc.devRef .tc main_arg1)) (W (Proc.devRef .tc main_arg2)) 1024 (by decide) b t l := by
  pointwise [res_main_v16]
  exact v13_at ..
theorem v17_at (b : Fin 4) (t : Fin 4096) (l : Fin 512) : res_main_v17 W (ix3 b t l) = laneAt (W (Proc.devRef .tc main_arg0)) (W (Proc.devRef .tc main_arg1)) (W (Proc.devRef .tc main_arg2)) 1536 (by decide) b t l := by
  pointwise [res_main_v17]
  exact v13_at ..
theorem v19_at (b : Fin 4) (t : Fin 4096) (l : Fin 512) : res_main_v19 W (ix3 b t l) = laneAt (W (Proc.devRef .tc main_arg0)) (W (Proc.devRef .tc main_arg1)) (W (Proc.devRef .tc main_arg2)) 2560 (by decide) b t l := by
  pointwise [res_main_v19]
  exact v13_at ..
theorem v20_at (b : Fin 4) (t : Fin 4096) (l : Fin 512) : res_main_v20 W (ix3 b t l) = laneAt (W (Proc.devRef .tc main_arg0)) (W (Proc.devRef .tc main_arg1)) (W (Proc.devRef .tc main_arg2)) 3072 (by decide) b t l := by
  pointwise [res_main_v20]
  exact v13_at ..
theorem v21_at (b : Fin 4) (t : Fin 4096) (l : Fin 512) : res_main_v21 W (ix3 b t l) = laneAt (W (Proc.devRef .tc main_arg0)) (W (Proc.devRef .tc main_arg1)) (W (Proc.devRef .tc main_arg2)) 3584 (by decide) b t l := by
  pointwise [res_main_v21]
  exact v13_at ..
theorem v37_at (b : Fin 4) (t : Fin 4096) (h : Fin 8) (e : Fin 64) : res_main_v37 W (ix4 b t h e)
    = headNorm (laneAt (W (Proc.devRef .tc main_arg0)) (W (Proc.devRef .tc main_arg1)) (W (Proc.devRef .tc main_arg2)) 0 (by decide) b t) (vecOf (W (Proc.devRef .tc main_arg4))) ⟨h.val * 64 + e.val, by omega⟩ := by
  rw [headNorm_at]
  pointwise [res_main_v37, res_main_v24]
  simp only [v13_at, laneAt, lanes, Nat.zero_add]
  rfl
theorem v83_at (b : Fin 4) (t : Fin 4096) (h : Fin 8) (e : Fin 64) : res_main_v83 W (ix4 b t h e)
    = headNorm (laneAt (W (Proc.devRef .tc main_arg0)) (W (Proc.devRef .tc main_arg1)) (W (Proc.devRef .tc main_arg2)) 512 (by decide) b t) (vecOf (W (Proc.devRef .tc main_arg5))) ⟨h.val * 64 + e.val, by omega⟩ := by
  rw [headNorm_at]
  pointwise [res_main_v83, res_main_v70]
  simp only [v13_at]
  rfl
theorem v52_at (t : Fin 4096) (e : Fin 8) : res_main_v52 W (ix4 0 t 0 e) = cosOf t e := by
  pointwise [res_main_v52, res_main_v50, res_main_v23]
  rfl
theorem v54_at (t : Fin 4096) (e : Fin 8) : res_main_v54 W (ix4 0 t 0 e) = sinOf t e := by
  pointwise [res_main_v54, res_main_v50, res_main_v23]
  rfl
theorem v98_at (t : Fin 4096) (e : Fin 8) : res_main_v98 W (ix4 0 t 0 e) = cosOf t e := by
  pointwise [res_main_v98, res_main_v96, res_main_v23]
  rfl
theorem v100_at (t : Fin 4096) (e : Fin 8) : res_main_v100 W (ix4 0 t 0 e) = sinOf t e := by
  pointwise [res_main_v100, res_main_v96, res_main_v23]
  rfl
theorem v115_at (b : Fin 4) (t : Fin 4096) (h : Fin 8) (e : Fin 64) : res_main_v115 W (ix4 b t h e)
    = headAt (W (Proc.devRef .tc main_arg0)) (W (Proc.devRef .tc main_arg1)) (W (Proc.devRef .tc main_arg2)) (W (Proc.devRef .tc main_arg5)) 512 (by decide) b t ⟨h.val * 64 + e.val, by omega⟩ := by
  unfold headAt heads
  rw [rope_at]
  pointwise [res_main_v115, res_main_v101, res_main_v102]
  simp only [v83_at, v98_at, v100_at]
  rfl

/-- The rotated queries. -/
def rotated : FVec Ideal S4x4096x8x64 .f32 :=
  concatenate S4x4096x8x64 3 [⟨S4x4096x8x16, (concatenate S4x4096x8x16 3 [⟨S4x4096x8x8, (subf (mulf (res_main_v55 W) (broadcastInDim S4x4096x8x8 ![0, 1, 2, 3] bcast_S1x4096x1x8_S4x4096x8x8_0_1_2_3 (res_main_v52 W))) (mulf (res_main_v56 W) (broadcastInDim S4x4096x8x8 ![0, 1, 2, 3] bcast_S1x4096x1x8_S4x4096x8x8_0_1_2_3 (res_main_v54 W))))⟩, ⟨S4x4096x8x8, (addf (mulf (res_main_v56 W) (broadcastInDim S4x4096x8x8 ![0, 1, 2, 3] bcast_S1x4096x1x8_S4x4096x8x8_0_1_2_3 (res_main_v52 W))) (mulf (res_main_v55 W) (broadcastInDim S4x4096x8x8 ![0, 1, 2, 3] bcast_S1x4096x1x8_S4x4096x8x8_0_1_2_3 (res_main_v54 W))))⟩] concatenates_S4x4096x8x8_S4x4096x8x8_S4x4096x8x16_d3)⟩, ⟨S4x4096x8x48, (extractStridedSlice S4x4096x8x48 ![0, 0, 0, 16] (res_main_v37 W) slices_S4x4096x8x64_S4x4096x8x48_0_0_0_16)⟩] concatenates_S4x4096x8x16_S4x4096x8x48_S4x4096x8x64_d3
theorem rotated_at (b : Fin 4) (t : Fin 4096) (h : Fin 8) (e : Fin 64) : rotated W (ix4 b t h e)
    = headAt (W (Proc.devRef .tc main_arg0)) (W (Proc.devRef .tc main_arg1)) (W (Proc.devRef .tc main_arg2)) (W (Proc.devRef .tc main_arg4)) 0 (by decide) b t ⟨h.val * 64 + e.val, by omega⟩ := by
  unfold headAt heads
  rw [rope_at]
  pointwise [rotated, res_main_v55, res_main_v56]
  simp only [v37_at, v52_at, v54_at]
  rfl

theorem flat_rotated : flatOf (rotated W) = headAt (W (Proc.devRef .tc main_arg0)) (W (Proc.devRef .tc main_arg1)) (W (Proc.devRef .tc main_arg2)) (W (Proc.devRef .tc main_arg4)) 0 (by decide) := by
  funext b t l
  refine (rotated_at W b t _ _).trans (congrArg (headAt _ _ _ _ _ _ b t) (Fin.ext ?_))
  change l.val / 64 * 64 + l.val % 64 = l.val
  omega
theorem flat_v115 : flatOf (res_main_v115 W) = headAt (W (Proc.devRef .tc main_arg0)) (W (Proc.devRef .tc main_arg1)) (W (Proc.devRef .tc main_arg2)) (W (Proc.devRef .tc main_arg5)) 512 (by decide) := by
  funext b t l
  refine (v115_at W b t _ _).trans (congrArg (headAt _ _ _ _ _ _ b t) (Fin.ext ?_))
  change l.val / 64 * 64 + l.val % 64 = l.val
  omega
theorem lane_v16 : laneOf (n := 512) (res_main_v16 W) = laneAt (W (Proc.devRef .tc main_arg0)) (W (Proc.devRef .tc main_arg1)) (W (Proc.devRef .tc main_arg2)) 1024 (by decide) := funext fun b => funext fun t => funext fun l => v16_at W b t l
theorem lane_v17 : laneOf (n := 512) (res_main_v17 W) = laneAt (W (Proc.devRef .tc main_arg0)) (W (Proc.devRef .tc main_arg1)) (W (Proc.devRef .tc main_arg2)) 1536 (by decide) := funext fun b => funext fun t => funext fun l => v17_at W b t l
theorem lane_v19 : laneOf (n := 512) (res_main_v19 W) = laneAt (W (Proc.devRef .tc main_arg0)) (W (Proc.devRef .tc main_arg1)) (W (Proc.devRef .tc main_arg2)) 2560 (by decide) := funext fun b => funext fun t => funext fun l => v19_at W b t l
theorem lane_v20 : laneOf (n := 512) (res_main_v20 W) = laneAt (W (Proc.devRef .tc main_arg0)) (W (Proc.devRef .tc main_arg1)) (W (Proc.devRef .tc main_arg2)) 3072 (by decide) := funext fun b => funext fun t => funext fun l => v20_at W b t l
theorem lane_v21 : laneOf (n := 512) (res_main_v21 W) = laneAt (W (Proc.devRef .tc main_arg0)) (W (Proc.devRef .tc main_arg1)) (W (Proc.devRef .tc main_arg2)) 3584 (by decide) := funext fun b => funext fun t => funext fun l => v21_at W b t l

theorem qa_eq : (truncf .bf16 (shapeCast _ (mulf (concatenate S4x4096x8x64 3 [⟨S4x4096x8x16, (concatenate S4x4096x8x16 3 [⟨S4x4096x8x8, (subf (mulf (res_main_v55 W) (broadcastInDim S4x4096x8x8 ![0, 1, 2, 3] bcast_S1x4096x1x8_S4x4096x8x8_0_1_2_3 (res_main_v52 W))) (mulf (res_main_v56 W) (broadcastInDim S4x4096x8x8 ![0, 1, 2, 3] bcast_S1x4096x1x8_S4x4096x8x8_0_1_2_3 (res_main_v54 W))))⟩, ⟨S4x4096x8x8, (addf (mulf (res_main_v56 W) (broadcastInDim S4x4096x8x8 ![0, 1, 2, 3] bcast_S1x4096x1x8_S4x4096x8x8_0_1_2_3 (res_main_v52 W))) (mulf (res_main_v55 W) (broadcastInDim S4x4096x8x8 ![0, 1, 2, 3] bcast_S1x4096x1x8_S4x4096x8x8_0_1_2_3 (res_main_v54 W))))⟩] concatenates_S4x4096x8x8_S4x4096x8x8_S4x4096x8x16_d3)⟩, ⟨S4x4096x8x48, (extractStridedSlice S4x4096x8x48 ![0, 0, 0, 16] (res_main_v37 W) slices_S4x4096x8x64_S4x4096x8x48_0_0_0_16)⟩] concatenates_S4x4096x8x16_S4x4096x8x48_S4x4096x8x64_d3) (broadcastInDim S4x4096x8x64 ![] bcast_S_S4x4096x8x64 (constant S_ .f32 0x3E000000#32))) shapeCasts_S4x4096x8x64_S16384x512) bitsLt_bf16_f32)
    = rowsArr fun b t l => headAt (W (Proc.devRef .tc main_arg0)) (W (Proc.devRef .tc main_arg1)) (W (Proc.devRef .tc main_arg2)) (W (Proc.devRef .tc main_arg4)) 0 (by decide) b t l * Ideal.ofBits .f32 1040187392#32 := by
  refine (rows_heads_eq (rotated W)).trans ?_
  rw [flat_rotated]

theorem ka_eq : (truncf .bf16 (transpose S64x512x256 [0, 2, 1] (shapeCast _ (res_main_v115 W) shapeCasts_S4x4096x8x64_S64x256x512) transposes_S64x256x512_S64x512x256_0_2_1) bitsLt_bf16_f32)
    = blocksArr (headAt (W (Proc.devRef .tc main_arg0)) (W (Proc.devRef .tc main_arg1)) (W (Proc.devRef .tc main_arg2)) (W (Proc.devRef .tc main_arg5)) 512 (by decide)) := by
  refine (blocks_heads_eq _).trans ?_
  rw [flat_v115]

theorem va_eq : (truncf .bf16 (shapeCast _ (res_main_v16 W) shapeCasts_S4x4096x512_S16384x512) bitsLt_bf16_f32)
    = rowsArr (laneAt (W (Proc.devRef .tc main_arg0)) (W (Proc.devRef .tc main_arg1)) (W (Proc.devRef .tc main_arg2)) 1024 (by decide)) := by
  refine (rows_eq _).trans ?_
  rw [lane_v16]

theorem qb_eq : (truncf .bf16 (shapeCast _ (mulf (extractStridedSlice S4x4096x512 ![0, 0, 2048] (res_main_v13 W) slices_S4x4096x6144_S4x4096x512_0_0_2048) (broadcastInDim S4x4096x512 ![] bcast_S_S4x4096x512 (constant S_ .f32 0x3E000000#32))) shapeCasts_S4x4096x512_S16384x512) bitsLt_bf16_f32)
    = rowsArr fun b t l => laneAt (W (Proc.devRef .tc main_arg0)) (W (Proc.devRef .tc main_arg1)) (W (Proc.devRef .tc main_arg2)) 2048 (by decide) b t l * Ideal.ofBits .f32 1040187392#32 := by
  refine (rows_scaled_eq _).trans (congrArg rowsArr (funext fun b => funext fun t => funext fun l => ?_))
  unfold laneOf
  rw [v13_at]
  rfl

theorem kb_eq : (truncf .bf16 (transpose S64x512x256 [0, 2, 1] (shapeCast _ (res_main_v19 W) shapeCasts_S4x4096x512_S64x256x512) transposes_S64x256x512_S64x512x256_0_2_1) bitsLt_bf16_f32)
    = blocksArr (laneAt (W (Proc.devRef .tc main_arg0)) (W (Proc.devRef .tc main_arg1)) (W (Proc.devRef .tc main_arg2)) 2560 (by decide)) := by
  refine (blocks_eq _).trans ?_
  rw [lane_v19]

theorem vb_eq : (truncf .bf16 (shapeCast _ (res_main_v20 W) shapeCasts_S4x4096x512_S16384x512) bitsLt_bf16_f32)
    = rowsArr (laneAt (W (Proc.devRef .tc main_arg0)) (W (Proc.devRef .tc main_arg1)) (W (Proc.devRef .tc main_arg2)) 3072 (by decide)) := by
  refine (rows_eq _).trans ?_
  rw [lane_v20]

theorem kaSlabs_eq : (broadcastInDim S2x4x512x4096 ![0, 1, 2, 3] bcast_S1x4x512x4096_S2x4x512x4096_0_1_2_3 (broadcastInDim S1x4x512x4096 ![1, 2, 3] bcast_S4x512x4096_S1x4x512x4096_1_2_3 (transpose S4x512x4096 [0, 2, 1] (shapeCast _ (res_main_v115 W) shapeCasts_S4x4096x8x64_S4x4096x512) transposes_S4x4096x512_S4x512x4096_0_2_1)))
    = slabsArr (headAt (W (Proc.devRef .tc main_arg0)) (W (Proc.devRef .tc main_arg1)) (W (Proc.devRef .tc main_arg2)) (W (Proc.devRef .tc main_arg5)) 512 (by decide)) := by
  refine (slabs_heads_eq _).trans ?_
  rw [flat_v115]

theorem vaSlabs_eq : (broadcastInDim S2x4x512x4096 ![0, 1, 2, 3] bcast_S1x4x512x4096_S2x4x512x4096_0_1_2_3 (broadcastInDim S1x4x512x4096 ![1, 2, 3] bcast_S4x512x4096_S1x4x512x4096_1_2_3 (transpose S4x512x4096 [0, 2, 1] (res_main_v16 W) transposes_S4x4096x512_S4x512x4096_0_2_1)))
    = slabsArr (laneAt (W (Proc.devRef .tc main_arg0)) (W (Proc.devRef .tc main_arg1)) (W (Proc.devRef .tc main_arg2)) 1024 (by decide)) := by
  refine (slabs_eq _).trans ?_
  rw [lane_v16]

theorem kbSlabs_eq : (broadcastInDim S2x4x512x4096 ![0, 1, 2, 3] bcast_S1x4x512x4096_S2x4x512x4096_0_1_2_3 (broadcastInDim S1x4x512x4096 ![1, 2, 3] bcast_S4x512x4096_S1x4x512x4096_1_2_3 (transpose S4x512x4096 [0, 2, 1] (res_main_v19 W) transposes_S4x4096x512_S4x512x4096_0_2_1)))
    = slabsArr (laneAt (W (Proc.devRef .tc main_arg0)) (W (Proc.devRef .tc main_arg1)) (W (Proc.devRef .tc main_arg2)) 2560 (by decide)) := by
  refine (slabs_eq _).trans ?_
  rw [lane_v19]

theorem vbSlabs_eq : (broadcastInDim S2x4x512x4096 ![0, 1, 2, 3] bcast_S1x4x512x4096_S2x4x512x4096_0_1_2_3 (broadcastInDim S1x4x512x4096 ![1, 2, 3] bcast_S4x512x4096_S1x4x512x4096_1_2_3 (transpose S4x512x4096 [0, 2, 1] (res_main_v20 W) transposes_S4x4096x512_S4x512x4096_0_2_1)))
    = slabsArr (laneAt (W (Proc.devRef .tc main_arg0)) (W (Proc.devRef .tc main_arg1)) (W (Proc.devRef .tc main_arg2)) 3072 (by decide)) := by
  refine (slabs_eq _).trans ?_
  rw [lane_v20]

theorem gateA_eq : (truncf .bf16 (shapeCast _ (mulf (res_main_v17 W) (Host.divf (broadcastInDim S4x4096x512 ![] bcast_S_S4x4096x512 (constant S_ .f32 0x3F800000#32)) (addf (broadcastInDim S4x4096x512 ![] bcast_S_S4x4096x512 (constant S_ .f32 0x3F800000#32)) (Host.exp (Host.negf (res_main_v17 W)))))) shapeCasts_S4x4096x512_S16384x512) bitsLt_bf16_f32)
    = rowsArr fun b t l => laneAt (W (Proc.devRef .tc main_arg0)) (W (Proc.devRef .tc main_arg1)) (W (Proc.devRef .tc main_arg2)) 1536 (by decide) b t l * logistic (laneAt (W (Proc.devRef .tc main_arg0)) (W (Proc.devRef .tc main_arg1)) (W (Proc.devRef .tc main_arg2)) 1536 (by decide) b t l) := by
  refine (gates_eq _).trans ?_
  rw [lane_v17]

theorem gateB_eq : (truncf .bf16 (shapeCast _ (mulf (res_main_v21 W) (Host.divf (broadcastInDim S4x4096x512 ![] bcast_S_S4x4096x512 (constant S_ .f32 0x3F800000#32)) (addf (broadcastInDim S4x4096x512 ![] bcast_S_S4x4096x512 (constant S_ .f32 0x3F800000#32)) (Host.exp (Host.negf (res_main_v21 W)))))) shapeCasts_S4x4096x512_S16384x512) bitsLt_bf16_f32)
    = rowsArr fun b t l => laneAt (W (Proc.devRef .tc main_arg0)) (W (Proc.devRef .tc main_arg1)) (W (Proc.devRef .tc main_arg2)) 3584 (by decide) b t l * logistic (laneAt (W (Proc.devRef .tc main_arg0)) (W (Proc.devRef .tc main_arg1)) (W (Proc.devRef .tc main_arg2)) 3584 (by decide) b t l) := by
  refine (gates_eq _).trans ?_
  rw [lane_v21]

theorem gateM_eq : (truncf .bf16 (shapeCast _ (Host.divf (broadcastInDim S4x4096x2048 ![] bcast_S_S4x4096x2048 (constant S_ .f32 0x3F800000#32)) (addf (broadcastInDim S4x4096x2048 ![] bcast_S_S4x4096x2048 (constant S_ .f32 0x3F800000#32)) (Host.exp (Host.negf (addf (extractStridedSlice S4x4096x2048 ![0, 0, 4096] (res_main_v13 W) slices_S4x4096x6144_S4x4096x2048_0_0_4096) (broadcastInDim S4x4096x2048 ![0, 1, 2] bcast_S1x1x2048_S4x4096x2048_0_1_2 (broadcastInDim S1x1x2048 ![2] bcast_S2048_S1x1x2048_2 (W (Proc.devRef .tc main_arg3))))))))) shapeCasts_S4x4096x2048_S16384x2048) bitsLt_bf16_f32)
    = rowsArr (gateAt (W (Proc.devRef .tc main_arg0)) (W (Proc.devRef .tc main_arg1)) (W (Proc.devRef .tc main_arg2)) (W (Proc.devRef .tc main_arg3))) := by
  refine (gatesM_eq _ _).trans (congrArg rowsArr (funext fun b => funext fun t => funext fun l => ?_))
  unfold laneOf
  rw [v13_at]
  rfl

theorem kmean_eq : (shapeCast _ (Host.divf (Host.reduceAdd (shapeCast _ (res_main_v115 W) shapeCasts_S4x4096x8x64_S4x16x256x8x64) (constant S_ .f32 0x00000000#32) reducesTo_S4x16x256x8x64_S4x16x8x64_d2 h_S_) (broadcastInDim S4x16x8x64 ![] bcast_S_S4x16x8x64 (constant S_ .f32 0x43800000#32))) shapeCasts_S4x16x8x64_S64x1x512)
    = meanArr (headAt (W (Proc.devRef .tc main_arg0)) (W (Proc.devRef .tc main_arg1)) (W (Proc.devRef .tc main_arg2)) (W (Proc.devRef .tc main_arg5)) 512 (by decide)) := by
  refine (mean_eq _).trans ?_
  rw [flat_v115]

end Cert.Proof.Proj.Ref
-- ==== Proof.Proj.Algebraic.lean ====
/-
  The projection's value claim: both runs leave the fourteen arrays that Math defines.
-/
module

public import proofs.«01_k».proof.Proof.Proj.Value
public import proofs.«01_k».proof.Proof.Proj.Reference
public import proofs.«01_k».proof.Defs

@[expose] public section

set_option maxHeartbeats 4000000

noncomputable section

namespace Cert.Proof.Proj

open Idealize.ShloMosaic Idealize.ShloMosaic.TcCoe Idealize.SL.Sem

open Cert.Kernel2Ideal in
theorem algebraic : @algebraic_Kernel2Ideal_Reference2Ideal Kernel2Ideal.Gen.facts Reference2Ideal.Gen.facts := by
  intro m g m' g' _ hargs
  refine ⟨fun c => rowsArr fun b t l => headAt (m (c.tc.loc main_arg0)) (m (c.tc.loc main_arg1)) (m (c.tc.loc main_arg2)) (m (c.tc.loc main_arg4)) 0 (by decide) b t l * Ideal.ofBits .f32 1040187392#32,
    fun c => blocksArr (headAt (m (c.tc.loc main_arg0)) (m (c.tc.loc main_arg1)) (m (c.tc.loc main_arg2)) (m (c.tc.loc main_arg5)) 512 (by decide)),
    fun c => rowsArr (laneAt (m (c.tc.loc main_arg0)) (m (c.tc.loc main_arg1)) (m (c.tc.loc main_arg2)) 1024 (by decide)),
    fun c => rowsArr fun b t l => laneAt (m (c.tc.loc main_arg0)) (m (c.tc.loc main_arg1)) (m (c.tc.loc main_arg2)) 2048 (by decide) b t l * Ideal.ofBits .f32 1040187392#32,
    fun c => blocksArr (laneAt (m (c.tc.loc main_arg0)) (m (c.tc.loc main_arg1)) (m (c.tc.loc main_arg2)) 2560 (by decide)),
    fun c => rowsArr (laneAt (m (c.tc.loc main_arg0)) (m (c.tc.loc main_arg1)) (m (c.tc.loc main_arg2)) 3072 (by decide)),
    fun c => slabsArr (headAt (m (c.tc.loc main_arg0)) (m (c.tc.loc main_arg1)) (m (c.tc.loc main_arg2)) (m (c.tc.loc main_arg5)) 512 (by decide)),
    fun c => slabsArr (laneAt (m (c.tc.loc main_arg0)) (m (c.tc.loc main_arg1)) (m (c.tc.loc main_arg2)) 1024 (by decide)),
    fun c => slabsArr (laneAt (m (c.tc.loc main_arg0)) (m (c.tc.loc main_arg1)) (m (c.tc.loc main_arg2)) 2560 (by decide)),
    fun c => slabsArr (laneAt (m (c.tc.loc main_arg0)) (m (c.tc.loc main_arg1)) (m (c.tc.loc main_arg2)) 3072 (by decide)),
    fun c => rowsArr fun b t l => laneAt (m (c.tc.loc main_arg0)) (m (c.tc.loc main_arg1)) (m (c.tc.loc main_arg2)) 1536 (by decide) b t l * logistic (laneAt (m (c.tc.loc main_arg0)) (m (c.tc.loc main_arg1)) (m (c.tc.loc main_arg2)) 1536 (by decide) b t l),
    fun c => rowsArr fun b t l => laneAt (m (c.tc.loc main_arg0)) (m (c.tc.loc main_arg1)) (m (c.tc.loc main_arg2)) 3584 (by decide) b t l * logistic (laneAt (m (c.tc.loc main_arg0)) (m (c.tc.loc main_arg1)) (m (c.tc.loc main_arg2)) 3584 (by decide) b t l),
    fun c => rowsArr (gateAt (m (c.tc.loc main_arg0)) (m (c.tc.loc main_arg1)) (m (c.tc.loc main_arg2)) (m (c.tc.loc main_arg3))),
    fun c => meanArr (headAt (m (c.tc.loc main_arg0)) (m (c.tc.loc main_arg1)) (m (c.tc.loc main_arg2)) (m (c.tc.loc main_arg5)) 512 (by decide)),
    ?_, ?_⟩
  · refine (θ_run _ _ _).mono (fun r h c => ⟨((h.1 c).1 10).trans (array_10 m c),
      ((h.1 c).1 11).trans (array_11 m c),
      ((h.1 c).1 12).trans (array_12 m c),
      ((h.1 c).1 13).trans (array_13 m c),
      ((h.1 c).1 14).trans (array_14 m c),
      ((h.1 c).1 15).trans (array_15 m c),
      ((h.1 c).1 16).trans (array_16 m c),
      ((h.1 c).1 17).trans (array_17 m c),
      ((h.1 c).1 18).trans (array_18 m c),
      ((h.1 c).1 19).trans (array_19 m c),
      ((h.1 c).1 20).trans (array_20 m c),
      ((h.1 c).1 21).trans (array_21 m c),
      ((h.1 c).1 22).trans (array_22 m c),
      ((h.1 c).1 23).trans (array_23 m c),
      kept m r h.1 c main_arg0 (by decide), kept m r h.1 c main_arg1 (by decide), kept m r h.1 c main_arg2 (by decide),
      kept m r h.1 c main_arg3 (by decide), kept m r h.1 c main_arg4 (by decide), kept m r h.1 c main_arg5 (by decide)⟩) (run m g)
  · refine (θ_run _ _ _).mono (fun r h c => ?_) (Reference2Ideal.Value.run m' g')
    obtain ⟨h0, h1, h2, h3, h4, h5⟩ := hargs c
    obtain ⟨r0, r1, r2, r3, r4, r5, r6, r7, r8, r9, r10, r11, r12, r13, ra⟩ := h c
    beta_reduce
    rw [← h0, ← h1, ← h2, ← h3, ← h4, ← h5]
    exact ⟨r0.trans (Ref.qa_eq _),
      r1.trans (Ref.ka_eq _),
      r2.trans (Ref.va_eq _),
      r3.trans (Ref.qb_eq _),
      r4.trans (Ref.kb_eq _),
      r5.trans (Ref.vb_eq _),
      r6.trans (Ref.kaSlabs_eq _),
      r7.trans (Ref.vaSlabs_eq _),
      r8.trans (Ref.kbSlabs_eq _),
      r9.trans (Ref.vbSlabs_eq _),
      r10.trans (Ref.gateA_eq _),
      r11.trans (Ref.gateB_eq _),
      r12.trans (Ref.gateM_eq _),
      r13.trans (Ref.kmean_eq _), ra⟩

end Cert.Proof.Proj
-- ==== Proof.Merge.Reference.lean ====
/-
  The merge's reference at an index: one row's formula.
-/
module

public import proofs.«01_k».proof.Proof.Gen.Reference3Ideal.Run
public import Idealize.ShloMosaic.Lib.Pointwise

@[expose] public section

noncomputable section

namespace Cert.Proof.Merge

open Cert.Reference3Ideal Cert.Reference3Ideal.Gen Idealize.ShloMosaic Idealize.ShloMosaic.Pointwise Finset

/-- One row's result at lane `d`: the row of `x` plus the output product of the two gated branch products. -/
def row (x : Fin 1024 → EReal) (oa ob sga sgb : Fin 512 → EReal) (g : Fin 2048 → EReal) (wa wb : Fin 512 → Fin 1024 → EReal)
    (wo : Fin 1024 → Fin 1024 → EReal) (d : Fin 1024) : EReal :=
  x d + ∑ k : Fin 1024, (g ⟨k.val, by omega⟩ * (∑ j : Fin 512, oa j * sga j * wa j k)
    + g ⟨1024 + k.val, by omega⟩ * (∑ j : Fin 512, ob j * sgb j * wb j k)) * wo k d

/-- The merge of the reference, before the rows of all batches are put one after another. -/
def refMerge (x : Vec Ideal S4x4096x1024 .f32) (oa ob sga sgb : Vec Ideal S4x4096x512 .f32) (g : Vec Ideal S4x4096x2048 .f32)
    (wa wb : Vec Ideal S512x1024 .f32) (wo : Vec Ideal S1024x1024 .f32) : Vec Ideal S4x4096x1024 .f32 :=
  addf x (Host.dotGeneral (F := Ideal) dot_S4x4096x1024_S1024x1024_S4x4096x1024_2_0_01_1_n_n none (φ₁ := .f32) (φ₂ := .f32) (addf (mulf (shapeCast _ (extractStridedSlice S4x4096x1x1024 ![0, 0, 0, 0] (shapeCast _ g shapeCasts_S4x4096x2048_S4x4096x2x1024) slices_S4x4096x2x1024_S4x4096x1x1024_0_0_0_0) shapeCasts_S4x4096x1x1024_S4x4096x1024) (Host.dotGeneral (F := Ideal) (φ₁ := .f32) (φ₂ := .f32) dot_S4x4096x512_S512x1024_S4x4096x1024_2_0_01_1_n_n none (mulf oa sga) wa)) (mulf (shapeCast _ (extractStridedSlice S4x4096x1x1024 ![0, 0, 1, 0] (shapeCast _ g shapeCasts_S4x4096x2048_S4x4096x2x1024) slices_S4x4096x2x1024_S4x4096x1x1024_0_0_1_0) shapeCasts_S4x4096x1x1024_S4x4096x1024) (Host.dotGeneral (F := Ideal) (φ₁ := .f32) (φ₂ := .f32) dot_S4x4096x512_S512x1024_S4x4096x1024_2_0_01_1_n_n none (mulf ob sgb) wb))) wo)

theorem refMerge_at (x : Vec Ideal S4x4096x1024 .f32) (oa ob sga sgb : Vec Ideal S4x4096x512 .f32) (g : Vec Ideal S4x4096x2048 .f32)
    (wa wb : Vec Ideal S512x1024 .f32) (wo : Vec Ideal S1024x1024 .f32) (b : Fin 4) (t : Fin 4096) (d : Fin 1024) :
    refMerge x oa ob sga sgb g wa wb wo (ix3 b t d) = row (fun d => x (ix3 b t d)) (fun j => oa (ix3 b t j)) (fun j => ob (ix3 b t j))
      (fun j => sga (ix3 b t j)) (fun j => sgb (ix3 b t j)) (fun k => g (ix3 b t k))
      (fun j k => wa (ix2 j k)) (fun j k => wb (ix2 j k)) (fun k d => wo (ix2 k d)) d := by
  pointwise [refMerge]
  rfl

/-- The rows of all batches one after another, at a row and a lane. -/
theorem rows_at (v : Vec Ideal S4x4096x1024 .f32) (i : Fin 16384) (d : Fin 1024) :
    shapeCast S16384x1024 v shapeCasts_S4x4096x1024_S16384x1024 (ix2 i d) = v (ix3 ⟨i.val / 4096, by omega⟩ ⟨i.val % 4096, by omega⟩ d) := by
  pointwise []

end Cert.Proof.Merge
-- ==== Proof.Merge.Value.lean ====
/-
  The merge: both programs' result as one formula of the argument arrays, row by row.
-/
module

public import proofs.«01_k».proof.Proof.Gen.Kernel3Ideal.Value
public import proofs.«01_k».proof.Proof.Merge.Reference
public import proofs.«01_k».proof.Defs
public import Idealize.ShloMosaic.Lib.Pointwise
public import Idealize.ShloMosaic.Lib.StableHlo.ReadAt
public import Idealize.ShloMosaic.Lib.Pipeline.ValueKit

@[expose] public section

noncomputable section

namespace Cert.Proof.Merge

open Cert.Kernel3Ideal Cert.Kernel3Ideal.Gen Idealize.ShloMosaic Idealize.ShloMosaic.Pointwise Idealize.ShloMosaic.TcCoe Idealize.SL.Sem Finset

theorem pay_at (oa sga : Vec Ideal S512x512 .bf16) (wa : Vec Ideal S512x1024 .bf16) (ob sgb : Vec Ideal S512x512 .bf16)
    (wb : Vec Ideal S512x1024 .bf16) (g : Vec Ideal S512x2048 .bf16) (x : Vec Ideal S512x1024 .f32) (wo : Vec Ideal S1024x1024 .bf16)
    (r : Fin 512) (d : Fin 1024) :
    k0_pay1 oa sga wa ob sgb wb g x wo (ix2 r d)
      = row (fun d => x (ix2 r d)) (fun j => oa (ix2 r j)) (fun j => ob (ix2 r j)) (fun j => sga (ix2 r j)) (fun j => sgb (ix2 r j))
          (fun k => g (ix2 r k)) (fun j k => wa (ix2 j k)) (fun j k => wb (ix2 j k)) (fun k d => wo (ix2 k d)) d := by
  pointwise [k0_pay1]
  rfl

/-- An array of extended reals. -/
abbrev Arr (s : Shape) := s.Idx → EReal

/-- The result at row `i` of all batches' rows and lane `d`, from the argument arrays. -/
def merged (x : Arr ⟨3, ![4, 4096, 1024]⟩) (oa ob sga sgb : Arr ⟨3, ![4, 4096, 512]⟩) (g : Arr ⟨3, ![4, 4096, 2048]⟩)
    (wa wb : Arr ⟨2, ![512, 1024]⟩) (wo : Arr ⟨2, ![1024, 1024]⟩) (i : Fin 16384) (d : Fin 1024) : EReal :=
  row (fun d => x (ix3 ⟨i.val / 4096, by omega⟩ ⟨i.val % 4096, by omega⟩ d))
    (fun j => oa (ix3 ⟨i.val / 4096, by omega⟩ ⟨i.val % 4096, by omega⟩ j)) (fun j => ob (ix3 ⟨i.val / 4096, by omega⟩ ⟨i.val % 4096, by omega⟩ j))
    (fun j => sga (ix3 ⟨i.val / 4096, by omega⟩ ⟨i.val % 4096, by omega⟩ j)) (fun j => sgb (ix3 ⟨i.val / 4096, by omega⟩ ⟨i.val % 4096, by omega⟩ j))
    (fun k => g (ix3 ⟨i.val / 4096, by omega⟩ ⟨i.val % 4096, by omega⟩ k))
    (fun j k => wa (ix2 j k)) (fun j k => wb (ix2 j k)) (fun k d => wo (ix2 k d)) d

/-- The result as an array. -/
def result (x : Arr ⟨3, ![4, 4096, 1024]⟩) (oa ob sga sgb : Arr ⟨3, ![4, 4096, 512]⟩) (g : Arr ⟨3, ![4, 4096, 2048]⟩)
    (wa wb : Arr ⟨2, ![512, 1024]⟩) (wo : Arr ⟨2, ![1024, 1024]⟩) : Arr ⟨2, ![16384, 1024]⟩ :=
  fun y => merged x oa ob sga sgb g wa wb wo (y 0) (y 1)

section kernel
variable (m : (ℓ : Loc nD τ sig) → Buf (Elt Ideal) ℓ) (c : Dev nD)

theorem x_at (i : Fin 16384) (d : Fin 1024) :
    V m c main_v3 (ix2 i d) = (m (c.tc.loc main_arg0) (ix3 ⟨i.val / 4096, by omega⟩ ⟨i.val % 4096, by omega⟩ d) : EReal) := by
  unfold V
  after_reads_at
theorem oa_at (i : Fin 16384) (d : Fin 512) :
    V m c main_v5 (ix2 i d) = (m (c.tc.loc main_arg1) (ix3 ⟨i.val / 4096, by omega⟩ ⟨i.val % 4096, by omega⟩ d) : EReal) := by
  unfold V
  after_reads_at
theorem ob_at (i : Fin 16384) (d : Fin 512) :
    V m c main_v7 (ix2 i d) = (m (c.tc.loc main_arg2) (ix3 ⟨i.val / 4096, by omega⟩ ⟨i.val % 4096, by omega⟩ d) : EReal) := by
  unfold V
  after_reads_at
theorem sga_at (i : Fin 16384) (d : Fin 512) :
    V m c main_v9 (ix2 i d) = (m (c.tc.loc main_arg3) (ix3 ⟨i.val / 4096, by omega⟩ ⟨i.val % 4096, by omega⟩ d) : EReal) := by
  unfold V
  after_reads_at
theorem sgb_at (i : Fin 16384) (d : Fin 512) :
    V m c main_v11 (ix2 i d) = (m (c.tc.loc main_arg4) (ix3 ⟨i.val / 4096, by omega⟩ ⟨i.val % 4096, by omega⟩ d) : EReal) := by
  unfold V
  after_reads_at
theorem g_at (i : Fin 16384) (d : Fin 2048) :
    V m c main_v13 (ix2 i d) = (m (c.tc.loc main_arg5) (ix3 ⟨i.val / 4096, by omega⟩ ⟨i.val % 4096, by omega⟩ d) : EReal) := by
  unfold V
  after_reads_at
theorem wa_at (j : Fin 512) (d : Fin 1024) : V m c main_v0 (ix2 j d) = (m (c.tc.loc main_arg6) (ix2 j d) : EReal) := by
  unfold V
  after_reads_at
theorem wb_at (j : Fin 512) (d : Fin 1024) : V m c main_v1 (ix2 j d) = (m (c.tc.loc main_arg7) (ix2 j d) : EReal) := by
  unfold V
  after_reads_at
theorem wo_at (j : Fin 1024) (d : Fin 1024) : V m c main_v2 (ix2 j d) = (m (c.tc.loc main_arg8) (ix2 j d) : EReal) := by
  unfold V
  after_reads_at

theorem index_0 : ∀ t : Fin cfg0.N, win0_0.index t = ![t.val, 0] := (by decide +kernel : ∀ t : Fin grid0.N, _)
theorem index_1 : ∀ t : Fin cfg0.N, win0_1.index t = ![t.val, 0] := (by decide +kernel : ∀ t : Fin grid0.N, _)
theorem index_2 : ∀ t : Fin cfg0.N, win0_2.index t = ![t.val, 0] := (by decide +kernel : ∀ t : Fin grid0.N, _)
theorem index_3 : ∀ t : Fin cfg0.N, win0_3.index t = ![t.val, 0] := (by decide +kernel : ∀ t : Fin grid0.N, _)
theorem index_4 : ∀ t : Fin cfg0.N, win0_4.index t = ![t.val, 0] := (by decide +kernel : ∀ t : Fin grid0.N, _)
theorem index_5 : ∀ t : Fin cfg0.N, win0_5.index t = ![t.val, 0] := (by decide +kernel : ∀ t : Fin grid0.N, _)
theorem index_6 : ∀ t : Fin cfg0.N, win0_6.index t = ![0, 0] := (by decide +kernel : ∀ t : Fin grid0.N, _)
theorem index_7 : ∀ t : Fin cfg0.N, win0_7.index t = ![0, 0] := (by decide +kernel : ∀ t : Fin grid0.N, _)
theorem index_8 : ∀ t : Fin cfg0.N, win0_8.index t = ![0, 0] := (by decide +kernel : ∀ t : Fin grid0.N, _)
theorem index_9 : ∀ t : Fin cfg0.N, win0_9.index t = ![t.val, 0] := (by decide +kernel : ∀ t : Fin grid0.N, _)

/-- The row of all batches' rows that is row `r` of block `t`. -/
def rowOf (t : Fin cfg0.N) (r : Fin 512) : Fin 16384 := ⟨512 * t.val + r.val, by have : t.val < 32 := t.isLt; omega⟩

theorem iblk_0 (t : Fin cfg0.N) (r : Fin 512) (d : Fin 1024) : iblk m c 0 t (ix2 r d) = V m c main_v3 (ix2 (rowOf t r) d) := by
  blk_simp [iblk]
  refine congrArg (V m c main_v3) ?_
  blk_ext [index_0 t, rowOf]
theorem iblk_1 (t : Fin cfg0.N) (r : Fin 512) (d : Fin 512) : iblk m c 1 t (ix2 r d) = V m c main_v5 (ix2 (rowOf t r) d) := by
  blk_simp [iblk]
  refine congrArg (V m c main_v5) ?_
  blk_ext [index_1 t, rowOf]
theorem iblk_2 (t : Fin cfg0.N) (r : Fin 512) (d : Fin 512) : iblk m c 2 t (ix2 r d) = V m c main_v7 (ix2 (rowOf t r) d) := by
  blk_simp [iblk]
  refine congrArg (V m c main_v7) ?_
  blk_ext [index_2 t, rowOf]
theorem iblk_3 (t : Fin cfg0.N) (r : Fin 512) (d : Fin 512) : iblk m c 3 t (ix2 r d) = V m c main_v9 (ix2 (rowOf t r) d) := by
  blk_simp [iblk]
  refine congrArg (V m c main_v9) ?_
  blk_ext [index_3 t, rowOf]
theorem iblk_4 (t : Fin cfg0.N) (r : Fin 512) (d : Fin 512) : iblk m c 4 t (ix2 r d) = V m c main_v11 (ix2 (rowOf t r) d) := by
  blk_simp [iblk]
  refine congrArg (V m c main_v11) ?_
  blk_ext [index_4 t, rowOf]
theorem iblk_5 (t : Fin cfg0.N) (r : Fin 512) (d : Fin 2048) : iblk m c 5 t (ix2 r d) = V m c main_v13 (ix2 (rowOf t r) d) := by
  blk_simp [iblk]
  refine congrArg (V m c main_v13) ?_
  blk_ext [index_5 t, rowOf]
theorem iblk_6 (t : Fin cfg0.N) (r : Fin 512) (d : Fin 1024) : iblk m c 6 t (ix2 r d) = V m c main_v0 (ix2 r d) := by
  blk_simp [iblk]
  refine congrArg (V m c main_v0) ?_
  blk_ext [index_6 t]
theorem iblk_7 (t : Fin cfg0.N) (r : Fin 512) (d : Fin 1024) : iblk m c 7 t (ix2 r d) = V m c main_v1 (ix2 r d) := by
  blk_simp [iblk]
  refine congrArg (V m c main_v1) ?_
  blk_ext [index_7 t]
theorem iblk_8 (t : Fin cfg0.N) (r : Fin 1024) (d : Fin 1024) : iblk m c 8 t (ix2 r d) = V m c main_v2 (ix2 r d) := by
  blk_simp [iblk]
  refine congrArg (V m c main_v2) ?_
  blk_ext [index_8 t]

theorem x_in (t : Fin cfg0.N) (r : Fin 512) (d : Fin 1024) : iblk m c 0 t (ix2 r d)
    = (m (c.tc.loc main_arg0) (ix3 ⟨(rowOf t r).val / 4096, by omega⟩ ⟨(rowOf t r).val % 4096, by omega⟩ d) : EReal) := (iblk_0 ..).trans (x_at ..)
theorem oa_in (t : Fin cfg0.N) (r : Fin 512) (d : Fin 512) : iblk m c 1 t (ix2 r d)
    = (m (c.tc.loc main_arg1) (ix3 ⟨(rowOf t r).val / 4096, by omega⟩ ⟨(rowOf t r).val % 4096, by omega⟩ d) : EReal) := (iblk_1 ..).trans (oa_at ..)
theorem ob_in (t : Fin cfg0.N) (r : Fin 512) (d : Fin 512) : iblk m c 2 t (ix2 r d)
    = (m (c.tc.loc main_arg2) (ix3 ⟨(rowOf t r).val / 4096, by omega⟩ ⟨(rowOf t r).val % 4096, by omega⟩ d) : EReal) := (iblk_2 ..).trans (ob_at ..)
theorem sga_in (t : Fin cfg0.N) (r : Fin 512) (d : Fin 512) : iblk m c 3 t (ix2 r d)
    = (m (c.tc.loc main_arg3) (ix3 ⟨(rowOf t r).val / 4096, by omega⟩ ⟨(rowOf t r).val % 4096, by omega⟩ d) : EReal) := (iblk_3 ..).trans (sga_at ..)
theorem sgb_in (t : Fin cfg0.N) (r : Fin 512) (d : Fin 512) : iblk m c 4 t (ix2 r d)
    = (m (c.tc.loc main_arg4) (ix3 ⟨(rowOf t r).val / 4096, by omega⟩ ⟨(rowOf t r).val % 4096, by omega⟩ d) : EReal) := (iblk_4 ..).trans (sgb_at ..)
theorem g_in (t : Fin cfg0.N) (r : Fin 512) (d : Fin 2048) : iblk m c 5 t (ix2 r d)
    = (m (c.tc.loc main_arg5) (ix3 ⟨(rowOf t r).val / 4096, by omega⟩ ⟨(rowOf t r).val % 4096, by omega⟩ d) : EReal) := (iblk_5 ..).trans (g_at ..)
theorem wa_in (t : Fin cfg0.N) (r : Fin 512) (d : Fin 1024) : iblk m c 6 t (ix2 r d) = (m (c.tc.loc main_arg6) (ix2 r d) : EReal) := (iblk_6 ..).trans (wa_at ..)
theorem wb_in (t : Fin cfg0.N) (r : Fin 512) (d : Fin 1024) : iblk m c 7 t (ix2 r d) = (m (c.tc.loc main_arg7) (ix2 r d) : EReal) := (iblk_7 ..).trans (wb_at ..)
theorem wo_in (t : Fin cfg0.N) (r : Fin 1024) (d : Fin 1024) : iblk m c 8 t (ix2 r d) = (m (c.tc.loc main_arg8) (ix2 r d) : EReal) := (iblk_8 ..).trans (wo_at ..)

/-- The result array. -/
theorem final_array : (dats m 0 c).arrAt 9 cfg0.N = result (m (c.tc.loc main_arg0)) (m (c.tc.loc main_arg1)) (m (c.tc.loc main_arg2))
    (m (c.tc.loc main_arg3)) (m (c.tc.loc main_arg4)) (m (c.tc.loc main_arg5)) (m (c.tc.loc main_arg6)) (m (c.tc.loc main_arg7)) (m (c.tc.loc main_arg8)) := by
  refine (dats m 0 c).arrAt_eq_of_covers 9 _ (by decide +kernel) fun t hf y => ?_
  blk_simp
  rw [after0_9]
  frame_out
  obtain ⟨r, hr⟩ : ∃ r : Fin 512, y 0 = r := ⟨_, rfl⟩
  obtain ⟨d, hd⟩ : ∃ d : Fin 1024, y 1 = d := ⟨_, rfl⟩
  have hy : y = ix2 r d := (ValueIdx.eq_ix2 y).trans (by rw [hr, hd]; rfl)
  rw [hy]
  refine (pay_at (iblk m c 1 t) (iblk m c 3 t) (iblk m c 6 t) (iblk m c 2 t) (iblk m c 4 t) (iblk m c 7 t) (iblk m c 5 t) (iblk m c 0 t) (iblk m c 8 t) r d).trans ?_
  simp only [x_in, oa_in, ob_in, sga_in, sgb_in, g_in, wa_in, wb_in, wo_in]
  refine Eq.symm ((congrArg (result _ _ _ _ _ _ _ _ _) (?_ : _ = ix2 (rowOf t r) d)).trans rfl)
  blk_ext [index_9 t, rowOf]

end kernel

theorem algebraic : @algebraic_Kernel3Ideal_Reference3Ideal Kernel3Ideal.Gen.facts Reference3Ideal.Gen.facts := by
  intro m g m' g' _ hargs
  refine ⟨fun c => result (m (c.tc.loc main_arg0)) (m (c.tc.loc main_arg1)) (m (c.tc.loc main_arg2))
    (m (c.tc.loc main_arg3)) (m (c.tc.loc main_arg4)) (m (c.tc.loc main_arg5)) (m (c.tc.loc main_arg6)) (m (c.tc.loc main_arg7)) (m (c.tc.loc main_arg8)), ?_, ?_⟩
  · exact (θ_run _ _ _).mono (fun r h c => ⟨(h c).1.trans (final_array m c), (h c).2⟩) (Kernel3Ideal.Value.run_blocks m g)
  · refine (θ_run _ _ _).mono (fun r h c => ⟨(h c).1.trans ?_, (h c).2⟩) (Reference3Ideal.Value.run m' g')
    obtain ⟨h0, h1, h2, h3, h4, h5, h6, h7, h8⟩ := hargs c
    rw [h0, h1, h2, h3, h4, h5, h6, h7, h8]
    funext y
    rw [ValueIdx.eq_ix2 y]
    exact (rows_at _ _ _).trans (refMerge_at ..)

end Cert.Proof.Merge
-- ==== Proof.Merge.Frames.lean ====
/-
  The merge's claims other than the value: the kernel and its ideal version have the same text, so both frames are the one run's.
-/
module

public import proofs.«01_k».proof.Proof.Merge.Value
public import proofs.«01_k».proof.Proof.Gen.Kernel3

@[expose] public section

noncomputable section

namespace Cert.Proof.Merge

open Idealize.ShloMosaic Idealize.SL.Sem

attribute [local instance] Kernel3.Gen.facts Kernel3Ideal.Gen.facts in
/-- The two body tables are one. -/
theorem bodies : Kernel3.defs₀ (F := Bits) = Kernel3Ideal.defs₀ (F := Bits) := by
  unfold Kernel3.defs₀ Kernel3Ideal.defs₀
  refine congrArg Defs.onTc (funext fun l => ?_)
  match l with
  | 0 => exact funext fun (t, s) => rfl

attribute [local instance] Kernel3.Gen.facts Kernel3Ideal.Gen.facts in
theorem tables : Kernel3.defs (F := Bits) = Kernel3Ideal.defs (F := Bits) := congrArg (Pipeline.defs Kernel3Ideal.pcfgs) bodies

theorem frame_kernel : @quiescent_Kernel3 Kernel3.Gen.facts := fun m ρ _ => by
  rw [tables]
  exact Kernel3Ideal.Gen.frame (F := Bits) m ρ

theorem frame_kernelIdeal : @quiescent_Kernel3Ideal Kernel3Ideal.Gen.facts := fun m ρ _ => Kernel3Ideal.Gen.frame (F := Ideal) m ρ

theorem frame_reference : @quiescent_Reference3Ideal Reference3Ideal.Gen.facts := fun m ρ _ =>
  (θ_run _ _ _).mono (fun r h => ⟨fun c => (h c).2, sem_eq_zero_of_no_sems (by decide) r.2⟩) (Reference3Ideal.Value.run (F := Ideal) m ρ)

end Cert.Proof.Merge
-- ==== Proof.Step.Math.lean ====
/-
  The decoding step's projection: its results as arrays of the argument arrays, by the formulas of a row.
-/
module

public import proofs.«01_k».proof.Proof.Proj.Math

@[expose] public section

noncomputable section

namespace Cert.Proof.ProjStep

open Idealize.ShloMosaic Idealize.ShloMosaic.Pointwise Finset
open Cert.Proof.Proj (Arr vecOf matOf lane lanes heads logistic)

/-- The rotation's angle at position 8192, and its cosine and sine. -/
def angle (e : Fin 8) : EReal :=
  Ideal.ofBits .f32 1174405120#32 * Ideal.pow (Ideal.ofBits .f32 1223959552#32)
    (Ideal.div (-FloatOps.sitofp (F := Ideal) .f32 (BitVec.ofNat 32 e.val) * Ideal.ofBits .f32 1073741824#32) (Ideal.ofBits .f32 1098907648#32))
def cosOf (e : Fin 8) : EReal := Ideal.cos (angle e)
def sinOf (e : Fin 8) : EReal := Ideal.sin (angle e)

def rowOf (x : Arr ⟨3, ![32, 1, 1024]⟩) (b : Fin 32) : Fin 1024 → EReal := fun k => x (ix3 b 0 k)

section results
variable (x : Arr ⟨3, ![32, 1, 1024]⟩) (ng : Arr ⟨1, ![1024]⟩) (w : Arr ⟨2, ![1024, 6144]⟩) (bg : Arr ⟨1, ![2048]⟩) (g : Arr ⟨1, ![64]⟩)

/-- Lane `l` of the 512 from `o` on of sequence `b`, plain and after the heads' norm and rotation. -/
def laneAt (o : ℕ) (ho : o + 512 ≤ 6144) (b : Fin 32) (l : Fin 512) : EReal := lanes (rowOf x b) (vecOf ng) (matOf w) o ho l
def headAt (o : ℕ) (ho : o + 512 ≤ 6144) (b : Fin 32) (l : Fin 512) : EReal := heads (rowOf x b) (vecOf ng) (matOf w) (vecOf g) cosOf sinOf o ho l
def gateAt (b : Fin 32) (k : Fin 2048) : EReal := logistic (lane (rowOf x b) (vecOf ng) (matOf w) ⟨4096 + k.val, by omega⟩ + bg (ix1 k))
end results

/-- All sequences' rows, one after the other. -/
def rowsArr {n : ℕ} (f : Fin 32 → Fin n → EReal) : Arr ⟨2, ![32, n]⟩ := fun y => f (y 0) (y 1)

end Cert.Proof.ProjStep
-- ==== Proof.Step.Block.lean ====
/-
  The decoding step's projection over the extended reals: each result's buffer at an index, from the operands' blocks.
-/
module

public import proofs.«01_k».proof.Proof.Gen.Kernel4Ideal.Value
public import proofs.«01_k».proof.Proof.Step.Math
public import Idealize.ShloMosaic.Lib.Pointwise
public import Idealize.ShloMosaic.Lib.Pipeline.ValueKit

@[expose] public section

noncomputable section

namespace Cert.Proof.ProjStep

open Cert.Kernel4Ideal Cert.Kernel4Ideal.Gen Idealize.ShloMosaic Idealize.ShloMosaic.Pointwise Finset
open Cert.Proof.Proj (hidden lane lanes headNorm heads table table_mod rope_of_tables mean_of_halves logistic)

/-! ## Loads and payloads at an index -/

theorem ld_cols (w : Vec Ideal S1024x6144 .bf16) (o n : ℕ) (inb) (ho : o + n ≤ 6144) (j : Fin 1024) (l : Fin n) :
    View.ld w (Rect.unit (s := S1024x6144) ![0, o] ![1024, n] inb) (ix2 j l) = w (ix2 j ⟨o + l.val, by omega⟩) :=
  View.ld_unit_apply_of _ _ _ _ _ _ fun a => by
    fin_cases a
    · change j.val = 0 + j.val
      omega
    · rfl

/-- A row of a block, and a weight, as functions. -/
def rowX (x : Vec Ideal S32x1024 .f32) (r : Fin 32) : Fin 1024 → EReal := fun k => x (ix2 r k)
def rowG (ng : Vec Ideal S1x1024 .f32) : Fin 1024 → EReal := fun k => ng (ix2 0 k)
def matW (w : Vec Ideal S1024x6144 .bf16) : Fin 1024 → Fin 6144 → EReal := fun j k => w (ix2 j k)

theorem pay4_at (x : Vec Ideal S32x1024 .f32) (ng : Vec Ideal S1x1024 .f32) (r : Fin 32) (j : Fin 1024) :
    k0_pay4 x ng (ix2 r j) = hidden (rowX x r) (rowG ng) j := by
  pointwise [k0_pay4]
  rfl

theorem pay14_at (h : FVec Ideal S32x1024 .bf16) (y : Vec Ideal S1024x512 .bf16) (r : Fin 32) (l : Fin 512) :
    k0_pay14 h y (ix2 r l) = (∑ j : Fin 1024, h (ix2 r j) * y (ix2 j l) : EReal) := by
  pointwise [k0_pay14]

theorem pay8_at (x : Vec Ideal S32x1024 .f32) (ng : Vec Ideal S1x1024 .f32) (y : Vec Ideal S1024x512 .bf16) (r : Fin 32) (l : Fin 512) :
    k0_pay8 x ng y (ix2 r l) = (∑ j : Fin 1024, k0_pay4 x ng (ix2 r j) * y (ix2 j l) : EReal) := by
  pointwise [k0_pay8]

theorem pay16_at (h : FVec Ideal S32x1024 .bf16) (y : Vec Ideal S1024x512 .bf16) (s s' : Vec Ideal S256x256 .bf16) (r : Fin 32) (j : Fin 512) :
    k0_pay16 h y s s' (ix2 r j)
      = ((if h' : j.val < 256 then ∑ l : Fin 256, k0_pay14 h y (ix2 r ⟨l.val, by omega⟩) * k0_pay14 h y (ix2 r ⟨l.val, by omega⟩) * s (ix2 l ⟨j.val, h'⟩)
          else ∑ l : Fin 256, k0_pay14 h y (ix2 r ⟨256 + l.val, by omega⟩) * k0_pay14 h y (ix2 r ⟨256 + l.val, by omega⟩) * s' (ix2 l ⟨j.val - 256, by omega⟩))
        * Ideal.ofBits .f32 1015021568#32 : EReal) := by
  pointwise [k0_pay16]

theorem pay11_at (x : Vec Ideal S32x1024 .f32) (ng : Vec Ideal S1x1024 .f32) (y : Vec Ideal S1024x512 .bf16) (s : Vec Ideal S256x256 .bf16) (r : Fin 32) (j : Fin 256) :
    k0_pay11 x ng y s (ix2 r j)
      = (∑ l : Fin 256, k0_pay8 x ng y (ix2 r ⟨l.val, by omega⟩) * k0_pay8 x ng y (ix2 r ⟨l.val, by omega⟩) * s (ix2 l j) : EReal) := by
  pointwise [k0_pay11, k0_pay10]

theorem pay12_at (x : Vec Ideal S32x1024 .f32) (ng : Vec Ideal S1x1024 .f32) (y : Vec Ideal S1024x512 .bf16) (r : Fin 32) (j : Fin 256) :
    k0_pay12 x ng y (ix2 r j)
      = (k0_pay8 x ng y (ix2 r ⟨256 + j.val, by omega⟩) * k0_pay8 x ng y (ix2 r ⟨256 + j.val, by omega⟩) : EReal) := by
  pointwise [k0_pay12, k0_pay10]

theorem pay5_at (x : Vec Ideal S32x128 .f32) (r : Fin 32) (lo hi : Fin 8 → EReal) (z : EReal) (hx : ∀ l : Fin 128, x (ix2 r l) = table lo hi z l.val) (j : Fin 512) :
    k0_pay5 x (ix2 r j) = table lo hi z j.val := by
  pointwise [k0_pay5]
  split_ifs
  all_goals exact (hx _).trans (table_mod _ _ _ (by first | rfl | (simp only; omega)))
theorem pay6_at (x : Vec Ideal S32x128 .f32) (r : Fin 32) (lo hi : Fin 8 → EReal) (z : EReal) (hx : ∀ l : Fin 128, x (ix2 r l) = table lo hi z l.val) (j : Fin 512) :
    k0_pay6 x (ix2 r j) = table lo hi z j.val := pay5_at x r lo hi z hx j
theorem pay7_at (x : Vec Ideal S32x128 .f32) (r : Fin 32) (lo hi : Fin 8 → EReal) (z : EReal) (hx : ∀ l : Fin 128, x (ix2 r l) = table lo hi z l.val) (j : Fin 512) :
    k0_pay7 x (ix2 r j) = table lo hi z j.val := pay5_at x r lo hi z hx j

theorem pay17_at (c s1 s2 u : FVec Ideal S32x512 .f32) (g : FVec Ideal S1x512 .f32) (v : FVec Ideal S32x512 .f32) (r : Fin 32) (j : Fin 512)
    (y : Fin 512 → EReal) (hy : ∀ l, u (ix2 r l) * Ideal.rsqrt (v (ix2 r l) + Ideal.ofBits .f32 897988541#32) * g (ix2 0 l) = y l) :
    k0_pay17 (F := Ideal) c s1 s2 u g v (Scalar.ofBits .f32 0x358637BD#32) (ix2 r j)
      = (y j * c (ix2 r j) + y ⟨(j.val + 512 - 504) % 512, Nat.mod_lt _ (by decide)⟩ * s1 (ix2 r j)
        + y ⟨(j.val + 512 - 8) % 512, Nat.mod_lt _ (by decide)⟩ * s2 (ix2 r j) : EReal) := by
  pointwise [k0_pay17]
  simp only [hy]

theorem pay13_at (c s1 s2 u : FVec Ideal S32x512 .f32) (g : FVec Ideal S1x512 .f32) (v : FVec Ideal S32x256 .f32) (v' : FVec Ideal S32x256 .bf16)
    (w : Vec Ideal S256x256 .bf16) (r : Fin 32) (j : Fin 512) (y : Fin 512 → EReal)
    (hy : ∀ l : Fin 512, u (ix2 r l) * Ideal.rsqrt ((if h : l.val < 256 then v (ix2 r ⟨l.val, h⟩) else ∑ k : Fin 256, v' (ix2 r k) * w (ix2 k ⟨l.val - 256, by omega⟩))
      * Ideal.ofBits .f32 1015021568#32 + Ideal.ofBits .f32 897988541#32) * g (ix2 0 l) = y l) :
    k0_pay13 (F := Ideal) c s1 s2 u g v v' w (ix2 r j)
      = ((y j * c (ix2 r j) + y ⟨(j.val + 512 - 504) % 512, Nat.mod_lt _ (by decide)⟩ * s1 (ix2 r j)
        + y ⟨(j.val + 512 - 8) % 512, Nat.mod_lt _ (by decide)⟩ * s2 (ix2 r j)) * Ideal.ofBits .f32 1040187392#32 : EReal) := by
  pointwise [k0_pay13]
  simp only [← hy]

theorem pay20_at (h : FVec Ideal S32x1024 .bf16) (y : Vec Ideal S1024x512 .bf16) (r : Fin 32) (l : Fin 512) :
    k0_pay20 h y (ix2 r l) = (k0_pay14 h y (ix2 r l) * Ideal.ofBits .f32 1040187392#32 : EReal) := by
  pointwise [k0_pay20, k0_pay14]
theorem pay19_at (h : FVec Ideal S32x1024 .bf16) (y : Vec Ideal S1024x512 .bf16) (r : Fin 32) (l : Fin 512) :
    k0_pay1 (k0_pay19 h y) (ix2 r l) = (k0_pay14 h y (ix2 r l) * logistic (k0_pay14 h y (ix2 r l)) : EReal) := by
  unfold Proj.logistic
  rw [← zero_sub]
  pointwise [k0_pay1, k0_pay19, k0_pay14]
theorem pay23_at (h : FVec Ideal S32x1024 .bf16) (y : Vec Ideal S1024x512 .bf16) (r : Fin 32) (l : Fin 512) :
    k0_pay2 (k0_pay23 h y) (ix2 r l) = (k0_pay14 h y (ix2 r l) * logistic (k0_pay14 h y (ix2 r l)) : EReal) := pay19_at h y r l
theorem pay24_at (h : FVec Ideal S32x1024 .bf16) (y : Vec Ideal S1024x2048 .bf16) (b : Vec Ideal S1x2048 .f32) (r : Fin 32) (l : Fin 2048) :
    k0_pay3 (k0_pay24 h y b) (ix2 r l) = logistic ((∑ j : Fin 1024, (h (ix2 r j) : EReal) * (y (ix2 j l) : EReal)) + b (ix2 0 l)) := by
  unfold Proj.logistic
  rw [← zero_sub]
  pointwise [k0_pay3, k0_pay24]

/-! ## The results' buffers -/

section results
variable (x0 : Vec Ideal S32x1024 .f32) (x1 : Vec Ideal S1x1024 .f32) (x2 : Vec Ideal S1024x6144 .bf16) (x3 : Vec Ideal S1x2048 .f32)
  (x4 x5 : Vec Ideal S1x512 .f32) (x6 x7 x8 : Vec Ideal S32x128 .f32) (x9 : Vec Ideal S256x256 .bf16) (r : Fin 32)

theorem hid_at (j : Fin 1024) : k0_pay25 x0 x1 x2 x3 x4 x5 x6 x7 x8 x9 (ix2 r j) = hidden (rowX x0 r) (rowG x1) j := by
  unfold k0_pay25
  rw [View.ld_unit_lit (S := S32x1024) _ x0 (fun a => by fin_cases a <;> rfl), View.ld_unit_lit (S := S1x1024) _ x1 (fun a => by fin_cases a <;> rfl)]
  exact pay4_at ..

/-- The product of the normed rows and 512 columns of the weight. -/
theorem product_at (o : ℕ) (inb) (ho : o + 512 ≤ 6144) (l : Fin 512) :
    k0_pay14 (F := Ideal) (k0_pay25 x0 x1 x2 x3 x4 x5 x6 x7 x8 x9) (View.ld (Val := Elt Ideal) x2 (Rect.unit (s := S1024x6144) ![0, o] S1024x512.size inb)) (ix2 r l)
      = lanes (rowX x0 r) (rowG x1) (matW x2) o ho l := by
  rw [pay14_at]
  unfold lanes lane
  refine Finset.sum_congr rfl fun j _ => ?_
  rw [hid_at]
  exact congrArg (hidden (rowX x0 r) (rowG x1) j * ·) (ld_cols x2 o 512 inb ho j l)

theorem out12_at (l : Fin 512) : out0_12 x0 x1 x2 x3 x4 x5 x6 x7 x8 x9 (ix2 r l) = lanes (rowX x0 r) (rowG x1) (matW x2) 1024 (by decide) l := by
  unfold out0_12
  rw [View.canon_cons_unit_lit (S := S32x512) _ _ _ (fun a => by fin_cases a <;> rfl)]
  exact product_at x0 x1 x2 x3 x4 x5 x6 x7 x8 x9 r 1024 _ (by decide) l
theorem out14_at (l : Fin 512) : out0_14 x0 x1 x2 x3 x4 x5 x6 x7 x8 x9 (ix2 r l) = lanes (rowX x0 r) (rowG x1) (matW x2) 2560 (by decide) l := by
  unfold out0_14
  rw [View.canon_cons_unit_lit (S := S32x512) _ _ _ (fun a => by fin_cases a <;> rfl)]
  exact product_at x0 x1 x2 x3 x4 x5 x6 x7 x8 x9 r 2560 _ (by decide) l
theorem out15_at (l : Fin 512) : out0_15 x0 x1 x2 x3 x4 x5 x6 x7 x8 x9 (ix2 r l) = lanes (rowX x0 r) (rowG x1) (matW x2) 3072 (by decide) l := by
  unfold out0_15
  rw [View.canon_cons_unit_lit (S := S32x512) _ _ _ (fun a => by fin_cases a <;> rfl)]
  exact product_at x0 x1 x2 x3 x4 x5 x6 x7 x8 x9 r 3072 _ (by decide) l
theorem out13_at (l : Fin 512) : out0_13 x0 x1 x2 x3 x4 x5 x6 x7 x8 x9 (ix2 r l)
    = (lanes (rowX x0 r) (rowG x1) (matW x2) 2048 (by decide) l * Ideal.ofBits .f32 1040187392#32 : EReal) := by
  unfold out0_13
  rw [View.canon_cons_unit_lit (S := S32x512) _ _ _ (fun a => by fin_cases a <;> rfl)]
  rw [pay20_at, product_at x0 x1 x2 x3 x4 x5 x6 x7 x8 x9 r 2048 _ (by decide) l]
theorem out16_at (l : Fin 512) : out0_16 x0 x1 x2 x3 x4 x5 x6 x7 x8 x9 (ix2 r l)
    = (lanes (rowX x0 r) (rowG x1) (matW x2) 1536 (by decide) l * logistic (lanes (rowX x0 r) (rowG x1) (matW x2) 1536 (by decide) l) : EReal) := by
  unfold out0_16
  rw [View.canon_cons_unit_lit (S := S32x512) _ _ _ (fun a => by fin_cases a <;> rfl)]
  rw [pay19_at, product_at x0 x1 x2 x3 x4 x5 x6 x7 x8 x9 r 1536 _ (by decide) l]
theorem out17_at (l : Fin 512) : out0_17 x0 x1 x2 x3 x4 x5 x6 x7 x8 x9 (ix2 r l)
    = (lanes (rowX x0 r) (rowG x1) (matW x2) 3584 (by decide) l * logistic (lanes (rowX x0 r) (rowG x1) (matW x2) 3584 (by decide) l) : EReal) := by
  unfold out0_17
  rw [View.canon_cons_unit_lit (S := S32x512) _ _ _ (fun a => by fin_cases a <;> rfl)]
  rw [pay23_at, product_at x0 x1 x2 x3 x4 x5 x6 x7 x8 x9 r 3584 _ (by decide) l]
theorem out18_at (k : Fin 2048) : out0_18 x0 x1 x2 x3 x4 x5 x6 x7 x8 x9 (ix2 r k)
    = logistic (lane (rowX x0 r) (rowG x1) (matW x2) ⟨4096 + k.val, by omega⟩ + x3 (ix2 0 k)) := by
  unfold out0_18
  rw [View.canon_cons_unit_lit (S := S32x2048) _ _ _ (fun a => by fin_cases a <;> rfl), View.ld_unit_lit (S := S1x2048) _ x3 (fun a => by fin_cases a <;> rfl)]
  rw [pay24_at]
  refine congrArg (fun v : EReal => logistic (v + x3 (ix2 0 k))) (Finset.sum_congr rfl fun j _ => ?_)
  rw [hid_at]
  exact congrArg (hidden (rowX x0 r) (rowG x1) j * ·) (ld_cols x2 4096 2048 _ (by decide) j k)

variable (g : Fin 64 → EReal) (cS sN : Fin 8 → EReal)

/-- The tables' rows hold the rotation, and the marking matrix marks each head. -/
structure Tables : Prop where
  cos : ∀ l : Fin 128, x6 (ix2 r l) = table cS cS 1 l.val
  below : ∀ l : Fin 128, x7 (ix2 r l) = table (fun e => -sN e) (fun _ => 0) 0 l.val
  above : ∀ l : Fin 128, x8 (ix2 r l) = table (fun _ => 0) sN 0 l.val
  marks : ∀ l k : Fin 256, x9 (ix2 l k) = (if l.val / 64 = k.val / 64 then 1 else 0 : EReal)

variable (T : Tables x6 x7 x8 x9 r cS sN)
include T

theorem out11_at (hg : ∀ l : Fin 512, x5 (ix2 0 l) = g ⟨l.val % 64, by omega⟩) (l : Fin 512) :
    out0_11 x0 x1 x2 x3 x4 x5 x6 x7 x8 x9 (ix2 r l) = heads (rowX x0 r) (rowG x1) (matW x2) g cS sN 512 (by decide) l := by
  have hu : ∀ l, k0_pay14 (k0_pay25 x0 x1 x2 x3 x4 x5 x6 x7 x8 x9) (View.ld x2 r0_6) (ix2 r l) = lanes (rowX x0 r) (rowG x1) (matW x2) 512 (by decide) l :=
    fun l => product_at x0 x1 x2 x3 x4 x5 x6 x7 x8 x9 r 512 _ (by decide) l
  unfold out0_11 k0_pay26 k0_pay27 k0_pay28
  rw [View.canon_cons_unit_lit (S := S32x512) _ _ _ (fun a => by fin_cases a <;> rfl),
    View.ld_unit_lit (S := S32x128) _ x6 (fun a => by fin_cases a <;> rfl), View.ld_unit_lit (S := S32x128) _ x7 (fun a => by fin_cases a <;> rfl),
    View.ld_unit_lit (S := S32x128) _ x8 (fun a => by fin_cases a <;> rfl), View.ld_unit_lit (S := S256x256) _ x9 (fun a => by fin_cases a <;> rfl),
    View.ld_unit_lit (S := S1x512) _ x5 (fun a => by fin_cases a <;> rfl)]
  refine (pay17_at _ _ _ _ _ _ r l (headNorm (lanes (rowX x0 r) (rowG x1) (matW x2) 512 (by decide)) g) fun j => ?_).trans ?_
  · rw [pay16_at]
    simp only [hu, T.marks, mean_of_halves]
    rw [show k0_pay15 x5 (ix2 0 j) = g ⟨j.val % 64, by omega⟩ from (by pointwise [k0_pay15]; exact hg j)]
    rfl
  · rw [pay5_at x6 r _ _ _ T.cos, pay6_at x7 r _ _ _ T.below, pay7_at x8 r _ _ _ T.above]
    exact rope_of_tables ..

theorem out10_at (hg : ∀ l : Fin 512, x4 (ix2 0 l) = g ⟨l.val % 64, by omega⟩) (l : Fin 512) :
    out0_10 x0 x1 x2 x3 x4 x5 x6 x7 x8 x9 (ix2 r l)
      = (heads (rowX x0 r) (rowG x1) (matW x2) g cS sN 0 (by decide) l * Ideal.ofBits .f32 1040187392#32 : EReal) := by
  have hu : ∀ l, k0_pay8 (View.ld x0 r0_0) (View.ld x1 r0_1) (View.ld x2 r0_3) (ix2 r l) = lanes (rowX x0 r) (rowG x1) (matW x2) 0 (by decide) l :=
    fun l => product_at x0 x1 x2 x3 x4 x5 x6 x7 x8 x9 r 0 _ (by decide) l
  unfold out0_10 k0_pay26 k0_pay27 k0_pay28
  rw [View.canon_cons_unit_lit (S := S32x512) _ _ _ (fun a => by fin_cases a <;> rfl),
    View.ld_unit_lit (S := S32x128) _ x6 (fun a => by fin_cases a <;> rfl), View.ld_unit_lit (S := S32x128) _ x7 (fun a => by fin_cases a <;> rfl),
    View.ld_unit_lit (S := S32x128) _ x8 (fun a => by fin_cases a <;> rfl), View.ld_unit_lit (S := S256x256) _ x9 (fun a => by fin_cases a <;> rfl),
    View.ld_unit_lit (S := S1x512) _ x4 (fun a => by fin_cases a <;> rfl)]
  refine (pay13_at _ _ _ _ _ _ _ _ r l (headNorm (lanes (rowX x0 r) (rowG x1) (matW x2) 0 (by decide)) g) fun j => ?_).trans ?_
  · simp only [pay11_at, pay12_at, hu, T.marks, mean_of_halves]
    rw [show k0_pay9 x4 (ix2 0 j) = g ⟨j.val % 64, by omega⟩ from (by pointwise [k0_pay9]; exact hg j)]
    rfl
  · rw [pay5_at x6 r _ _ _ T.cos, pay6_at x7 r _ _ _ T.below, pay7_at x8 r _ _ _ T.above, rope_of_tables]
    rfl

end results

end Cert.Proof.ProjStep
-- ==== Proof.Step.Host.lean ====
/-
  The decoding step's projection over the extended reals: each operand's block, which is the whole array that the host computes before the call.
-/
module

public import proofs.«01_k».proof.Proof.Gen.Kernel4Ideal.Value
public import proofs.«01_k».proof.Proof.Step.Math
public import proofs.«01_k».proof.Proof.Proj.Host
public import Idealize.ShloMosaic.Lib.Pipeline.ValueKit
public import Idealize.ShloMosaic.Lib.StableHlo.ReadAt

@[expose] public section

noncomputable section

namespace Cert.Proof.ProjStep

open Cert.Kernel4Ideal Cert.Kernel4Ideal.Gen Idealize.ShloMosaic Idealize.ShloMosaic.Pointwise Idealize.ShloMosaic.TcCoe Idealize.SL.Sem Finset
open Cert.Proof.Proj (table groupWord groupWord_eq same_group)

variable (m : (ℓ : Loc nD τ sig) → Buf (Elt Ideal) ℓ) (c : Dev nD) (t : Fin cfg0.N)

theorem index_0 : ∀ t : Fin cfg0.N, win0_0.index t = ![0, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![0, 0] := (by decide +kernel : ∀ t : Fin grid0.N, _)
theorem index_3 : ∀ t : Fin cfg0.N, win0_3.index t = ![0, 0] := (by decide +kernel : ∀ t : Fin grid0.N, _)
theorem index_4 : ∀ t : Fin cfg0.N, win0_4.index t = ![0, 0] := (by decide +kernel : ∀ t : Fin grid0.N, _)
theorem index_5 : ∀ t : Fin cfg0.N, win0_5.index t = ![0, 0] := (by decide +kernel : ∀ t : Fin grid0.N, _)
theorem index_6 : ∀ t : Fin cfg0.N, win0_6.index t = ![0, 0] := (by decide +kernel : ∀ t : Fin grid0.N, _)
theorem index_7 : ∀ t : Fin cfg0.N, win0_7.index t = ![0, 0] := (by decide +kernel : ∀ t : Fin grid0.N, _)
theorem index_8 : ∀ t : Fin cfg0.N, win0_8.index t = ![0, 0] := (by decide +kernel : ∀ t : Fin grid0.N, _)
theorem index_9 : ∀ t : Fin cfg0.N, win0_9.index t = ![0, 0] := (by decide +kernel : ∀ t : Fin grid0.N, _)

theorem x_in (r : Fin 32) (d : Fin 1024) : iblk m c 0 t (ix2 r d) = (m (c.tc.loc main_arg0) (ix3 r 0 d) : EReal) := by
  refine Eq.trans (b := V m c main_v52 (ix2 r d)) ?_ ?_
  · blk_simp [iblk]
    refine congrArg (V m c main_v52) ?_
    blk_ext [index_0 t]
  · unfold V
    after_reads_at
theorem ng_in (d : Fin 1024) : iblk m c 1 t (ix2 0 d) = (m (c.tc.loc main_arg1) (ix1 d) : EReal) := by
  refine Eq.trans (b := V m c main_v41 (ix2 0 d)) ?_ ?_
  · blk_simp [iblk]
    refine congrArg (V m c main_v41) ?_
    blk_ext [index_1 t]
  · unfold V
    after_reads_at
theorem w_in (r : Fin 1024) (d : Fin 6144) : iblk m c 2 t (ix2 r d) = (m (c.tc.loc main_arg2) (ix2 r d) : EReal) := by
  refine Eq.trans (b := V m c main_v42 (ix2 r d)) ?_ ?_
  · blk_simp [iblk]
    refine congrArg (V m c main_v42) ?_
    blk_ext [index_2 t]
  · unfold V
    after_reads_at
theorem bg_in (d : Fin 2048) : iblk m c 3 t (ix2 0 d) = (m (c.tc.loc main_arg3) (ix1 d) : EReal) := by
  refine Eq.trans (b := V m c main_v43 (ix2 0 d)) ?_ ?_
  · blk_simp [iblk]
    refine congrArg (V m c main_v43) ?_
    blk_ext [index_3 t]
  · unfold V
    after_reads_at
theorem qg_in (l : Fin 512) : iblk m c 4 t (ix2 0 l) = (m (c.tc.loc main_arg4) (ix1 ⟨l.val % 64, by omega⟩) : EReal) := by
  refine Eq.trans (b := V m c main_v47 (ix2 0 l)) ?_ ?_
  · blk_simp [iblk]
    refine congrArg (V m c main_v47) ?_
    blk_ext [index_4 t]
  · unfold V
    after_reads_at
theorem kg_in (l : Fin 512) : iblk m c 5 t (ix2 0 l) = (m (c.tc.loc main_arg5) (ix1 ⟨l.val % 64, by omega⟩) : EReal) := by
  refine Eq.trans (b := V m c main_v51 (ix2 0 l)) ?_ ?_
  · blk_simp [iblk]
    refine congrArg (V m c main_v51) ?_
    blk_ext [index_5 t]
  · unfold V
    after_reads_at
theorem cos_in (r : Fin 32) (l : Fin 128) : iblk m c 6 t (ix2 r l) = table cosOf cosOf 1 l.val := by
  refine Eq.trans (b := V m c main_v34 (ix2 r l)) ?_ ?_
  · blk_simp [iblk]
    refine congrArg (V m c main_v34) ?_
    blk_ext [index_6 t]
  · unfold V
    after_reads_at
    after_reads_at
    rfl
theorem below_in (r : Fin 32) (l : Fin 128) : iblk m c 7 t (ix2 r l) = table (fun e => -sinOf e) (fun _ => 0) 0 l.val := by
  refine Eq.trans (b := V m c main_v37 (ix2 r l)) ?_ ?_
  · blk_simp [iblk]
    refine congrArg (V m c main_v37) ?_
    blk_ext [index_7 t]
  · unfold V
    after_reads_at
    after_reads_at
    rfl
theorem above_in (r : Fin 32) (l : Fin 128) : iblk m c 8 t (ix2 r l) = table (fun _ => 0) sinOf 0 l.val := by
  refine Eq.trans (b := V m c main_v40 (ix2 r l)) ?_ ?_
  · blk_simp [iblk]
    refine congrArg (V m c main_v40) ?_
    blk_ext [index_8 t]
  · unfold V
    after_reads_at
    after_reads_at
    rfl
theorem marks_in (l k : Fin 256) : iblk m c 9 t (ix2 l k) = (if l.val / 64 = k.val / 64 then 1 else 0 : EReal) := by
  have h : V m c main_v7 (ix2 l k) = FloatOps.uitofp (F := Ideal) .bf16 (IntOp.cmpi .eq (groupWord (BitVec.ofNat 32 l.val)) (groupWord (BitVec.ofNat 32 k.val))) := by
    unfold V
    after_reads_at
    rfl
  refine Eq.trans (b := V m c main_v7 (ix2 l k)) ?_ ?_
  · blk_simp [iblk]
    refine congrArg (V m c main_v7) ?_
    blk_ext [index_9 t]
  rw [h, groupWord_eq, groupWord_eq]
  refine (congrArg (FloatOps.uitofp (F := Ideal) .bf16) (same_group ⟨l.val / 64, by omega⟩ ⟨k.val / 64, by omega⟩)).trans ?_
  by_cases h : l.val / 64 = k.val / 64
  · simp [h, FloatOps.uitofp]
  · simp [h, FloatOps.uitofp]

end Cert.Proof.ProjStep
-- ==== Proof.Step.Value.lean ====
/-
  The decoding step's projection over the extended reals: the nine result arrays.
-/
module

public import proofs.«01_k».proof.Proof.Step.Block
public import proofs.«01_k».proof.Proof.Step.Host

@[expose] public section

noncomputable section

namespace Cert.Proof.ProjStep

open Cert.Kernel4Ideal Cert.Kernel4Ideal.Gen Idealize.ShloMosaic Idealize.ShloMosaic.Pointwise Idealize.ShloMosaic.TcCoe Idealize.SL.Sem Finset
open Cert.Proof.Proj (vecOf matOf lane lanes heads logistic)

variable (m : (ℓ : Loc nD τ sig) → Buf (Elt Ideal) ℓ) (c : Dev nD)

theorem rowX_in (t : Fin cfg0.N) (r : Fin 32) : rowX (iblk m c 0 t) r = rowOf (m (c.tc.loc main_arg0)) r := funext fun k => x_in m c t r k
theorem rowG_in (t : Fin cfg0.N) : rowG (iblk m c 1 t) = vecOf (m (c.tc.loc main_arg1)) := funext fun k => ng_in m c t k
theorem matW_in (t : Fin cfg0.N) : matW (iblk m c 2 t) = matOf (m (c.tc.loc main_arg2)) := funext fun j => funext fun k => w_in m c t j k
theorem tables_in (t : Fin cfg0.N) (r : Fin 32) : Tables (iblk m c 6 t) (iblk m c 7 t) (iblk m c 8 t) (iblk m c 9 t) r cosOf sinOf :=
  ⟨cos_in m c t r, below_in m c t r, above_in m c t r, marks_in m c t⟩

theorem index_10 : ∀ t : Fin cfg0.N, win0_10.index t = ![0, 0] := (by decide +kernel : ∀ t : Fin grid0.N, _)
theorem index_11 : ∀ t : Fin cfg0.N, win0_11.index t = ![0, 0] := (by decide +kernel : ∀ t : Fin grid0.N, _)
theorem index_12 : ∀ t : Fin cfg0.N, win0_12.index t = ![0, 0] := (by decide +kernel : ∀ t : Fin grid0.N, _)
theorem index_13 : ∀ t : Fin cfg0.N, win0_13.index t = ![0, 0] := (by decide +kernel : ∀ t : Fin grid0.N, _)
theorem index_14 : ∀ t : Fin cfg0.N, win0_14.index t = ![0, 0] := (by decide +kernel : ∀ t : Fin grid0.N, _)
theorem index_15 : ∀ t : Fin cfg0.N, win0_15.index t = ![0, 0] := (by decide +kernel : ∀ t : Fin grid0.N, _)
theorem index_16 : ∀ t : Fin cfg0.N, win0_16.index t = ![0, 0] := (by decide +kernel : ∀ t : Fin grid0.N, _)
theorem index_17 : ∀ t : Fin cfg0.N, win0_17.index t = ![0, 0] := (by decide +kernel : ∀ t : Fin grid0.N, _)
theorem index_18 : ∀ t : Fin cfg0.N, win0_18.index t = ![0, 0] := (by decide +kernel : ∀ t : Fin grid0.N, _)

theorem array_10 : (dats m 0 c).arrAt 10 cfg0.N
    = rowsArr fun b l => headAt (m (c.tc.loc main_arg0)) (m (c.tc.loc main_arg1)) (m (c.tc.loc main_arg2)) (m (c.tc.loc main_arg4)) 0 (by decide) b l * Ideal.ofBits .f32 1040187392#32 := by
  refine (dats m 0 c).arrAt_eq_of_covers 10 _ (by decide +kernel) fun t hf y => ?_
  blk_simp
  rw [after0_10]
  obtain ⟨r, l, rfl⟩ : ∃ (r : Fin 32) (l : Fin 512), y = ix2 r l := ⟨_, _, ValueIdx.eq_ix2 y⟩
  refine (out10_at _ _ _ _ _ _ _ _ _ _ r (vecOf (m (c.tc.loc main_arg4))) _ _ (tables_in m c t r) (qg_in m c t) l).trans ?_
  rw [rowX_in, rowG_in, matW_in]
  refine Eq.symm ((congrArg (rowsArr _) (?_ : _ = ix2 r l)).trans rfl)
  blk_ext [index_10 t]
theorem array_11 : (dats m 0 c).arrAt 11 cfg0.N
    = rowsArr (headAt (m (c.tc.loc main_arg0)) (m (c.tc.loc main_arg1)) (m (c.tc.loc main_arg2)) (m (c.tc.loc main_arg5)) 512 (by decide)) := by
  refine (dats m 0 c).arrAt_eq_of_covers 11 _ (by decide +kernel) fun t hf y => ?_
  blk_simp
  rw [after0_11]
  obtain ⟨r, l, rfl⟩ : ∃ (r : Fin 32) (l : Fin 512), y = ix2 r l := ⟨_, _, ValueIdx.eq_ix2 y⟩
  refine (out11_at _ _ _ _ _ _ _ _ _ _ r (vecOf (m (c.tc.loc main_arg5))) _ _ (tables_in m c t r) (kg_in m c t) l).trans ?_
  rw [rowX_in, rowG_in, matW_in]
  refine Eq.symm ((congrArg (rowsArr _) (?_ : _ = ix2 r l)).trans rfl)
  blk_ext [index_11 t]
theorem array_12 : (dats m 0 c).arrAt 12 cfg0.N = rowsArr (laneAt (m (c.tc.loc main_arg0)) (m (c.tc.loc main_arg1)) (m (c.tc.loc main_arg2)) 1024 (by decide)) := by
  refine (dats m 0 c).arrAt_eq_of_covers 12 _ (by decide +kernel) fun t hf y => ?_
  blk_simp
  rw [after0_12]
  obtain ⟨r, l, rfl⟩ : ∃ (r : Fin 32) (l : Fin 512), y = ix2 r l := ⟨_, _, ValueIdx.eq_ix2 y⟩
  refine (out12_at _ _ _ _ _ _ _ _ _ _ r l).trans ?_
  rw [rowX_in, rowG_in, matW_in]
  refine Eq.symm ((congrArg (rowsArr _) (?_ : _ = ix2 r l)).trans rfl)
  blk_ext [index_12 t]
theorem array_13 : (dats m 0 c).arrAt 13 cfg0.N
    = rowsArr fun b l => laneAt (m (c.tc.loc main_arg0)) (m (c.tc.loc main_arg1)) (m (c.tc.loc main_arg2)) 2048 (by decide) b l * Ideal.ofBits .f32 1040187392#32 := by
  refine (dats m 0 c).arrAt_eq_of_covers 13 _ (by decide +kernel) fun t hf y => ?_
  blk_simp
  rw [after0_13]
  obtain ⟨r, l, rfl⟩ : ∃ (r : Fin 32) (l : Fin 512), y = ix2 r l := ⟨_, _, ValueIdx.eq_ix2 y⟩
  refine (out13_at _ _ _ _ _ _ _ _ _ _ r l).trans ?_
  rw [rowX_in, rowG_in, matW_in]
  refine Eq.symm ((congrArg (rowsArr _) (?_ : _ = ix2 r l)).trans rfl)
  blk_ext [index_13 t]
theorem array_14 : (dats m 0 c).arrAt 14 cfg0.N = rowsArr (laneAt (m (c.tc.loc main_arg0)) (m (c.tc.loc main_arg1)) (m (c.tc.loc main_arg2)) 2560 (by decide)) := by
  refine (dats m 0 c).arrAt_eq_of_covers 14 _ (by decide +kernel) fun t hf y => ?_
  blk_simp
  rw [after0_14]
  obtain ⟨r, l, rfl⟩ : ∃ (r : Fin 32) (l : Fin 512), y = ix2 r l := ⟨_, _, ValueIdx.eq_ix2 y⟩
  refine (out14_at _ _ _ _ _ _ _ _ _ _ r l).trans ?_
  rw [rowX_in, rowG_in, matW_in]
  refine Eq.symm ((congrArg (rowsArr _) (?_ : _ = ix2 r l)).trans rfl)
  blk_ext [index_14 t]
theorem array_15 : (dats m 0 c).arrAt 15 cfg0.N = rowsArr (laneAt (m (c.tc.loc main_arg0)) (m (c.tc.loc main_arg1)) (m (c.tc.loc main_arg2)) 3072 (by decide)) := by
  refine (dats m 0 c).arrAt_eq_of_covers 15 _ (by decide +kernel) fun t hf y => ?_
  blk_simp
  rw [after0_15]
  obtain ⟨r, l, rfl⟩ : ∃ (r : Fin 32) (l : Fin 512), y = ix2 r l := ⟨_, _, ValueIdx.eq_ix2 y⟩
  refine (out15_at _ _ _ _ _ _ _ _ _ _ r l).trans ?_
  rw [rowX_in, rowG_in, matW_in]
  refine Eq.symm ((congrArg (rowsArr _) (?_ : _ = ix2 r l)).trans rfl)
  blk_ext [index_15 t]
theorem array_16 : (dats m 0 c).arrAt 16 cfg0.N
    = rowsArr fun b l => laneAt (m (c.tc.loc main_arg0)) (m (c.tc.loc main_arg1)) (m (c.tc.loc main_arg2)) 1536 (by decide) b l
        * logistic (laneAt (m (c.tc.loc main_arg0)) (m (c.tc.loc main_arg1)) (m (c.tc.loc main_arg2)) 1536 (by decide) b l) := by
  refine (dats m 0 c).arrAt_eq_of_covers 16 _ (by decide +kernel) fun t hf y => ?_
  blk_simp
  rw [after0_16]
  obtain ⟨r, l, rfl⟩ : ∃ (r : Fin 32) (l : Fin 512), y = ix2 r l := ⟨_, _, ValueIdx.eq_ix2 y⟩
  refine (out16_at _ _ _ _ _ _ _ _ _ _ r l).trans ?_
  rw [rowX_in, rowG_in, matW_in]
  refine Eq.symm ((congrArg (rowsArr _) (?_ : _ = ix2 r l)).trans rfl)
  blk_ext [index_16 t]
theorem array_17 : (dats m 0 c).arrAt 17 cfg0.N
    = rowsArr fun b l => laneAt (m (c.tc.loc main_arg0)) (m (c.tc.loc main_arg1)) (m (c.tc.loc main_arg2)) 3584 (by decide) b l
        * logistic (laneAt (m (c.tc.loc main_arg0)) (m (c.tc.loc main_arg1)) (m (c.tc.loc main_arg2)) 3584 (by decide) b l) := by
  refine (dats m 0 c).arrAt_eq_of_covers 17 _ (by decide +kernel) fun t hf y => ?_
  blk_simp
  rw [after0_17]
  obtain ⟨r, l, rfl⟩ : ∃ (r : Fin 32) (l : Fin 512), y = ix2 r l := ⟨_, _, ValueIdx.eq_ix2 y⟩
  refine (out17_at _ _ _ _ _ _ _ _ _ _ r l).trans ?_
  rw [rowX_in, rowG_in, matW_in]
  refine Eq.symm ((congrArg (rowsArr _) (?_ : _ = ix2 r l)).trans rfl)
  blk_ext [index_17 t]
theorem array_18 : (dats m 0 c).arrAt 18 cfg0.N
    = rowsArr (gateAt (m (c.tc.loc main_arg0)) (m (c.tc.loc main_arg1)) (m (c.tc.loc main_arg2)) (m (c.tc.loc main_arg3))) := by
  refine (dats m 0 c).arrAt_eq_of_covers 18 _ (by decide +kernel) fun t hf y => ?_
  blk_simp
  rw [after0_18]
  obtain ⟨r, l, rfl⟩ : ∃ (r : Fin 32) (l : Fin 2048), y = ix2 r l := ⟨_, _, ValueIdx.eq_ix2 y⟩
  refine (out18_at _ _ _ _ _ _ _ _ _ _ r l).trans ?_
  rw [rowX_in, rowG_in, matW_in, bg_in]
  refine Eq.symm ((congrArg (rowsArr _) (?_ : _ = ix2 r l)).trans rfl)
  blk_ext [index_18 t]

end Cert.Proof.ProjStep
-- ==== Proof.Step.Reference.lean ====
/-
  The decoding step's projection as the reference computes it: each result as an array of the argument arrays.
-/
module

public import proofs.«01_k».proof.Proof.Gen.Reference4Ideal.Run
public import proofs.«01_k».proof.Proof.Step.Math
public import Idealize.ShloMosaic.Lib.Pointwise

@[expose] public section

noncomputable section

namespace Cert.Proof.ProjStep.Ref

open Cert.Reference4Ideal Cert.Reference4Ideal.Gen Cert.Reference4Ideal.Value Idealize.ShloMosaic Idealize.ShloMosaic.Pointwise Idealize.ShloMosaic.TcCoe Finset
open Cert.Proof.Proj (vecOf matOf lane lanes headNorm headNorm_at heads rope_at logistic)

variable (x : FVec Ideal S32x1x1024 .f32) (ng : FVec Ideal S1024 .f32) (w : FVec Ideal S1024x6144 .f32) (bg : FVec Ideal S2048 .f32) (g : FVec Ideal S64 .f32)

/-- The projected rows. -/
def projected : FVec Ideal S32x1x6144 .f32 :=
  Host.dotGeneral (F := Ideal) (φ₁ := .f32) (φ₂ := .f32) dot_S32x1x1024_S1024x6144_S32x1x6144_2_0_01_1_n_n none (mulf (mulf x (broadcastInDim S32x1x1024 ![0, 1, 2] bcast_S32x1x1_S32x1x1024_0_1_2 (Host.rsqrt (addf (Host.divf (broadcastInDim S32x1x1 ![0, 1] bcast_S32x1_S32x1x1_0_1 (Host.reduceAdd (mulf x x) (constant S_ .f32 0x00000000#32) reducesTo_S32x1x1024_S32x1_d2 h_S_)) (broadcastInDim S32x1x1 ![] bcast_S_S32x1x1 (constant S_ .f32 0x44800000#32))) (broadcastInDim S32x1x1 ![] bcast_S_S32x1x1 (constant S_ .f32 0x358637BD#32)))))) (broadcastInDim S32x1x1024 ![0, 1, 2] bcast_S1x1x1024_S32x1x1024_0_1_2 (broadcastInDim S1x1x1024 ![2] bcast_S1024_S1x1x1024_2 ng))) w

theorem projected_at (b : Fin 32) (k : Fin 6144) : projected x ng w (ix3 b 0 k) = lane (rowOf x b) (vecOf ng) (matOf w) k := by
  pointwise [projected]
  rfl

/-- Eight heads, each normed. -/
def normed (a : FVec Ideal S32x1x512 .f32) : FVec Ideal S32x1x8x64 .f32 :=
  mulf (mulf (shapeCast S32x1x8x64 a shapeCasts_S32x1x512_S32x1x8x64) (broadcastInDim S32x1x8x64 ![0, 1, 2, 3] bcast_S32x1x8x1_S32x1x8x64_0_1_2_3 (Host.rsqrt (addf (Host.divf (broadcastInDim S32x1x8x1 ![0, 1, 2] bcast_S32x1x8_S32x1x8x1_0_1_2 (Host.reduceAdd (mulf (shapeCast S32x1x8x64 a shapeCasts_S32x1x512_S32x1x8x64) (shapeCast S32x1x8x64 a shapeCasts_S32x1x512_S32x1x8x64)) (constant S_ .f32 0x00000000#32) reducesTo_S32x1x8x64_S32x1x8_d3 h_S_)) (broadcastInDim S32x1x8x1 ![] bcast_S_S32x1x8x1 (constant S_ .f32 0x42800000#32))) (broadcastInDim S32x1x8x1 ![] bcast_S_S32x1x8x1 (constant S_ .f32 0x358637BD#32)))))) (broadcastInDim S32x1x8x64 ![0, 1, 2, 3] bcast_S1x1x1x64_S32x1x8x64_0_1_2_3 (broadcastInDim S1x1x1x64 ![3] bcast_S64_S1x1x1x64_3 g))

theorem normed_at (a : FVec Ideal S32x1x512 .f32) (b : Fin 32) (h : Fin 8) (e : Fin 64) :
    normed g a (ix4 b 0 h e) = headNorm (fun l => a (ix3 b 0 l)) (vecOf g) ⟨h.val * 64 + e.val, by omega⟩ := by
  rw [headNorm_at]
  pointwise [normed]
  rfl

/-- The angles of the one position, and their cosines and sines. -/
def angles : FVec Ideal S1x8 .f32 :=
  mulf (broadcastInDim S1x8 ![0, 1] bcast_S1x1_S1x8_0_1 (broadcastInDim S1x1 ![0] bcast_S1_S1x1_0 (addf (sitofp .f32 (iotaInDim S1 32 0)) (broadcastInDim S1 ![] bcast_S_S1 (constant S_ .f32 0x46000000#32))))) (broadcastInDim S1x8 ![1] bcast_S8_S1x8_1 (Host.powf (broadcastInDim S8 ![] bcast_S_S8 (constant S_ .f32 0x48F42400#32)) (Host.divf (mulf (Host.negf (sitofp .f32 (iotaInDim S8 32 0))) (broadcastInDim S8 ![] bcast_S_S8 (constant S_ .f32 0x40000000#32))) (broadcastInDim S8 ![] bcast_S_S8 (constant S_ .f32 0x41800000#32)))))
def spread (v : FVec Ideal S1x8 .f32) : FVec Ideal S32x1x8x8 .f32 :=
  broadcastInDim S32x1x8x8 ![0, 1, 2, 3] bcast_S1x1x1x8_S32x1x8x8_0_1_2_3 (broadcastInDim S1x1x1x8 ![1, 3] bcast_S1x8_S1x1x1x8_1_3 v)

theorem position : (FloatOps.sitofp (F := Ideal) .f32 (BitVec.ofNat 32 0) : EReal) = 0 := by
  simp [FloatOps.sitofp]

theorem angles_at (e : Fin 8) : angles (ix2 0 e) = angle e := by
  pointwise [angles]
  unfold angle
  rw [position, zero_add]
theorem spread_at (v : FVec Ideal S1x8 .f32) (b : Fin 32) (h e : Fin 8) : spread v (ix4 b 0 h e) = v (ix2 0 e) := by
  pointwise [spread]

/-- The heads with the rotation of their first 16 lanes. -/
def rotated (y : FVec Ideal S32x1x8x64 .f32) (cs sn : FVec Ideal S32x1x8x8 .f32) : FVec Ideal S32x1x8x64 .f32 :=
  concatenate S32x1x8x64 3 [⟨S32x1x8x16, (concatenate S32x1x8x16 3 [⟨S32x1x8x8, (subf (mulf (extractStridedSlice S32x1x8x8 ![0, 0, 0, 0] y slices_S32x1x8x64_S32x1x8x8_0_0_0_0) cs) (mulf (extractStridedSlice S32x1x8x8 ![0, 0, 0, 8] y slices_S32x1x8x64_S32x1x8x8_0_0_0_8) sn))⟩, ⟨S32x1x8x8, (addf (mulf (extractStridedSlice S32x1x8x8 ![0, 0, 0, 8] y slices_S32x1x8x64_S32x1x8x8_0_0_0_8) cs) (mulf (extractStridedSlice S32x1x8x8 ![0, 0, 0, 0] y slices_S32x1x8x64_S32x1x8x8_0_0_0_0) sn))⟩] concatenates_S32x1x8x8_S32x1x8x8_S32x1x8x16_d3)⟩, ⟨S32x1x8x48, (extractStridedSlice S32x1x8x48 ![0, 0, 0, 16] y slices_S32x1x8x64_S32x1x8x48_0_0_0_16)⟩] concatenates_S32x1x8x16_S32x1x8x48_S32x1x8x64_d3

theorem rotated_at (y : FVec Ideal S32x1x8x64 .f32) (cs sn : FVec Ideal S32x1x8x8 .f32) (b : Fin 32) (f : Fin 512 → EReal) (cS sN : Fin 8 → EReal)
    (hy : ∀ (h : Fin 8) (e : Fin 64), y (ix4 b 0 h e) = f ⟨h.val * 64 + e.val, by omega⟩)
    (hc : ∀ h e : Fin 8, cs (ix4 b 0 h e) = cS e) (hs : ∀ h e : Fin 8, sn (ix4 b 0 h e) = sN e) (h : Fin 8) (e : Fin 64) :
    rotated y cs sn (ix4 b 0 h e) = Proj.rope cS sN f ⟨h.val * 64 + e.val, by omega⟩ := by
  rw [rope_at]
  pointwise [rotated]
  simp only [hy, hc, hs]

/-- The rotated, normed heads of the 512 lanes of `a`. -/
def headsOf (a : FVec Ideal S32x1x512 .f32) : FVec Ideal S32x1x8x64 .f32 := rotated (normed g a) (spread (Host.cos angles)) (spread (Host.sin angles))

theorem headsOf_at (a : FVec Ideal S32x1x512 .f32) (b : Fin 32) (h : Fin 8) (e : Fin 64) :
    headsOf g a (ix4 b 0 h e) = Proj.rope cosOf sinOf (headNorm (fun l => a (ix3 b 0 l)) (vecOf g)) ⟨h.val * 64 + e.val, by omega⟩ := by
  refine rotated_at _ _ _ b _ _ _ (normed_at g a b) (fun h e => ?_) (fun h e => ?_) h e
  · refine (spread_at _ b h e).trans ?_
    exact congrArg Ideal.cos (angles_at e)
  · refine (spread_at _ b h e).trans ?_
    exact congrArg Ideal.sin (angles_at e)

/-! ## The results -/

section layout
variable (v : FVec Ideal S32x1x512 .f32) (h : FVec Ideal S32x1x8x64 .f32) (u : FVec Ideal S32x1x2048 .f32)

theorem rows_eq (f : Fin 32 → Fin 512 → EReal) (hv : ∀ b l, v (ix3 b 0 l) = f b l) : shapeCast S32x512 v shapeCasts_S32x1x512_S32x512 = rowsArr f := by
  funext y
  obtain ⟨b, l, rfl⟩ : ∃ b l, y = ix2 b l := ⟨_, _, ValueIdx.eq_ix2 y⟩
  pointwise
  exact hv b l

theorem rows_heads_eq (f : Fin 32 → Fin 512 → EReal) (hh : ∀ b (k : Fin 8) (e : Fin 64), h (ix4 b 0 k e) = f b ⟨k.val * 64 + e.val, by omega⟩) :
    shapeCast S32x512 h shapeCasts_S32x1x8x64_S32x512 = rowsArr f := by
  funext y
  obtain ⟨b, l, rfl⟩ : ∃ b l, y = ix2 b l := ⟨_, _, ValueIdx.eq_ix2 y⟩
  pointwise
  refine (hh _ _ _).trans (congrArg (f b) (Fin.ext ?_))
  change l.val / 64 * 64 + l.val % 64 = l.val
  omega

theorem gates_eq (f : Fin 32 → Fin 512 → EReal) (hv : ∀ b l, v (ix3 b 0 l) = f b l) :
    truncf .bf16 (shapeCast S32x512 (mulf v (Host.divf (broadcastInDim S32x1x512 ![] bcast_S_S32x1x512 (constant S_ .f32 0x3F800000#32)) (addf (broadcastInDim S32x1x512 ![] bcast_S_S32x1x512 (constant S_ .f32 0x3F800000#32)) (Host.exp (Host.negf v))))) shapeCasts_S32x1x512_S32x512) bitsLt_bf16_f32
      = rowsArr fun b l => f b l * logistic (f b l) := by
  funext y
  obtain ⟨b, l, rfl⟩ : ∃ b l, y = ix2 b l := ⟨_, _, ValueIdx.eq_ix2 y⟩
  pointwise
  simp only [hv]
  rfl

theorem gatesM_eq (f : Fin 32 → Fin 2048 → EReal) (hu : ∀ b l, u (ix3 b 0 l) = f b l) :
    truncf .bf16 (shapeCast S32x2048 (Host.divf (broadcastInDim S32x1x2048 ![] bcast_S_S32x1x2048 (constant S_ .f32 0x3F800000#32)) (addf (broadcastInDim S32x1x2048 ![] bcast_S_S32x1x2048 (constant S_ .f32 0x3F800000#32)) (Host.exp (Host.negf (addf u (broadcastInDim S32x1x2048 ![0, 1, 2] bcast_S1x1x2048_S32x1x2048_0_1_2 (broadcastInDim S1x1x2048 ![2] bcast_S2048_S1x1x2048_2 bg))))))) shapeCasts_S32x1x2048_S32x2048) bitsLt_bf16_f32
      = rowsArr fun b k => logistic (f b k + bg (ix1 k)) := by
  funext y
  obtain ⟨b, l, rfl⟩ : ∃ b l, y = ix2 b l := ⟨_, _, ValueIdx.eq_ix2 y⟩
  pointwise
  simp only [hu]
  rfl
end layout

/-- Columns of the projected rows. -/
theorem cols_at (o n : ℕ) (hs) (ho : o + n ≤ 6144) (b : Fin 32) (l : Fin n) :
    extractStridedSlice ⟨3, ![32, 1, n]⟩ ![0, 0, o] (projected x ng w) hs (ix3 b 0 l) = lane (rowOf x b) (vecOf ng) (matOf w) ⟨o + l.val, by omega⟩ := by
  refine Eq.trans ?_ (projected_at x ng w b _)
  refine congrArg (projected x ng w) ?_
  funext a
  fin_cases a
  · exact Fin.ext (Nat.zero_add _)
  · rfl
  · rfl

theorem va_eq : shapeCast S32x512 (extractStridedSlice S32x1x512 ![0, 0, 1024] (projected x ng w) slices_S32x1x6144_S32x1x512_0_0_1024) shapeCasts_S32x1x512_S32x512
    = rowsArr (laneAt x ng w 1024 (by decide)) := rows_eq _ _ fun b l => cols_at x ng w 1024 512 _ (by decide) b l
theorem kb_eq : shapeCast S32x512 (extractStridedSlice S32x1x512 ![0, 0, 2560] (projected x ng w) slices_S32x1x6144_S32x1x512_0_0_2560) shapeCasts_S32x1x512_S32x512
    = rowsArr (laneAt x ng w 2560 (by decide)) := rows_eq _ _ fun b l => cols_at x ng w 2560 512 _ (by decide) b l
theorem vb_eq : shapeCast S32x512 (extractStridedSlice S32x1x512 ![0, 0, 3072] (projected x ng w) slices_S32x1x6144_S32x1x512_0_0_3072) shapeCasts_S32x1x512_S32x512
    = rowsArr (laneAt x ng w 3072 (by decide)) := rows_eq _ _ fun b l => cols_at x ng w 3072 512 _ (by decide) b l
theorem qb_eq : shapeCast S32x512 (mulf (extractStridedSlice S32x1x512 ![0, 0, 2048] (projected x ng w) slices_S32x1x6144_S32x1x512_0_0_2048) (broadcastInDim S32x1x512 ![] bcast_S_S32x1x512 (constant S_ .f32 0x3E000000#32))) shapeCasts_S32x1x512_S32x512
    = rowsArr fun b l => laneAt x ng w 2048 (by decide) b l * Ideal.ofBits .f32 1040187392#32 :=
  rows_eq _ _ fun b l => congrArg (· * Ideal.ofBits .f32 1040187392#32) (cols_at x ng w 2048 512 slices_S32x1x6144_S32x1x512_0_0_2048 (by decide) b l)
theorem gateA_eq : truncf .bf16 (shapeCast S32x512 (mulf (extractStridedSlice S32x1x512 ![0, 0, 1536] (projected x ng w) slices_S32x1x6144_S32x1x512_0_0_1536) (Host.divf (broadcastInDim S32x1x512 ![] bcast_S_S32x1x512 (constant S_ .f32 0x3F800000#32)) (addf (broadcastInDim S32x1x512 ![] bcast_S_S32x1x512 (constant S_ .f32 0x3F800000#32)) (Host.exp (Host.negf (extractStridedSlice S32x1x512 ![0, 0, 1536] (projected x ng w) slices_S32x1x6144_S32x1x512_0_0_1536)))))) shapeCasts_S32x1x512_S32x512) bitsLt_bf16_f32
    = rowsArr fun b l => laneAt x ng w 1536 (by decide) b l * logistic (laneAt x ng w 1536 (by decide) b l) := gates_eq _ _ fun b l => cols_at x ng w 1536 512 _ (by decide) b l
theorem gateB_eq : truncf .bf16 (shapeCast S32x512 (mulf (extractStridedSlice S32x1x512 ![0, 0, 3584] (projected x ng w) slices_S32x1x6144_S32x1x512_0_0_3584) (Host.divf (broadcastInDim S32x1x512 ![] bcast_S_S32x1x512 (constant S_ .f32 0x3F800000#32)) (addf (broadcastInDim S32x1x512 ![] bcast_S_S32x1x512 (constant S_ .f32 0x3F800000#32)) (Host.exp (Host.negf (extractStridedSlice S32x1x512 ![0, 0, 3584] (projected x ng w) slices_S32x1x6144_S32x1x512_0_0_3584)))))) shapeCasts_S32x1x512_S32x512) bitsLt_bf16_f32
    = rowsArr fun b l => laneAt x ng w 3584 (by decide) b l * logistic (laneAt x ng w 3584 (by decide) b l) := gates_eq _ _ fun b l => cols_at x ng w 3584 512 _ (by decide) b l
theorem gateM_eq : truncf .bf16 (shapeCast S32x2048 (Host.divf (broadcastInDim S32x1x2048 ![] bcast_S_S32x1x2048 (constant S_ .f32 0x3F800000#32)) (addf (broadcastInDim S32x1x2048 ![] bcast_S_S32x1x2048 (constant S_ .f32 0x3F800000#32)) (Host.exp (Host.negf (addf (extractStridedSlice S32x1x2048 ![0, 0, 4096] (projected x ng w) slices_S32x1x6144_S32x1x2048_0_0_4096) (broadcastInDim S32x1x2048 ![0, 1, 2] bcast_S1x1x2048_S32x1x2048_0_1_2 (broadcastInDim S1x1x2048 ![2] bcast_S2048_S1x1x2048_2 bg))))))) shapeCasts_S32x1x2048_S32x2048) bitsLt_bf16_f32
    = rowsArr (gateAt x ng w bg) := gatesM_eq bg _ _ fun b l => cols_at x ng w 4096 2048 _ (by decide) b l

theorem heads_eq (o : ℕ) (hs) (ho : o + 512 ≤ 6144) (b : Fin 32) (k : Fin 8) (e : Fin 64) :
    headsOf g (extractStridedSlice S32x1x512 ![0, 0, o] (projected x ng w) hs) (ix4 b 0 k e) = headAt x ng w g o ho b ⟨k.val * 64 + e.val, by omega⟩ := by
  refine (headsOf_at g _ b k e).trans ?_
  rw [show (fun l : Fin 512 => extractStridedSlice S32x1x512 ![0, 0, o] (projected x ng w) hs (ix3 b 0 l)) = lanes (rowOf x b) (vecOf ng) (matOf w) o ho from
    funext fun l => cols_at x ng w o 512 hs ho b l]
  rfl

variable (m : (ℓ : Loc nD τ sig) → Buf (Elt Ideal) ℓ) (c : Dev nD)

theorem qa_eq : res_main_v118 m c = rowsArr fun b l => headAt (m (c.tc.loc main_arg0)) (m (c.tc.loc main_arg1)) (m (c.tc.loc main_arg2)) (m (c.tc.loc main_arg4)) 0 (by decide) b l * Ideal.ofBits .f32 1040187392#32 := by
  refine Eq.trans (b := shapeCast S32x512 (mulf (headsOf (m (c.tc.loc main_arg4)) (extractStridedSlice S32x1x512 ![0, 0, 0] (projected (m (c.tc.loc main_arg0)) (m (c.tc.loc main_arg1)) (m (c.tc.loc main_arg2))) slices_S32x1x6144_S32x1x512_0_0_0)) (broadcastInDim S32x1x8x64 ![] bcast_S_S32x1x8x64 (constant S_ .f32 0x3E000000#32))) shapeCasts_S32x1x8x64_S32x512) ?_ ?_
  · unfold res_main_v118
    rfl
  · exact rows_heads_eq _ _ fun b k e => congrArg (· * Ideal.ofBits .f32 1040187392#32) (heads_eq _ _ _ _ 0 slices_S32x1x6144_S32x1x512_0_0_0 (by decide) b k e)

theorem ka_eq : res_main_v119 m c = rowsArr (headAt (m (c.tc.loc main_arg0)) (m (c.tc.loc main_arg1)) (m (c.tc.loc main_arg2)) (m (c.tc.loc main_arg5)) 512 (by decide)) := by
  refine Eq.trans (b := shapeCast S32x512 (headsOf (m (c.tc.loc main_arg5)) (extractStridedSlice S32x1x512 ![0, 0, 512] (projected (m (c.tc.loc main_arg0)) (m (c.tc.loc main_arg1)) (m (c.tc.loc main_arg2))) slices_S32x1x6144_S32x1x512_0_0_512)) shapeCasts_S32x1x8x64_S32x512) ?_ ?_
  · unfold res_main_v119
    rfl
  · exact rows_heads_eq _ _ fun b k e => heads_eq _ _ _ _ 512 slices_S32x1x6144_S32x1x512_0_0_512 (by decide) b k e

end Cert.Proof.ProjStep.Ref
-- ==== Proof.Step.Proj.lean ====
/-
  The decoding step's projection: both runs leave the nine arrays that Math defines, and the frames.
-/
module

public import proofs.«01_k».proof.Proof.Step.Value
public import proofs.«01_k».proof.Proof.Step.Reference
public import proofs.«01_k».proof.Proof.Gen.Kernel4
public import proofs.«01_k».proof.Defs

@[expose] public section

set_option maxHeartbeats 4000000

noncomputable section

namespace Cert.Proof.ProjStep

open Idealize.ShloMosaic Idealize.ShloMosaic.TcCoe Idealize.SL.Sem
open Cert.Proof.Proj (logistic)

open Cert.Kernel4Ideal in
theorem algebraic : @algebraic_Kernel4Ideal_Reference4Ideal Kernel4Ideal.Gen.facts Reference4Ideal.Gen.facts := by
  intro m g m' g' _ hargs
  refine ⟨fun c => rowsArr fun b l => headAt (m (c.tc.loc main_arg0)) (m (c.tc.loc main_arg1)) (m (c.tc.loc main_arg2)) (m (c.tc.loc main_arg4)) 0 (by decide) b l * Ideal.ofBits .f32 1040187392#32,
    fun c => rowsArr (headAt (m (c.tc.loc main_arg0)) (m (c.tc.loc main_arg1)) (m (c.tc.loc main_arg2)) (m (c.tc.loc main_arg5)) 512 (by decide)),
    fun c => rowsArr (laneAt (m (c.tc.loc main_arg0)) (m (c.tc.loc main_arg1)) (m (c.tc.loc main_arg2)) 1024 (by decide)),
    fun c => rowsArr fun b l => laneAt (m (c.tc.loc main_arg0)) (m (c.tc.loc main_arg1)) (m (c.tc.loc main_arg2)) 2048 (by decide) b l * Ideal.ofBits .f32 1040187392#32,
    fun c => rowsArr (laneAt (m (c.tc.loc main_arg0)) (m (c.tc.loc main_arg1)) (m (c.tc.loc main_arg2)) 2560 (by decide)),
    fun c => rowsArr (laneAt (m (c.tc.loc main_arg0)) (m (c.tc.loc main_arg1)) (m (c.tc.loc main_arg2)) 3072 (by decide)),
    fun c => rowsArr fun b l => laneAt (m (c.tc.loc main_arg0)) (m (c.tc.loc main_arg1)) (m (c.tc.loc main_arg2)) 1536 (by decide) b l * Proj.logistic (laneAt (m (c.tc.loc main_arg0)) (m (c.tc.loc main_arg1)) (m (c.tc.loc main_arg2)) 1536 (by decide) b l),
    fun c => rowsArr fun b l => laneAt (m (c.tc.loc main_arg0)) (m (c.tc.loc main_arg1)) (m (c.tc.loc main_arg2)) 3584 (by decide) b l * Proj.logistic (laneAt (m (c.tc.loc main_arg0)) (m (c.tc.loc main_arg1)) (m (c.tc.loc main_arg2)) 3584 (by decide) b l),
    fun c => rowsArr (gateAt (m (c.tc.loc main_arg0)) (m (c.tc.loc main_arg1)) (m (c.tc.loc main_arg2)) (m (c.tc.loc main_arg3))),
    ?_, ?_⟩
  · refine (θ_run _ _ _).mono (fun r h c => ?_) (Kernel4Ideal.Value.run_blocks m g)
    obtain ⟨r0, r1, r2, r3, r4, r5, r6, r7, r8, ra⟩ := h c
    exact ⟨r0.trans (array_10 m c), r1.trans (array_11 m c), r2.trans (array_12 m c), r3.trans (array_13 m c), r4.trans (array_14 m c),
      r5.trans (array_15 m c), r6.trans (array_16 m c), r7.trans (array_17 m c), r8.trans (array_18 m c), ra⟩
  · refine (θ_run _ _ _).mono (fun r h c => ?_) (Reference4Ideal.Value.run m' g')
    obtain ⟨h0, h1, h2, h3, h4, h5⟩ := hargs c
    obtain ⟨r0, r1, r2, r3, r4, r5, r6, r7, r8, ra⟩ := h c
    beta_reduce
    rw [← h0, ← h1, ← h2, ← h3, ← h4, ← h5]
    exact ⟨r0.trans (Ref.qa_eq m' c), r1.trans (Ref.ka_eq m' c), r2.trans (Ref.va_eq _ _ _), r3.trans (Ref.qb_eq _ _ _), r4.trans (Ref.kb_eq _ _ _),
      r5.trans (Ref.vb_eq _ _ _), r6.trans (Ref.gateA_eq _ _ _), r7.trans (Ref.gateB_eq _ _ _), r8.trans (Ref.gateM_eq _ _ _ _), ra⟩

/-! ## The frames: the kernel and its ideal version have the same text, so both are the one run's -/

attribute [local instance] Kernel4.Gen.facts Kernel4Ideal.Gen.facts in
/-- The two body tables are one. -/
theorem bodies : Kernel4.defs₀ (F := Bits) = Kernel4Ideal.defs₀ (F := Bits) := by
  unfold Kernel4.defs₀ Kernel4Ideal.defs₀
  refine congrArg Defs.onTc (funext fun l => ?_)
  match l with
  | 0 => exact funext fun (t, s) => rfl

attribute [local instance] Kernel4.Gen.facts Kernel4Ideal.Gen.facts in
theorem tables : Kernel4.defs (F := Bits) = Kernel4Ideal.defs (F := Bits) := congrArg (Pipeline.defs Kernel4Ideal.pcfgs) bodies

theorem frame_kernel : @quiescent_Kernel4 Kernel4.Gen.facts := fun m ρ _ => by
  rw [tables]
  exact Kernel4Ideal.Gen.frame (F := Bits) m ρ

theorem frame_kernelIdeal : @quiescent_Kernel4Ideal Kernel4Ideal.Gen.facts := fun m ρ _ => Kernel4Ideal.Gen.frame (F := Ideal) m ρ

theorem frame_reference : @quiescent_Reference4Ideal Reference4Ideal.Gen.facts := fun m ρ _ =>
  (θ_run _ _ _).mono (fun r h => ⟨fun c => (h c).2.2.2.2.2.2.2.2.2, sem_eq_zero_of_no_sems (by decide) r.2⟩) (Reference4Ideal.Value.run (F := Ideal) m ρ)

end Cert.Proof.ProjStep
-- ==== Proof.Step.Merge.lean ====
/-
  The merge of the decoding step, one new row of each of 32 sequences: the same formula of a row as the prompt's merge.
-/
module

public import proofs.«01_k».proof.Proof.Gen.Kernel5
public import proofs.«01_k».proof.Proof.Gen.Kernel5Ideal.Value
public import proofs.«01_k».proof.Proof.Gen.Reference5Ideal.Run
public import proofs.«01_k».proof.Proof.Merge.Reference
public import proofs.«01_k».proof.Defs
public import Idealize.ShloMosaic.Lib.Pointwise
public import Idealize.ShloMosaic.Lib.StableHlo.ReadAt
public import Idealize.ShloMosaic.Lib.Pipeline.ValueKit

@[expose] public section

noncomputable section

namespace Cert.Proof.MergeStep

open Idealize.ShloMosaic Idealize.ShloMosaic.Pointwise Idealize.ShloMosaic.TcCoe Idealize.SL.Sem Finset
open Cert.Proof.Merge (row)

/-- An array of extended reals. -/
abbrev Arr (s : Shape) := s.Idx → EReal

/-- The result as an array of the argument arrays. -/
def result (x : Arr ⟨3, ![32, 1, 1024]⟩) (oa ob sga sgb : Arr ⟨3, ![32, 1, 512]⟩) (g : Arr ⟨3, ![32, 1, 2048]⟩)
    (wa wb : Arr ⟨2, ![512, 1024]⟩) (wo : Arr ⟨2, ![1024, 1024]⟩) : Arr ⟨2, ![32, 1024]⟩ := fun y =>
  row (fun d => x (ix3 (y 0) 0 d)) (fun j => oa (ix3 (y 0) 0 j)) (fun j => ob (ix3 (y 0) 0 j)) (fun j => sga (ix3 (y 0) 0 j))
    (fun j => sgb (ix3 (y 0) 0 j)) (fun k => g (ix3 (y 0) 0 k)) (fun j k => wa (ix2 j k)) (fun j k => wb (ix2 j k)) (fun k d => wo (ix2 k d)) (y 1)

section kernel
open Cert.Kernel5Ideal Cert.Kernel5Ideal.Gen

theorem pay_at (oa : Vec Ideal S32x512 .f32) (sga : Vec Ideal S32x512 .bf16) (wa : Vec Ideal S512x1024 .bf16) (ob : Vec Ideal S32x512 .f32) (sgb : Vec Ideal S32x512 .bf16)
    (wb : Vec Ideal S512x1024 .bf16) (g : Vec Ideal S32x2048 .bf16) (x : Vec Ideal S32x1024 .f32) (wo : Vec Ideal S1024x1024 .bf16)
    (r : Fin 32) (d : Fin 1024) :
    k0_pay1 oa sga wa ob sgb wb g x wo (ix2 r d)
      = row (fun d => x (ix2 r d)) (fun j => oa (ix2 r j)) (fun j => ob (ix2 r j)) (fun j => sga (ix2 r j)) (fun j => sgb (ix2 r j))
          (fun k => g (ix2 r k)) (fun j k => wa (ix2 j k)) (fun j k => wb (ix2 j k)) (fun k d => wo (ix2 k d)) d := by
  pointwise [k0_pay1]
  rfl

variable (m : (ℓ : Loc nD τ sig) → Buf (Elt Ideal) ℓ) (c : Dev nD) (t : Fin cfg0.N)

theorem index_0 : ∀ t : Fin cfg0.N, win0_0.index t = ![0, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![0, 0] := (by decide +kernel : ∀ t : Fin grid0.N, _)
theorem index_3 : ∀ t : Fin cfg0.N, win0_3.index t = ![0, 0] := (by decide +kernel : ∀ t : Fin grid0.N, _)
theorem index_4 : ∀ t : Fin cfg0.N, win0_4.index t = ![0, 0] := (by decide +kernel : ∀ t : Fin grid0.N, _)
theorem index_5 : ∀ t : Fin cfg0.N, win0_5.index t = ![0, 0] := (by decide +kernel : ∀ t : Fin grid0.N, _)
theorem index_6 : ∀ t : Fin cfg0.N, win0_6.index t = ![0, 0] := (by decide +kernel : ∀ t : Fin grid0.N, _)
theorem index_7 : ∀ t : Fin cfg0.N, win0_7.index t = ![0, 0] := (by decide +kernel : ∀ t : Fin grid0.N, _)
theorem index_8 : ∀ t : Fin cfg0.N, win0_8.index t = ![0, 0] := (by decide +kernel : ∀ t : Fin grid0.N, _)
theorem index_9 : ∀ t : Fin cfg0.N, win0_9.index t = ![0, 0] := (by decide +kernel : ∀ t : Fin grid0.N, _)

/-! Each operand's block is its whole array, which the host takes from an argument. -/

theorem x_in (r : Fin 32) (d : Fin 1024) : iblk m c 0 t (ix2 r d) = (m (c.tc.loc main_arg0) (ix3 r 0 d) : EReal) := by
  refine Eq.trans (b := V m c main_v3 (ix2 r d)) ?_ ?_
  · blk_simp [iblk]
    refine congrArg (V m c main_v3) ?_
    blk_ext [index_0 t]
  · unfold V
    after_reads_at
theorem oa_in (r : Fin 32) (d : Fin 512) : iblk m c 1 t (ix2 r d) = (m (c.tc.loc main_arg1) (ix3 r 0 d) : EReal) := by
  refine Eq.trans (b := V m c main_v4 (ix2 r d)) ?_ ?_
  · blk_simp [iblk]
    refine congrArg (V m c main_v4) ?_
    blk_ext [index_1 t]
  · unfold V
    after_reads_at
theorem ob_in (r : Fin 32) (d : Fin 512) : iblk m c 2 t (ix2 r d) = (m (c.tc.loc main_arg2) (ix3 r 0 d) : EReal) := by
  refine Eq.trans (b := V m c main_v5 (ix2 r d)) ?_ ?_
  · blk_simp [iblk]
    refine congrArg (V m c main_v5) ?_
    blk_ext [index_2 t]
  · unfold V
    after_reads_at
theorem sga_in (r : Fin 32) (d : Fin 512) : iblk m c 3 t (ix2 r d) = (m (c.tc.loc main_arg3) (ix3 r 0 d) : EReal) := by
  refine Eq.trans (b := V m c main_v7 (ix2 r d)) ?_ ?_
  · blk_simp [iblk]
    refine congrArg (V m c main_v7) ?_
    blk_ext [index_3 t]
  · unfold V
    after_reads_at
theorem sgb_in (r : Fin 32) (d : Fin 512) : iblk m c 4 t (ix2 r d) = (m (c.tc.loc main_arg4) (ix3 r 0 d) : EReal) := by
  refine Eq.trans (b := V m c main_v9 (ix2 r d)) ?_ ?_
  · blk_simp [iblk]
    refine congrArg (V m c main_v9) ?_
    blk_ext [index_4 t]
  · unfold V
    after_reads_at
theorem g_in (r : Fin 32) (d : Fin 2048) : iblk m c 5 t (ix2 r d) = (m (c.tc.loc main_arg5) (ix3 r 0 d) : EReal) := by
  refine Eq.trans (b := V m c main_v11 (ix2 r d)) ?_ ?_
  · blk_simp [iblk]
    refine congrArg (V m c main_v11) ?_
    blk_ext [index_5 t]
  · unfold V
    after_reads_at
theorem wa_in (r : Fin 512) (d : Fin 1024) : iblk m c 6 t (ix2 r d) = (m (c.tc.loc main_arg6) (ix2 r d) : EReal) := by
  refine Eq.trans (b := V m c main_v0 (ix2 r d)) ?_ ?_
  · blk_simp [iblk]
    refine congrArg (V m c main_v0) ?_
    blk_ext [index_6 t]
  · unfold V
    after_reads_at
theorem wb_in (r : Fin 512) (d : Fin 1024) : iblk m c 7 t (ix2 r d) = (m (c.tc.loc main_arg7) (ix2 r d) : EReal) := by
  refine Eq.trans (b := V m c main_v1 (ix2 r d)) ?_ ?_
  · blk_simp [iblk]
    refine congrArg (V m c main_v1) ?_
    blk_ext [index_7 t]
  · unfold V
    after_reads_at
theorem wo_in (r : Fin 1024) (d : Fin 1024) : iblk m c 8 t (ix2 r d) = (m (c.tc.loc main_arg8) (ix2 r d) : EReal) := by
  refine Eq.trans (b := V m c main_v2 (ix2 r d)) ?_ ?_
  · blk_simp [iblk]
    refine congrArg (V m c main_v2) ?_
    blk_ext [index_8 t]
  · unfold V
    after_reads_at

/-- The result array. -/
theorem final_array : (dats m 0 c).arrAt 9 cfg0.N = result (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) := by
  refine (dats m 0 c).arrAt_eq_of_covers 9 _ (by decide +kernel) fun t hf y => ?_
  blk_simp
  rw [after0_9]
  frame_out
  obtain ⟨r, hr⟩ : ∃ r : Fin 32, y 0 = r := ⟨_, rfl⟩
  obtain ⟨d, hd⟩ : ∃ d : Fin 1024, y 1 = d := ⟨_, rfl⟩
  have hy : y = ix2 r d := (ValueIdx.eq_ix2 y).trans (by rw [hr, hd]; rfl)
  rw [hy]
  refine (pay_at (iblk m c 1 t) (iblk m c 3 t) (iblk m c 6 t) (iblk m c 2 t) (iblk m c 4 t) (iblk m c 7 t) (iblk m c 5 t) (iblk m c 0 t) (iblk m c 8 t) r d).trans ?_
  simp only [x_in, oa_in, ob_in, sga_in, sgb_in, g_in, wa_in, wb_in, wo_in]
  refine Eq.symm ((congrArg (result _ _ _ _ _ _ _ _ _) (?_ : _ = ix2 r d)).trans rfl)
  blk_ext [index_9 t]

end kernel

section reference
open Cert.Reference5Ideal Cert.Reference5Ideal.Gen

/-- The reference's result. -/
def refMerge (x : Vec Ideal S32x1x1024 .f32) (oa ob sga sgb : Vec Ideal S32x1x512 .f32) (g : Vec Ideal S32x1x2048 .f32)
    (wa wb : Vec Ideal S512x1024 .f32) (wo : Vec Ideal S1024x1024 .f32) : Vec Ideal S32x1024 .f32 :=
  shapeCast _ (addf x (Host.dotGeneral (F := Ideal) (φ₁ := .f32) (φ₂ := .f32) dot_S32x1x1024_S1024x1024_S32x1x1024_2_0_01_1_n_n none (addf (mulf (shapeCast _ (extractStridedSlice S32x1x1x1024 ![0, 0, 0, 0] (shapeCast _ g shapeCasts_S32x1x2048_S32x1x2x1024) slices_S32x1x2x1024_S32x1x1x1024_0_0_0_0) shapeCasts_S32x1x1x1024_S32x1x1024) (Host.dotGeneral (F := Ideal) (φ₁ := .f32) (φ₂ := .f32) dot_S32x1x512_S512x1024_S32x1x1024_2_0_01_1_n_n none (mulf oa sga) wa)) (mulf (shapeCast _ (extractStridedSlice S32x1x1x1024 ![0, 0, 1, 0] (shapeCast _ g shapeCasts_S32x1x2048_S32x1x2x1024) slices_S32x1x2x1024_S32x1x1x1024_0_0_1_0) shapeCasts_S32x1x1x1024_S32x1x1024) (Host.dotGeneral (F := Ideal) (φ₁ := .f32) (φ₂ := .f32) dot_S32x1x512_S512x1024_S32x1x1024_2_0_01_1_n_n none (mulf ob sgb) wb))) wo)) shapeCasts_S32x1x1024_S32x1024

theorem refMerge_eq (x : Vec Ideal S32x1x1024 .f32) (oa ob sga sgb : Vec Ideal S32x1x512 .f32) (g : Vec Ideal S32x1x2048 .f32)
    (wa wb : Vec Ideal S512x1024 .f32) (wo : Vec Ideal S1024x1024 .f32) : refMerge x oa ob sga sgb g wa wb wo = result x oa ob sga sgb g wa wb wo := by
  funext y
  rw [ValueIdx.eq_ix2 y]
  pointwise [refMerge]
  rfl

end reference

theorem algebraic : @algebraic_Kernel5Ideal_Reference5Ideal Kernel5Ideal.Gen.facts Reference5Ideal.Gen.facts := by
  intro m g m' g' _ hargs
  refine ⟨fun c => result (m (c.tc.loc Kernel5Ideal.main_arg0)) (m (c.tc.loc Kernel5Ideal.main_arg1)) (m (c.tc.loc Kernel5Ideal.main_arg2)) (m (c.tc.loc Kernel5Ideal.main_arg3)) (m (c.tc.loc Kernel5Ideal.main_arg4)) (m (c.tc.loc Kernel5Ideal.main_arg5)) (m (c.tc.loc Kernel5Ideal.main_arg6)) (m (c.tc.loc Kernel5Ideal.main_arg7)) (m (c.tc.loc Kernel5Ideal.main_arg8)), ?_, ?_⟩
  · exact (θ_run _ _ _).mono (fun r h c => ⟨(h c).1.trans (final_array m c), (h c).2⟩) (Kernel5Ideal.Value.run_blocks m g)
  · refine (θ_run _ _ _).mono (fun r h c => ⟨(h c).1.trans ?_, (h c).2⟩) (Reference5Ideal.Value.run m' g')
    obtain ⟨h0, h1, h2, h3, h4, h5, h6, h7, h8⟩ := hargs c
    rw [h0, h1, h2, h3, h4, h5, h6, h7, h8]
    exact refMerge_eq ..

/-! ## The frames: the kernel and its ideal version have the same text, so both are the one run's -/

attribute [local instance] Kernel5.Gen.facts Kernel5Ideal.Gen.facts in
/-- The two body tables are one. -/
theorem bodies : Kernel5.defs₀ (F := Bits) = Kernel5Ideal.defs₀ (F := Bits) := by
  unfold Kernel5.defs₀ Kernel5Ideal.defs₀
  refine congrArg Defs.onTc (funext fun l => ?_)
  match l with
  | 0 => exact funext fun (t, s) => rfl

attribute [local instance] Kernel5.Gen.facts Kernel5Ideal.Gen.facts in
theorem tables : Kernel5.defs (F := Bits) = Kernel5Ideal.defs (F := Bits) := congrArg (Pipeline.defs Kernel5Ideal.pcfgs) bodies

theorem frame_kernel : @quiescent_Kernel5 Kernel5.Gen.facts := fun m ρ _ => by
  rw [tables]
  exact Kernel5Ideal.Gen.frame (F := Bits) m ρ

theorem frame_kernelIdeal : @quiescent_Kernel5Ideal Kernel5Ideal.Gen.facts := fun m ρ _ => Kernel5Ideal.Gen.frame (F := Ideal) m ρ

theorem frame_reference : @quiescent_Reference5Ideal Reference5Ideal.Gen.facts := fun m ρ _ =>
  (θ_run _ _ _).mono (fun r h => ⟨fun c => (h c).2, sem_eq_zero_of_no_sems (by decide) r.2⟩) (Reference5Ideal.Value.run (F := Ideal) m ρ)

end Cert.Proof.MergeStep
-- ==== Proof.lean ====
/- The proof of the certificate's claim: the frames, what was rewritten, and the two programs' equality, assembled. -/
module

public import proofs.«01_k».proof.Defs
public import proofs.«01_k».proof.Proof.Frames
public import proofs.«01_k».proof.Proof.Value.Algebraic
public import proofs.«01_k».proof.Proof.Proj.Frames
public import proofs.«01_k».proof.Proof.Proj.Algebraic
public import proofs.«01_k».proof.Proof.Merge.Frames
public import proofs.«01_k».proof.Proof.Step.Proj
public import proofs.«01_k».proof.Proof.Step.Merge
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.Kernel3
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, SB.preFacts,
  SB.frame_kernel, SB.frame_kernelIdeal, fun m ρ _ => SB.frame_kernelIdeal m ρ trivial,
  SB.frame_reference, fun m ρ _ => SB.frame_reference m ρ trivial,
  Proj.frame_kernel, Proj.frame_kernelIdeal, Proj.frame_reference,
  Merge.frame_kernel, Merge.frame_kernelIdeal, Merge.frame_reference,
  ProjStep.frame_kernel, ProjStep.frame_kernelIdeal, ProjStep.frame_reference,
  MergeStep.frame_kernel, MergeStep.frame_kernelIdeal, MergeStep.frame_reference,
  SB.preserves, SB.algebraic, trivial, Proj.algebraic, trivial, Merge.algebraic,
  trivial, ProjStep.algebraic, trivial, MergeStep.algebraic⟩

end Cert.Proof

end
